-- ==== Defs.lean ====
def Pre_TMlp (m : (ℓ : Loc Cert.TMlp.nD Cert.TMlp.τ Cert.TMlp.sig) → Buf (Elt Bits) ℓ) : Prop :=
  True

def Pre_TMlpIdeal (m : (ℓ : Loc Cert.TMlpIdeal.nD Cert.TMlpIdeal.τ Cert.TMlpIdeal.sig) → Buf (Elt Ideal) ℓ) : Prop :=
  True

def Pre_TRefIdeal (m : (ℓ : Loc Cert.TRefIdeal.nD Cert.TRefIdeal.τ Cert.TRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MRefIdeal (m : (ℓ : Loc Cert.MRefIdeal.nD Cert.MRefIdeal.τ Cert.MRefIdeal.sig) → Buf (Elt Ideal) ℓ) : Prop :=
  True

def quiescent_TMlp [hTMlp : Cert.TMlp.Facts] : Prop :=
  ∀ (m : (ℓ : Loc Cert.TMlp.nD Cert.TMlp.τ Cert.TMlp.sig) → Buf (Elt Bits) ℓ) (g : Dev Cert.TMlp.nD → PrngReg), Pre_TMlp m →
    θ_run (Cert.TMlp.defs (F := Bits)) (onTc (τ := Cert.TMlp.τ) (Cert.TMlp.main (F := Bits))) ⟨m, fun _ => 0, g⟩ (fun r => (∀ c : Dev Cert.TMlp.nD,
      r.2.mem ((c.tc : Thread Cert.TMlp.nD Cert.TMlp.τ).loc Cert.TMlp.main_arg0) = m ((c.tc : Thread Cert.TMlp.nD Cert.TMlp.τ).loc Cert.TMlp.main_arg0)
      ∧ r.2.mem ((c.tc : Thread Cert.TMlp.nD Cert.TMlp.τ).loc Cert.TMlp.main_arg1) = m ((c.tc : Thread Cert.TMlp.nD Cert.TMlp.τ).loc Cert.TMlp.main_arg1)
      ∧ r.2.mem ((c.tc : Thread Cert.TMlp.nD Cert.TMlp.τ).loc Cert.TMlp.main_arg2) = m ((c.tc : Thread Cert.TMlp.nD Cert.TMlp.τ).loc Cert.TMlp.main_arg2)
      ∧ r.2.mem ((c.tc : Thread Cert.TMlp.nD Cert.TMlp.τ).loc Cert.TMlp.main_arg3) = m ((c.tc : Thread Cert.TMlp.nD Cert.TMlp.τ).loc Cert.TMlp.main_arg3)
      ∧ r.2.mem ((c.tc : Thread Cert.TMlp.nD Cert.TMlp.τ).loc Cert.TMlp.main_arg4) = m ((c.tc : Thread Cert.TMlp.nD Cert.TMlp.τ).loc Cert.TMlp.main_arg4)
      ∧ r.2.mem ((c.tc : Thread Cert.TMlp.nD Cert.TMlp.τ).loc Cert.TMlp.main_arg5) = m ((c.tc : Thread Cert.TMlp.nD Cert.TMlp.τ).loc Cert.TMlp.main_arg5)
      ∧ r.2.mem ((c.tc : Thread Cert.TMlp.nD Cert.TMlp.τ).loc Cert.TMlp.main_arg6) = m ((c.tc : Thread Cert.TMlp.nD Cert.TMlp.τ).loc Cert.TMlp.main_arg6)
      ∧ r.2.mem ((c.tc : Thread Cert.TMlp.nD Cert.TMlp.τ).loc Cert.TMlp.main_arg7) = m ((c.tc : Thread Cert.TMlp.nD Cert.TMlp.τ).loc Cert.TMlp.main_arg7)
      ∧ r.2.mem ((c.tc : Thread Cert.TMlp.nD Cert.TMlp.τ).loc Cert.TMlp.main_arg8) = m ((c.tc : Thread Cert.TMlp.nD Cert.TMlp.τ).loc Cert.TMlp.main_arg8)
      ∧ r.2.mem ((c.tc : Thread Cert.TMlp.nD Cert.TMlp.τ).loc Cert.TMlp.main_arg9) = m ((c.tc : Thread Cert.TMlp.nD Cert.TMlp.τ).loc Cert.TMlp.main_arg9)
      ∧ r.2.mem ((c.tc : Thread Cert.TMlp.nD Cert.TMlp.τ).loc Cert.TMlp.main_arg10) = m ((c.tc : Thread Cert.TMlp.nD Cert.TMlp.τ).loc Cert.TMlp.main_arg10)
      ∧ r.2.mem ((c.tc : Thread Cert.TMlp.nD Cert.TMlp.τ).loc Cert.TMlp.main_arg11) = m ((c.tc : Thread Cert.TMlp.nD Cert.TMlp.τ).loc Cert.TMlp.main_arg11))
      ∧ r.2.sem = fun _ => 0)

def quiescent_TMlpIdeal [hTMlpIdeal : Cert.TMlpIdeal.Facts] : Prop :=
  ∀ (m : (ℓ : Loc Cert.TMlpIdeal.nD Cert.TMlpIdeal.τ Cert.TMlpIdeal.sig) → Buf (Elt Ideal) ℓ) (g : Dev Cert.TMlpIdeal.nD → PrngReg), Pre_TMlpIdeal m →
    θ_run (Cert.TMlpIdeal.defs (F := Ideal)) (onTc (τ := Cert.TMlpIdeal.τ) (Cert.TMlpIdeal.main (F := Ideal))) ⟨m, fun _ => 0, g⟩ (fun r => (∀ c : Dev Cert.TMlpIdeal.nD,
      r.2.mem ((c.tc : Thread Cert.TMlpIdeal.nD Cert.TMlpIdeal.τ).loc Cert.TMlpIdeal.main_arg0) = m ((c.tc : Thread Cert.TMlpIdeal.nD Cert.TMlpIdeal.τ).loc Cert.TMlpIdeal.main_arg0)
      ∧ r.2.mem ((c.tc : Thread Cert.TMlpIdeal.nD Cert.TMlpIdeal.τ).loc Cert.TMlpIdeal.main_arg1) = m ((c.tc : Thread Cert.TMlpIdeal.nD Cert.TMlpIdeal.τ).loc Cert.TMlpIdeal.main_arg1)
      ∧ r.2.mem ((c.tc : Thread Cert.TMlpIdeal.nD Cert.TMlpIdeal.τ).loc Cert.TMlpIdeal.main_arg2) = m ((c.tc : Thread Cert.TMlpIdeal.nD Cert.TMlpIdeal.τ).loc Cert.TMlpIdeal.main_arg2)
      ∧ r.2.mem ((c.tc : Thread Cert.TMlpIdeal.nD Cert.TMlpIdeal.τ).loc Cert.TMlpIdeal.main_arg3) = m ((c.tc : Thread Cert.TMlpIdeal.nD Cert.TMlpIdeal.τ).loc Cert.TMlpIdeal.main_arg3)
      ∧ r.2.mem ((c.tc : Thread Cert.TMlpIdeal.nD Cert.TMlpIdeal.τ).loc Cert.TMlpIdeal.main_arg4) = m ((c.tc : Thread Cert.TMlpIdeal.nD Cert.TMlpIdeal.τ).loc Cert.TMlpIdeal.main_arg4)
      ∧ r.2.mem ((c.tc : Thread Cert.TMlpIdeal.nD Cert.TMlpIdeal.τ).loc Cert.TMlpIdeal.main_arg5) = m ((c.tc : Thread Cert.TMlpIdeal.nD Cert.TMlpIdeal.τ).loc Cert.TMlpIdeal.main_arg5)
      ∧ r.2.mem ((c.tc : Thread Cert.TMlpIdeal.nD Cert.TMlpIdeal.τ).loc Cert.TMlpIdeal.main_arg6) = m ((c.tc : Thread Cert.TMlpIdeal.nD Cert.TMlpIdeal.τ).loc Cert.TMlpIdeal.main_arg6)
      ∧ r.2.mem ((c.tc : Thread Cert.TMlpIdeal.nD Cert.TMlpIdeal.τ).loc Cert.TMlpIdeal.main_arg7) = m ((c.tc : Thread Cert.TMlpIdeal.nD Cert.TMlpIdeal.τ).loc Cert.TMlpIdeal.main_arg7)
      ∧ r.2.mem ((c.tc : Thread Cert.TMlpIdeal.nD Cert.TMlpIdeal.τ).loc Cert.TMlpIdeal.main_arg8) = m ((c.tc : Thread Cert.TMlpIdeal.nD Cert.TMlpIdeal.τ).loc Cert.TMlpIdeal.main_arg8)
      ∧ r.2.mem ((c.tc : Thread Cert.TMlpIdeal.nD Cert.TMlpIdeal.τ).loc Cert.TMlpIdeal.main_arg9) = m ((c.tc : Thread Cert.TMlpIdeal.nD Cert.TMlpIdeal.τ).loc Cert.TMlpIdeal.main_arg9)
      ∧ r.2.mem ((c.tc : Thread Cert.TMlpIdeal.nD Cert.TMlpIdeal.τ).loc Cert.TMlpIdeal.main_arg10) = m ((c.tc : Thread Cert.TMlpIdeal.nD Cert.TMlpIdeal.τ).loc Cert.TMlpIdeal.main_arg10)
      ∧ r.2.mem ((c.tc : Thread Cert.TMlpIdeal.nD Cert.TMlpIdeal.τ).loc Cert.TMlpIdeal.main_arg11) = m ((c.tc : Thread Cert.TMlpIdeal.nD Cert.TMlpIdeal.τ).loc Cert.TMlpIdeal.main_arg11))
      ∧ r.2.sem = fun _ => 0)

def quiescent_TRefIdeal [hTRefIdeal : Cert.TRefIdeal.Facts] : Prop :=
  ∀ (m : (ℓ : Loc Cert.TRefIdeal.nD Cert.TRefIdeal.τ Cert.TRefIdeal.sig) → Buf (Elt Ideal) ℓ) (g : Dev Cert.TRefIdeal.nD → PrngReg), Pre_TRefIdeal m →
    θ_run (Cert.TRefIdeal.defs (F := Ideal)) (onTc (τ := Cert.TRefIdeal.τ) (Cert.TRefIdeal.main (F := Ideal))) ⟨m, fun _ => 0, g⟩ (fun r => (∀ c : Dev Cert.TRefIdeal.nD,
      r.2.mem ((c.tc : Thread Cert.TRefIdeal.nD Cert.TRefIdeal.τ).loc Cert.TRefIdeal.main_arg0) = m ((c.tc : Thread Cert.TRefIdeal.nD Cert.TRefIdeal.τ).loc Cert.TRefIdeal.main_arg0)
      ∧ r.2.mem ((c.tc : Thread Cert.TRefIdeal.nD Cert.TRefIdeal.τ).loc Cert.TRefIdeal.main_arg1) = m ((c.tc : Thread Cert.TRefIdeal.nD Cert.TRefIdeal.τ).loc Cert.TRefIdeal.main_arg1)
      ∧ r.2.mem ((c.tc : Thread Cert.TRefIdeal.nD Cert.TRefIdeal.τ).loc Cert.TRefIdeal.main_arg2) = m ((c.tc : Thread Cert.TRefIdeal.nD Cert.TRefIdeal.τ).loc Cert.TRefIdeal.main_arg2)
      ∧ r.2.mem ((c.tc : Thread Cert.TRefIdeal.nD Cert.TRefIdeal.τ).loc Cert.TRefIdeal.main_arg3) = m ((c.tc : Thread Cert.TRefIdeal.nD Cert.TRefIdeal.τ).loc Cert.TRefIdeal.main_arg3)
      ∧ r.2.mem ((c.tc : Thread Cert.TRefIdeal.nD Cert.TRefIdeal.τ).loc Cert.TRefIdeal.main_arg4) = m ((c.tc : Thread Cert.TRefIdeal.nD Cert.TRefIdeal.τ).loc Cert.TRefIdeal.main_arg4)
      ∧ r.2.mem ((c.tc : Thread Cert.TRefIdeal.nD Cert.TRefIdeal.τ).loc Cert.TRefIdeal.main_arg5) = m ((c.tc : Thread Cert.TRefIdeal.nD Cert.TRefIdeal.τ).loc Cert.TRefIdeal.main_arg5)
      ∧ r.2.mem ((c.tc : Thread Cert.TRefIdeal.nD Cert.TRefIdeal.τ).loc Cert.TRefIdeal.main_arg6) = m ((c.tc : Thread Cert.TRefIdeal.nD Cert.TRefIdeal.τ).loc Cert.TRefIdeal.main_arg6)
      ∧ r.2.mem ((c.tc : Thread Cert.TRefIdeal.nD Cert.TRefIdeal.τ).loc Cert.TRefIdeal.main_arg7) = m ((c.tc : Thread Cert.TRefIdeal.nD Cert.TRefIdeal.τ).loc Cert.TRefIdeal.main_arg7)
      ∧ r.2.mem ((c.tc : Thread Cert.TRefIdeal.nD Cert.TRefIdeal.τ).loc Cert.TRefIdeal.main_arg8) = m ((c.tc : Thread Cert.TRefIdeal.nD Cert.TRefIdeal.τ).loc Cert.TRefIdeal.main_arg8)
      ∧ r.2.mem ((c.tc : Thread Cert.TRefIdeal.nD Cert.TRefIdeal.τ).loc Cert.TRefIdeal.main_arg9) = m ((c.tc : Thread Cert.TRefIdeal.nD Cert.TRefIdeal.τ).loc Cert.TRefIdeal.main_arg9)
      ∧ r.2.mem ((c.tc : Thread Cert.TRefIdeal.nD Cert.TRefIdeal.τ).loc Cert.TRefIdeal.main_arg10) = m ((c.tc : Thread Cert.TRefIdeal.nD Cert.TRefIdeal.τ).loc Cert.TRefIdeal.main_arg10)
      ∧ r.2.mem ((c.tc : Thread Cert.TRefIdeal.nD Cert.TRefIdeal.τ).loc Cert.TRefIdeal.main_arg11) = m ((c.tc : Thread Cert.TRefIdeal.nD Cert.TRefIdeal.τ).loc Cert.TRefIdeal.main_arg11))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13))
      ∧ r.2.sem = fun _ => 0)

def quiescent_MRefIdeal [hMRefIdeal : Cert.MRefIdeal.Facts] : Prop :=
  ∀ (m : (ℓ : Loc Cert.MRefIdeal.nD Cert.MRefIdeal.τ Cert.MRefIdeal.sig) → Buf (Elt Ideal) ℓ) (g : Dev Cert.MRefIdeal.nD → PrngReg), Pre_MRefIdeal m →
    θ_run (Cert.MRefIdeal.defs (F := Ideal)) (onTc (τ := Cert.MRefIdeal.τ) (Cert.MRefIdeal.main (F := Ideal))) ⟨m, fun _ => 0, g⟩ (fun r => (∀ c : Dev Cert.MRefIdeal.nD,
      r.2.mem ((c.tc : Thread Cert.MRefIdeal.nD Cert.MRefIdeal.τ).loc Cert.MRefIdeal.main_arg0) = m ((c.tc : Thread Cert.MRefIdeal.nD Cert.MRefIdeal.τ).loc Cert.MRefIdeal.main_arg0)
      ∧ r.2.mem ((c.tc : Thread Cert.MRefIdeal.nD Cert.MRefIdeal.τ).loc Cert.MRefIdeal.main_arg1) = m ((c.tc : Thread Cert.MRefIdeal.nD Cert.MRefIdeal.τ).loc Cert.MRefIdeal.main_arg1)
      ∧ r.2.mem ((c.tc : Thread Cert.MRefIdeal.nD Cert.MRefIdeal.τ).loc Cert.MRefIdeal.main_arg2) = m ((c.tc : Thread Cert.MRefIdeal.nD Cert.MRefIdeal.τ).loc Cert.MRefIdeal.main_arg2)
      ∧ r.2.mem ((c.tc : Thread Cert.MRefIdeal.nD Cert.MRefIdeal.τ).loc Cert.MRefIdeal.main_arg3) = m ((c.tc : Thread Cert.MRefIdeal.nD Cert.MRefIdeal.τ).loc Cert.MRefIdeal.main_arg3)
      ∧ r.2.mem ((c.tc : Thread Cert.MRefIdeal.nD Cert.MRefIdeal.τ).loc Cert.MRefIdeal.main_arg4) = m ((c.tc : Thread Cert.MRefIdeal.nD Cert.MRefIdeal.τ).loc Cert.MRefIdeal.main_arg4)
      ∧ r.2.mem ((c.tc : Thread Cert.MRefIdeal.nD Cert.MRefIdeal.τ).loc Cert.MRefIdeal.main_arg5) = m ((c.tc : Thread Cert.MRefIdeal.nD Cert.MRefIdeal.τ).loc Cert.MRefIdeal.main_arg5)
      ∧ r.2.mem ((c.tc : Thread Cert.MRefIdeal.nD Cert.MRefIdeal.τ).loc Cert.MRefIdeal.main_arg6) = m ((c.tc : Thread Cert.MRefIdeal.nD Cert.MRefIdeal.τ).loc Cert.MRefIdeal.main_arg6)
      ∧ r.2.mem ((c.tc : Thread Cert.MRefIdeal.nD Cert.MRefIdeal.τ).loc Cert.MRefIdeal.main_arg7) = m ((c.tc : Thread Cert.MRefIdeal.nD Cert.MRefIdeal.τ).loc Cert.MRefIdeal.main_arg7)
      ∧ r.2.mem ((c.tc : Thread Cert.MRefIdeal.nD Cert.MRefIdeal.τ).loc Cert.MRefIdeal.main_arg8) = m ((c.tc : Thread Cert.MRefIdeal.nD Cert.MRefIdeal.τ).loc Cert.MRefIdeal.main_arg8)
      ∧ r.2.mem ((c.tc : Thread Cert.MRefIdeal.nD Cert.MRefIdeal.τ).loc Cert.MRefIdeal.main_arg9) = m ((c.tc : Thread Cert.MRefIdeal.nD Cert.MRefIdeal.τ).loc Cert.MRefIdeal.main_arg9)
      ∧ r.2.mem ((c.tc : Thread Cert.MRefIdeal.nD Cert.MRefIdeal.τ).loc Cert.MRefIdeal.main_arg10) = m ((c.tc : Thread Cert.MRefIdeal.nD Cert.MRefIdeal.τ).loc Cert.MRefIdeal.main_arg10)
      ∧ r.2.mem ((c.tc : Thread Cert.MRefIdeal.nD Cert.MRefIdeal.τ).loc Cert.MRefIdeal.main_arg11) = m ((c.tc : Thread Cert.MRefIdeal.nD Cert.MRefIdeal.τ).loc Cert.MRefIdeal.main_arg11)
      ∧ r.2.mem ((c.tc : Thread Cert.MRefIdeal.nD Cert.MRefIdeal.τ).loc Cert.MRefIdeal.main_arg12) = m ((c.tc : Thread Cert.MRefIdeal.nD Cert.MRefIdeal.τ).loc Cert.MRefIdeal.main_arg12)
      ∧ r.2.mem ((c.tc : Thread Cert.MRefIdeal.nD Cert.MRefIdeal.τ).loc Cert.MRefIdeal.main_arg13) = m ((c.tc : Thread Cert.MRefIdeal.nD Cert.MRefIdeal.τ).loc Cert.MRefIdeal.main_arg13))
      ∧ r.2.sem = fun _ => 0)

def preserves_TMlp_TMlpIdeal : Prop :=
  True

def algebraic_TMlpIdeal_TRefIdeal [hTMlpIdeal : Cert.TMlpIdeal.Facts] [hTRefIdeal : Cert.TRefIdeal.Facts] : Prop :=
  ∀ (m : (ℓ : Loc Cert.TMlpIdeal.nD Cert.TMlpIdeal.τ Cert.TMlpIdeal.sig) → Buf (Elt Ideal) ℓ) (g : Dev Cert.TMlpIdeal.nD → PrngReg)
    (m' : (ℓ : Loc Cert.TRefIdeal.nD Cert.TRefIdeal.τ Cert.TRefIdeal.sig) → Buf (Elt Ideal) ℓ) (g' : Dev Cert.TRefIdeal.nD → PrngReg), Pre_TMlpIdeal m →
    (∀ c : Dev Cert.TMlpIdeal.nD,
      m' ((c.tc : Thread Cert.TRefIdeal.nD Cert.TRefIdeal.τ).loc Cert.TRefIdeal.main_arg0) = m ((c.tc : Thread Cert.TMlpIdeal.nD Cert.TMlpIdeal.τ).loc Cert.TMlpIdeal.main_arg0)
      ∧ m' ((c.tc : Thread Cert.TRefIdeal.nD Cert.TRefIdeal.τ).loc Cert.TRefIdeal.main_arg1) = m ((c.tc : Thread Cert.TMlpIdeal.nD Cert.TMlpIdeal.τ).loc Cert.TMlpIdeal.main_arg1)
      ∧ m' ((c.tc : Thread Cert.TRefIdeal.nD Cert.TRefIdeal.τ).loc Cert.TRefIdeal.main_arg2) = m ((c.tc : Thread Cert.TMlpIdeal.nD Cert.TMlpIdeal.τ).loc Cert.TMlpIdeal.main_arg2)
      ∧ m' ((c.tc : Thread Cert.TRefIdeal.nD Cert.TRefIdeal.τ).loc Cert.TRefIdeal.main_arg3) = m ((c.tc : Thread Cert.TMlpIdeal.nD Cert.TMlpIdeal.τ).loc Cert.TMlpIdeal.main_arg3)
      ∧ m' ((c.tc : Thread Cert.TRefIdeal.nD Cert.TRefIdeal.τ).loc Cert.TRefIdeal.main_arg4) = m ((c.tc : Thread Cert.TMlpIdeal.nD Cert.TMlpIdeal.τ).loc Cert.TMlpIdeal.main_arg4)
      ∧ m' ((c.tc : Thread Cert.TRefIdeal.nD Cert.TRefIdeal.τ).loc Cert.TRefIdeal.main_arg5) = m ((c.tc : Thread Cert.TMlpIdeal.nD Cert.TMlpIdeal.τ).loc Cert.TMlpIdeal.main_arg5)
      ∧ m' ((c.tc : Thread Cert.TRefIdeal.nD Cert.TRefIdeal.τ).loc Cert.TRefIdeal.main_arg6) = m ((c.tc : Thread Cert.TMlpIdeal.nD Cert.TMlpIdeal.τ).loc Cert.TMlpIdeal.main_arg6)
      ∧ m' ((c.tc : Thread Cert.TRefIdeal.nD Cert.TRefIdeal.τ).loc Cert.TRefIdeal.main_arg7) = m ((c.tc : Thread Cert.TMlpIdeal.nD Cert.TMlpIdeal.τ).loc Cert.TMlpIdeal.main_arg7)
      ∧ m' ((c.tc : Thread Cert.TRefIdeal.nD Cert.TRefIdeal.τ).loc Cert.TRefIdeal.main_arg8) = m ((c.tc : Thread Cert.TMlpIdeal.nD Cert.TMlpIdeal.τ).loc Cert.TMlpIdeal.main_arg8)
      ∧ m' ((c.tc : Thread Cert.TRefIdeal.nD Cert.TRefIdeal.τ).loc Cert.TRefIdeal.main_arg9) = m ((c.tc : Thread Cert.TMlpIdeal.nD Cert.TMlpIdeal.τ).loc Cert.TMlpIdeal.main_arg9)
      ∧ m' ((c.tc : Thread Cert.TRefIdeal.nD Cert.TRefIdeal.τ).loc Cert.TRefIdeal.main_arg10) = m ((c.tc : Thread Cert.TMlpIdeal.nD Cert.TMlpIdeal.τ).loc Cert.TMlpIdeal.main_arg10)
      ∧ m' ((c.tc : Thread Cert.TRefIdeal.nD Cert.TRefIdeal.τ).loc Cert.TRefIdeal.main_arg11) = m ((c.tc : Thread Cert.TMlpIdeal.nD Cert.TMlpIdeal.τ).loc Cert.TMlpIdeal.main_arg11)) →
    ∃ (v0 : (c : Dev Cert.TMlpIdeal.nD) → Buf (Elt Ideal) ((c.tc : Thread Cert.TMlpIdeal.nD Cert.TMlpIdeal.τ).loc Cert.TMlpIdeal.main_v8_0)) (v1 : (c : Dev Cert.TMlpIdeal.nD) → Buf (Elt Ideal) ((c.tc : Thread Cert.TMlpIdeal.nD Cert.TMlpIdeal.τ).loc Cert.TMlpIdeal.main_v8_1)) (v2 : (c : Dev Cert.TMlpIdeal.nD) → Buf (Elt Ideal) ((c.tc : Thread Cert.TMlpIdeal.nD Cert.TMlpIdeal.τ).loc Cert.TMlpIdeal.main_v8_2)) (v3 : (c : Dev Cert.TMlpIdeal.nD) → Buf (Elt Ideal) ((c.tc : Thread Cert.TMlpIdeal.nD Cert.TMlpIdeal.τ).loc Cert.TMlpIdeal.main_v8_3)) (v4 : (c : Dev Cert.TMlpIdeal.nD) → Buf (Elt Ideal) ((c.tc : Thread Cert.TMlpIdeal.nD Cert.TMlpIdeal.τ).loc Cert.TMlpIdeal.main_v8_4)),
      θ_run (Cert.TMlpIdeal.defs (F := Ideal)) (onTc (τ := Cert.TMlpIdeal.τ) (Cert.TMlpIdeal.main (F := Ideal))) ⟨m, fun _ => 0, g⟩ (fun r => ∀ c : Dev Cert.TMlpIdeal.nD,
          r.2.mem ((c.tc : Thread Cert.TMlpIdeal.nD Cert.TMlpIdeal.τ).loc Cert.TMlpIdeal.main_v8_0) = v0 c
          ∧ r.2.mem ((c.tc : Thread Cert.TMlpIdeal.nD Cert.TMlpIdeal.τ).loc Cert.TMlpIdeal.main_v8_1) = v1 c
          ∧ r.2.mem ((c.tc : Thread Cert.TMlpIdeal.nD Cert.TMlpIdeal.τ).loc Cert.TMlpIdeal.main_v8_2) = v2 c
          ∧ r.2.mem ((c.tc : Thread Cert.TMlpIdeal.nD Cert.TMlpIdeal.τ).loc Cert.TMlpIdeal.main_v8_3) = v3 c
          ∧ r.2.mem ((c.tc : Thread Cert.TMlpIdeal.nD Cert.TMlpIdeal.τ).loc Cert.TMlpIdeal.main_v8_4) = v4 c
          ∧ r.2.mem ((c.tc : Thread Cert.TMlpIdeal.nD Cert.TMlpIdeal.τ).loc Cert.TMlpIdeal.main_arg0) = m ((c.tc : Thread Cert.TMlpIdeal.nD Cert.TMlpIdeal.τ).loc Cert.TMlpIdeal.main_arg0)
          ∧ r.2.mem ((c.tc : Thread Cert.TMlpIdeal.nD Cert.TMlpIdeal.τ).loc Cert.TMlpIdeal.main_arg1) = m ((c.tc : Thread Cert.TMlpIdeal.nD Cert.TMlpIdeal.τ).loc Cert.TMlpIdeal.main_arg1)
          ∧ r.2.mem ((c.tc : Thread Cert.TMlpIdeal.nD Cert.TMlpIdeal.τ).loc Cert.TMlpIdeal.main_arg2) = m ((c.tc : Thread Cert.TMlpIdeal.nD Cert.TMlpIdeal.τ).loc Cert.TMlpIdeal.main_arg2)
          ∧ r.2.mem ((c.tc : Thread Cert.TMlpIdeal.nD Cert.TMlpIdeal.τ).loc Cert.TMlpIdeal.main_arg3) = m ((c.tc : Thread Cert.TMlpIdeal.nD Cert.TMlpIdeal.τ).loc Cert.TMlpIdeal.main_arg3)
          ∧ r.2.mem ((c.tc : Thread Cert.TMlpIdeal.nD Cert.TMlpIdeal.τ).loc Cert.TMlpIdeal.main_arg4) = m ((c.tc : Thread Cert.TMlpIdeal.nD Cert.TMlpIdeal.τ).loc Cert.TMlpIdeal.main_arg4)
          ∧ r.2.mem ((c.tc : Thread Cert.TMlpIdeal.nD Cert.TMlpIdeal.τ).loc Cert.TMlpIdeal.main_arg5) = m ((c.tc : Thread Cert.TMlpIdeal.nD Cert.TMlpIdeal.τ).loc Cert.TMlpIdeal.main_arg5)
          ∧ r.2.mem ((c.tc : Thread Cert.TMlpIdeal.nD Cert.TMlpIdeal.τ).loc Cert.TMlpIdeal.main_arg6) = m ((c.tc : Thread Cert.TMlpIdeal.nD Cert.TMlpIdeal.τ).loc Cert.TMlpIdeal.main_arg6)
          ∧ r.2.mem ((c.tc : Thread Cert.TMlpIdeal.nD Cert.TMlpIdeal.τ).loc Cert.TMlpIdeal.main_arg7) = m ((c.tc : Thread Cert.TMlpIdeal.nD Cert.TMlpIdeal.τ).loc Cert.TMlpIdeal.main_arg7)
          ∧ r.2.mem ((c.tc : Thread Cert.TMlpIdeal.nD Cert.TMlpIdeal.τ).loc Cert.TMlpIdeal.main_arg8) = m ((c.tc : Thread Cert.TMlpIdeal.nD Cert.TMlpIdeal.τ).loc Cert.TMlpIdeal.main_arg8)
          ∧ r.2.mem ((c.tc : Thread Cert.TMlpIdeal.nD Cert.TMlpIdeal.τ).loc Cert.TMlpIdeal.main_arg9) = m ((c.tc : Thread Cert.TMlpIdeal.nD Cert.TMlpIdeal.τ).loc Cert.TMlpIdeal.main_arg9)
          ∧ r.2.mem ((c.tc : Thread Cert.TMlpIdeal.nD Cert.TMlpIdeal.τ).loc Cert.TMlpIdeal.main_arg10) = m ((c.tc : Thread Cert.TMlpIdeal.nD Cert.TMlpIdeal.τ).loc Cert.TMlpIdeal.main_arg10)
          ∧ r.2.mem ((c.tc : Thread Cert.TMlpIdeal.nD Cert.TMlpIdeal.τ).loc Cert.TMlpIdeal.main_arg11) = m ((c.tc : Thread Cert.TMlpIdeal.nD Cert.TMlpIdeal.τ).loc Cert.TMlpIdeal.main_arg11))
      ∧ θ_run (Cert.TRefIdeal.defs (F := Ideal)) (onTc (τ := Cert.TRefIdeal.τ) (Cert.TRefIdeal.main (F := Ideal))) ⟨m', fun _ => 0, g'⟩ (fun r => ∀ c : Dev Cert.TRefIdeal.nD,
          r.2.mem ((c.tc : Thread Cert.TRefIdeal.nD Cert.TRefIdeal.τ).loc Cert.TRefIdeal.main_v4_0) = v0 c
          ∧ r.2.mem ((c.tc : Thread Cert.TRefIdeal.nD Cert.TRefIdeal.τ).loc Cert.TRefIdeal.main_v4_1) = v1 c
          ∧ r.2.mem ((c.tc : Thread Cert.TRefIdeal.nD Cert.TRefIdeal.τ).loc Cert.TRefIdeal.main_v4_2) = v2 c
          ∧ r.2.mem ((c.tc : Thread Cert.TRefIdeal.nD Cert.TRefIdeal.τ).loc Cert.TRefIdeal.main_v4_3) = v3 c
          ∧ r.2.mem ((c.tc : Thread Cert.TRefIdeal.nD Cert.TRefIdeal.τ).loc Cert.TRefIdeal.main_v4_4) = v4 c
          ∧ r.2.mem ((c.tc : Thread Cert.TRefIdeal.nD Cert.TRefIdeal.τ).loc Cert.TRefIdeal.main_arg0) = m' ((c.tc : Thread Cert.TRefIdeal.nD Cert.TRefIdeal.τ).loc Cert.TRefIdeal.main_arg0)
          ∧ r.2.mem ((c.tc : Thread Cert.TRefIdeal.nD Cert.TRefIdeal.τ).loc Cert.TRefIdeal.main_arg1) = m' ((c.tc : Thread Cert.TRefIdeal.nD Cert.TRefIdeal.τ).loc Cert.TRefIdeal.main_arg1)
          ∧ r.2.mem ((c.tc : Thread Cert.TRefIdeal.nD Cert.TRefIdeal.τ).loc Cert.TRefIdeal.main_arg2) = m' ((c.tc : Thread Cert.TRefIdeal.nD Cert.TRefIdeal.τ).loc Cert.TRefIdeal.main_arg2)
          ∧ r.2.mem ((c.tc : Thread Cert.TRefIdeal.nD Cert.TRefIdeal.τ).loc Cert.TRefIdeal.main_arg3) = m' ((c.tc : Thread Cert.TRefIdeal.nD Cert.TRefIdeal.τ).loc Cert.TRefIdeal.main_arg3)
          ∧ r.2.mem ((c.tc : Thread Cert.TRefIdeal.nD Cert.TRefIdeal.τ).loc Cert.TRefIdeal.main_arg4) = m' ((c.tc : Thread Cert.TRefIdeal.nD Cert.TRefIdeal.τ).loc Cert.TRefIdeal.main_arg4)
          ∧ r.2.mem ((c.tc : Thread Cert.TRefIdeal.nD Cert.TRefIdeal.τ).loc Cert.TRefIdeal.main_arg5) = m' ((c.tc : Thread Cert.TRefIdeal.nD Cert.TRefIdeal.τ).loc Cert.TRefIdeal.main_arg5)
          ∧ r.2.mem ((c.tc : Thread Cert.TRefIdeal.nD Cert.TRefIdeal.τ).loc Cert.TRefIdeal.main_arg6) = m' ((c.tc : Thread Cert.TRefIdeal.nD Cert.TRefIdeal.τ).loc Cert.TRefIdeal.main_arg6)
          ∧ r.2.mem ((c.tc : Thread Cert.TRefIdeal.nD Cert.TRefIdeal.τ).loc Cert.TRefIdeal.main_arg7) = m' ((c.tc : Thread Cert.TRefIdeal.nD Cert.TRefIdeal.τ).loc Cert.TRefIdeal.main_arg7)
          ∧ r.2.mem ((c.tc : Thread Cert.TRefIdeal.nD Cert.TRefIdeal.τ).loc Cert.TRefIdeal.main_arg8) = m' ((c.tc : Thread Cert.TRefIdeal.nD Cert.TRefIdeal.τ).loc Cert.TRefIdeal.main_arg8)
          ∧ r.2.mem ((c.tc : Thread Cert.TRefIdeal.nD Cert.TRefIdeal.τ).loc Cert.TRefIdeal.main_arg9) = m' ((c.tc : Thread Cert.TRefIdeal.nD Cert.TRefIdeal.τ).loc Cert.TRefIdeal.main_arg9)
          ∧ r.2.mem ((c.tc : Thread Cert.TRefIdeal.nD Cert.TRefIdeal.τ).loc Cert.TRefIdeal.main_arg10) = m' ((c.tc : Thread Cert.TRefIdeal.nD Cert.TRefIdeal.τ).loc Cert.TRefIdeal.main_arg10)
          ∧ r.2.mem ((c.tc : Thread Cert.TRefIdeal.nD Cert.TRefIdeal.τ).loc Cert.TRefIdeal.main_arg11) = m' ((c.tc : Thread Cert.TRefIdeal.nD Cert.TRefIdeal.τ).loc Cert.TRefIdeal.main_arg11))

def preserves_Mlp_MlpIdeal : Prop :=
  True

def algebraic_MlpIdeal_MRefIdeal [hMlpIdeal : Cert.MlpIdeal.Facts] [hMRefIdeal : Cert.MRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MRefIdeal.nD Cert.MRefIdeal.τ Cert.MRefIdeal.sig) → Buf (Elt Ideal) ℓ) (g' : Dev Cert.MRefIdeal.nD → PrngReg), Pre_MlpIdeal m →
    (∀ c : Dev Cert.MlpIdeal.nD,
      m' ((c.tc : Thread Cert.MRefIdeal.nD Cert.MRefIdeal.τ).loc Cert.MRefIdeal.main_arg0) = m ((c.tc : Thread Cert.MlpIdeal.nD Cert.MlpIdeal.τ).loc Cert.MlpIdeal.main_arg0)
      ∧ m' ((c.tc : Thread Cert.MRefIdeal.nD Cert.MRefIdeal.τ).loc Cert.MRefIdeal.main_arg1) = m ((c.tc : Thread Cert.MlpIdeal.nD Cert.MlpIdeal.τ).loc Cert.MlpIdeal.main_arg1)
      ∧ m' ((c.tc : Thread Cert.MRefIdeal.nD Cert.MRefIdeal.τ).loc Cert.MRefIdeal.main_arg2) = m ((c.tc : Thread Cert.MlpIdeal.nD Cert.MlpIdeal.τ).loc Cert.MlpIdeal.main_arg2)
      ∧ m' ((c.tc : Thread Cert.MRefIdeal.nD Cert.MRefIdeal.τ).loc Cert.MRefIdeal.main_arg3) = m ((c.tc : Thread Cert.MlpIdeal.nD Cert.MlpIdeal.τ).loc Cert.MlpIdeal.main_arg3)
      ∧ m' ((c.tc : Thread Cert.MRefIdeal.nD Cert.MRefIdeal.τ).loc Cert.MRefIdeal.main_arg4) = m ((c.tc : Thread Cert.MlpIdeal.nD Cert.MlpIdeal.τ).loc Cert.MlpIdeal.main_arg4)
      ∧ m' ((c.tc : Thread Cert.MRefIdeal.nD Cert.MRefIdeal.τ).loc Cert.MRefIdeal.main_arg5) = m ((c.tc : Thread Cert.MlpIdeal.nD Cert.MlpIdeal.τ).loc Cert.MlpIdeal.main_arg5)
      ∧ m' ((c.tc : Thread Cert.MRefIdeal.nD Cert.MRefIdeal.τ).loc Cert.MRefIdeal.main_arg6) = m ((c.tc : Thread Cert.MlpIdeal.nD Cert.MlpIdeal.τ).loc Cert.MlpIdeal.main_arg6)
      ∧ m' ((c.tc : Thread Cert.MRefIdeal.nD Cert.MRefIdeal.τ).loc Cert.MRefIdeal.main_arg7) = m ((c.tc : Thread Cert.MlpIdeal.nD Cert.MlpIdeal.τ).loc Cert.MlpIdeal.main_arg7)
      ∧ m' ((c.tc : Thread Cert.MRefIdeal.nD Cert.MRefIdeal.τ).loc Cert.MRefIdeal.main_arg8) = m ((c.tc : Thread Cert.MlpIdeal.nD Cert.MlpIdeal.τ).loc Cert.MlpIdeal.main_arg8)
      ∧ m' ((c.tc : Thread Cert.MRefIdeal.nD Cert.MRefIdeal.τ).loc Cert.MRefIdeal.main_arg9) = m ((c.tc : Thread Cert.MlpIdeal.nD Cert.MlpIdeal.τ).loc Cert.MlpIdeal.main_arg9)
      ∧ m' ((c.tc : Thread Cert.MRefIdeal.nD Cert.MRefIdeal.τ).loc Cert.MRefIdeal.main_arg10) = m ((c.tc : Thread Cert.MlpIdeal.nD Cert.MlpIdeal.τ).loc Cert.MlpIdeal.main_arg10)
      ∧ m' ((c.tc : Thread Cert.MRefIdeal.nD Cert.MRefIdeal.τ).loc Cert.MRefIdeal.main_arg11) = m ((c.tc : Thread Cert.MlpIdeal.nD Cert.MlpIdeal.τ).loc Cert.MlpIdeal.main_arg11)
      ∧ m' ((c.tc : Thread Cert.MRefIdeal.nD Cert.MRefIdeal.τ).loc Cert.MRefIdeal.main_arg12) = m ((c.tc : Thread Cert.MlpIdeal.nD Cert.MlpIdeal.τ).loc Cert.MlpIdeal.main_arg12)
      ∧ m' ((c.tc : Thread Cert.MRefIdeal.nD Cert.MRefIdeal.τ).loc Cert.MRefIdeal.main_arg13) = m ((c.tc : Thread Cert.MlpIdeal.nD Cert.MlpIdeal.τ).loc Cert.MlpIdeal.main_arg13)) →
    ∃ (v0 : (c : Dev Cert.MlpIdeal.nD) → Buf (Elt Ideal) ((c.tc : Thread Cert.MlpIdeal.nD Cert.MlpIdeal.τ).loc Cert.MlpIdeal.main_v13_0)) (v1 : (c : Dev Cert.MlpIdeal.nD) → Buf (Elt Ideal) ((c.tc : Thread Cert.MlpIdeal.nD Cert.MlpIdeal.τ).loc Cert.MlpIdeal.main_v13_1)) (v2 : (c : Dev Cert.MlpIdeal.nD) → Buf (Elt Ideal) ((c.tc : Thread Cert.MlpIdeal.nD Cert.MlpIdeal.τ).loc Cert.MlpIdeal.main_v13_2)) (v3 : (c : Dev Cert.MlpIdeal.nD) → Buf (Elt Ideal) ((c.tc : Thread Cert.MlpIdeal.nD Cert.MlpIdeal.τ).loc Cert.MlpIdeal.main_v13_3)) (v4 : (c : Dev Cert.MlpIdeal.nD) → Buf (Elt Ideal) ((c.tc : Thread Cert.MlpIdeal.nD Cert.MlpIdeal.τ).loc Cert.MlpIdeal.main_v13_4)) (v5 : (c : Dev Cert.MlpIdeal.nD) → Buf (Elt Ideal) ((c.tc : Thread Cert.MlpIdeal.nD Cert.MlpIdeal.τ).loc Cert.MlpIdeal.main_v13_5)) (v6 : (c : Dev Cert.MlpIdeal.nD) → Buf (Elt Ideal) ((c.tc : Thread Cert.MlpIdeal.nD Cert.MlpIdeal.τ).loc Cert.MlpIdeal.main_v13_6)) (v7 : (c : Dev Cert.MlpIdeal.nD) → Buf (Elt Ideal) ((c.tc : Thread Cert.MlpIdeal.nD Cert.MlpIdeal.τ).loc Cert.MlpIdeal.main_v13_7)) (v8 : (c : Dev Cert.MlpIdeal.nD) → Buf (Elt Ideal) ((c.tc : Thread Cert.MlpIdeal.nD Cert.MlpIdeal.τ).loc Cert.MlpIdeal.main_v13_8)) (v9 : (c : Dev Cert.MlpIdeal.nD) → Buf (Elt Ideal) ((c.tc : Thread Cert.MlpIdeal.nD Cert.MlpIdeal.τ).loc Cert.MlpIdeal.main_v13_9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v13_0) = v0 c
          ∧ r.2.mem ((c.tc : Thread Cert.MlpIdeal.nD Cert.MlpIdeal.τ).loc Cert.MlpIdeal.main_v13_1) = v1 c
          ∧ r.2.mem ((c.tc : Thread Cert.MlpIdeal.nD Cert.MlpIdeal.τ).loc Cert.MlpIdeal.main_v13_2) = v2 c
          ∧ r.2.mem ((c.tc : Thread Cert.MlpIdeal.nD Cert.MlpIdeal.τ).loc Cert.MlpIdeal.main_v13_3) = v3 c
          ∧ r.2.mem ((c.tc : Thread Cert.MlpIdeal.nD Cert.MlpIdeal.τ).loc Cert.MlpIdeal.main_v13_4) = v4 c
          ∧ r.2.mem ((c.tc : Thread Cert.MlpIdeal.nD Cert.MlpIdeal.τ).loc Cert.MlpIdeal.main_v13_5) = v5 c
          ∧ r.2.mem ((c.tc : Thread Cert.MlpIdeal.nD Cert.MlpIdeal.τ).loc Cert.MlpIdeal.main_v13_6) = v6 c
          ∧ r.2.mem ((c.tc : Thread Cert.MlpIdeal.nD Cert.MlpIdeal.τ).loc Cert.MlpIdeal.main_v13_7) = v7 c
          ∧ r.2.mem ((c.tc : Thread Cert.MlpIdeal.nD Cert.MlpIdeal.τ).loc Cert.MlpIdeal.main_v13_8) = v8 c
          ∧ r.2.mem ((c.tc : Thread Cert.MlpIdeal.nD Cert.MlpIdeal.τ).loc Cert.MlpIdeal.main_v13_9) = v9 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13))
      ∧ θ_run (Cert.MRefIdeal.defs (F := Ideal)) (onTc (τ := Cert.MRefIdeal.τ) (Cert.MRefIdeal.main (F := Ideal))) ⟨m', fun _ => 0, g'⟩ (fun r => ∀ c : Dev Cert.MRefIdeal.nD,
          r.2.mem ((c.tc : Thread Cert.MRefIdeal.nD Cert.MRefIdeal.τ).loc Cert.MRefIdeal.main_v5_0) = v0 c
          ∧ r.2.mem ((c.tc : Thread Cert.MRefIdeal.nD Cert.MRefIdeal.τ).loc Cert.MRefIdeal.main_v5_1) = v1 c
          ∧ r.2.mem ((c.tc : Thread Cert.MRefIdeal.nD Cert.MRefIdeal.τ).loc Cert.MRefIdeal.main_v5_2) = v2 c
          ∧ r.2.mem ((c.tc : Thread Cert.MRefIdeal.nD Cert.MRefIdeal.τ).loc Cert.MRefIdeal.main_v5_3) = v3 c
          ∧ r.2.mem ((c.tc : Thread Cert.MRefIdeal.nD Cert.MRefIdeal.τ).loc Cert.MRefIdeal.main_v5_4) = v4 c
          ∧ r.2.mem ((c.tc : Thread Cert.MRefIdeal.nD Cert.MRefIdeal.τ).loc Cert.MRefIdeal.main_v5_5) = v5 c
          ∧ r.2.mem ((c.tc : Thread Cert.MRefIdeal.nD Cert.MRefIdeal.τ).loc Cert.MRefIdeal.main_v5_6) = v6 c
          ∧ r.2.mem ((c.tc : Thread Cert.MRefIdeal.nD Cert.MRefIdeal.τ).loc Cert.MRefIdeal.main_v5_7) = v7 c
          ∧ r.2.mem ((c.tc : Thread Cert.MRefIdeal.nD Cert.MRefIdeal.τ).loc Cert.MRefIdeal.main_v5_8) = v8 c
          ∧ r.2.mem ((c.tc : Thread Cert.MRefIdeal.nD Cert.MRefIdeal.τ).loc Cert.MRefIdeal.main_v5_9) = v9 c
          ∧ r.2.mem ((c.tc : Thread Cert.MRefIdeal.nD Cert.MRefIdeal.τ).loc Cert.MRefIdeal.main_arg0) = m' ((c.tc : Thread Cert.MRefIdeal.nD Cert.MRefIdeal.τ).loc Cert.MRefIdeal.main_arg0)
          ∧ r.2.mem ((c.tc : Thread Cert.MRefIdeal.nD Cert.MRefIdeal.τ).loc Cert.MRefIdeal.main_arg1) = m' ((c.tc : Thread Cert.MRefIdeal.nD Cert.MRefIdeal.τ).loc Cert.MRefIdeal.main_arg1)
          ∧ r.2.mem ((c.tc : Thread Cert.MRefIdeal.nD Cert.MRefIdeal.τ).loc Cert.MRefIdeal.main_arg2) = m' ((c.tc : Thread Cert.MRefIdeal.nD Cert.MRefIdeal.τ).loc Cert.MRefIdeal.main_arg2)
          ∧ r.2.mem ((c.tc : Thread Cert.MRefIdeal.nD Cert.MRefIdeal.τ).loc Cert.MRefIdeal.main_arg3) = m' ((c.tc : Thread Cert.MRefIdeal.nD Cert.MRefIdeal.τ).loc Cert.MRefIdeal.main_arg3)
          ∧ r.2.mem ((c.tc : Thread Cert.MRefIdeal.nD Cert.MRefIdeal.τ).loc Cert.MRefIdeal.main_arg4) = m' ((c.tc : Thread Cert.MRefIdeal.nD Cert.MRefIdeal.τ).loc Cert.MRefIdeal.main_arg4)
          ∧ r.2.mem ((c.tc : Thread Cert.MRefIdeal.nD Cert.MRefIdeal.τ).loc Cert.MRefIdeal.main_arg5) = m' ((c.tc : Thread Cert.MRefIdeal.nD Cert.MRefIdeal.τ).loc Cert.MRefIdeal.main_arg5)
          ∧ r.2.mem ((c.tc : Thread Cert.MRefIdeal.nD Cert.MRefIdeal.τ).loc Cert.MRefIdeal.main_arg6) = m' ((c.tc : Thread Cert.MRefIdeal.nD Cert.MRefIdeal.τ).loc Cert.MRefIdeal.main_arg6)
          ∧ r.2.mem ((c.tc : Thread Cert.MRefIdeal.nD Cert.MRefIdeal.τ).loc Cert.MRefIdeal.main_arg7) = m' ((c.tc : Thread Cert.MRefIdeal.nD Cert.MRefIdeal.τ).loc Cert.MRefIdeal.main_arg7)
          ∧ r.2.mem ((c.tc : Thread Cert.MRefIdeal.nD Cert.MRefIdeal.τ).loc Cert.MRefIdeal.main_arg8) = m' ((c.tc : Thread Cert.MRefIdeal.nD Cert.MRefIdeal.τ).loc Cert.MRefIdeal.main_arg8)
          ∧ r.2.mem ((c.tc : Thread Cert.MRefIdeal.nD Cert.MRefIdeal.τ).loc Cert.MRefIdeal.main_arg9) = m' ((c.tc : Thread Cert.MRefIdeal.nD Cert.MRefIdeal.τ).loc Cert.MRefIdeal.main_arg9)
          ∧ r.2.mem ((c.tc : Thread Cert.MRefIdeal.nD Cert.MRefIdeal.τ).loc Cert.MRefIdeal.main_arg10) = m' ((c.tc : Thread Cert.MRefIdeal.nD Cert.MRefIdeal.τ).loc Cert.MRefIdeal.main_arg10)
          ∧ r.2.mem ((c.tc : Thread Cert.MRefIdeal.nD Cert.MRefIdeal.τ).loc Cert.MRefIdeal.main_arg11) = m' ((c.tc : Thread Cert.MRefIdeal.nD Cert.MRefIdeal.τ).loc Cert.MRefIdeal.main_arg11)
          ∧ r.2.mem ((c.tc : Thread Cert.MRefIdeal.nD Cert.MRefIdeal.τ).loc Cert.MRefIdeal.main_arg12) = m' ((c.tc : Thread Cert.MRefIdeal.nD Cert.MRefIdeal.τ).loc Cert.MRefIdeal.main_arg12)
          ∧ r.2.mem ((c.tc : Thread Cert.MRefIdeal.nD Cert.MRefIdeal.τ).loc Cert.MRefIdeal.main_arg13) = m' ((c.tc : Thread Cert.MRefIdeal.nD Cert.MRefIdeal.τ).loc Cert.MRefIdeal.main_arg13))

def Claim : Prop :=
  ∃ (hTMlp : Cert.TMlp.Facts) (hTMlpIdeal : Cert.TMlpIdeal.Facts) (hTRefIdeal : Cert.TRefIdeal.Facts) (hMlp : Cert.Mlp.Facts) (hMlpIdeal : Cert.MlpIdeal.Facts) (hMRefIdeal : Cert.MRefIdeal.Facts),
    quiescent_TMlp (hTMlp := hTMlp)
    ∧ quiescent_TMlpIdeal (hTMlpIdeal := hTMlpIdeal)
    ∧ quiescent_TRefIdeal (hTRefIdeal := hTRefIdeal)
    ∧ quiescent_Mlp (hMlp := hMlp)
    ∧ quiescent_MlpIdeal (hMlpIdeal := hMlpIdeal)
    ∧ quiescent_MRefIdeal (hMRefIdeal := hMRefIdeal)
    ∧ preserves_TMlp_TMlpIdeal
    ∧ algebraic_TMlpIdeal_TRefIdeal (hTMlpIdeal := hTMlpIdeal) (hTRefIdeal := hTRefIdeal)
    ∧ preserves_Mlp_MlpIdeal
    ∧ algebraic_MlpIdeal_MRefIdeal (hMlpIdeal := hMlpIdeal) (hMRefIdeal := hMRefIdeal)
-- ==== TMlp.lean ====
abbrev S2x256x2560 : Shape := ⟨3, ![2, 256, 2560]⟩
abbrev S2x256x640 : Shape := ⟨3, ![2, 256, 640]⟩
abbrev S2x1x256 : Shape := ⟨3, ![2, 1, 256]⟩
abbrev S2x6x2560 : Shape := ⟨3, ![2, 6, 2560]⟩
abbrev S640x2560 : Shape := ⟨2, ![640, 2560]⟩
abbrev S2560 : Shape := ⟨1, ![2560]⟩
abbrev S2560x1728 : Shape := ⟨2, ![2560, 1728]⟩
abbrev S1728 : Shape := ⟨1, ![1728]⟩
abbrev S1728x2560 : Shape := ⟨2, ![1728, 2560]⟩
abbrev S1x2560 : Shape := ⟨2, ![1, 2560]⟩
abbrev S1728x1 : Shape := ⟨2, ![1728, 1]⟩
abbrev S1728x128 : Shape := ⟨2, ![1728, 128]⟩
abbrev S2x1728x256 : Shape := ⟨3, ![2, 1728, 256]⟩
abbrev S1x256x2560 : Shape := ⟨3, ![1, 256, 2560]⟩
abbrev S1x256x640 : Shape := ⟨3, ![1, 256, 640]⟩
abbrev S1x1x256 : Shape := ⟨3, ![1, 1, 256]⟩
abbrev S1x6x2560 : Shape := ⟨3, ![1, 6, 2560]⟩
abbrev S1x1728x256 : Shape := ⟨3, ![1, 1728, 256]⟩
abbrev S256x2560 : Shape := ⟨2, ![256, 2560]⟩
abbrev S256x640 : Shape := ⟨2, ![256, 640]⟩
abbrev S1x256 : Shape := ⟨2, ![1, 256]⟩
abbrev S128x256 : Shape := ⟨2, ![128, 256]⟩
abbrev S256x128 : Shape := ⟨2, ![256, 128]⟩
abbrev S256x1 : Shape := ⟨2, ![256, 1]⟩
abbrev S1x1x2560 : Shape := ⟨3, ![1, 1, 2560]⟩
abbrev S256 : Shape := ⟨1, ![256]⟩
abbrev S1728x256 : Shape := ⟨2, ![1728, 256]⟩

abbrev nBuf : Space → Nat
  | .hbm => 25
  | .vmem => 26
  | .smem => 0
  | _ => 0

abbrev bufTy : (tb : Table) → Fin (tcTables nBuf tb) → BufTy
  | .hbm, ⟨0, _⟩ => ⟨S2x256x2560, .bf16⟩
  | .hbm, ⟨1, _⟩ => ⟨S2x256x640, .fp8e4m3⟩
  | .hbm, ⟨2, _⟩ => ⟨S2x1x256, .f32⟩
  | .hbm, ⟨3, _⟩ => ⟨S2x6x2560, .f32⟩
  | .hbm, ⟨4, _⟩ => ⟨S640x2560, .fp8e4m3⟩
  | .hbm, ⟨5, _⟩ => ⟨S2560, .f32⟩
  | .hbm, ⟨6, _⟩ => ⟨S2560x1728, .fp8e4m3⟩
  | .hbm, ⟨7, _⟩ => ⟨S1728, .f32⟩
  | .hbm, ⟨8, _⟩ => ⟨S2560x1728, .fp8e4m3⟩
  | .hbm, ⟨9, _⟩ => ⟨S1728, .f32⟩
  | .hbm, ⟨10, _⟩ => ⟨S1728x2560, .fp8e4m3⟩
  | .hbm, ⟨11, _⟩ => ⟨S2560, .f32⟩
  | .hbm, ⟨12, _⟩ => ⟨S1728x2560, .fp8e4m3⟩
  | .hbm, ⟨13, _⟩ => ⟨S1728x2560, .fp8e4m3⟩
  | .hbm, ⟨14, _⟩ => ⟨S1x2560, .f32⟩
  | .hbm, ⟨15, _⟩ => ⟨S1x2560, .f32⟩
  | .hbm, ⟨16, _⟩ => ⟨S1728x1, .f32⟩
  | .hbm, ⟨17, _⟩ => ⟨S1728x128, .f32⟩
  | .hbm, ⟨18, _⟩ => ⟨S1728x1, .f32⟩
  | .hbm, ⟨19, _⟩ => ⟨S1728x128, .f32⟩
  | .hbm, ⟨20, _⟩ => ⟨S2x256x2560, .bf16⟩
  | .hbm, ⟨21, _⟩ => ⟨S2x256x2560, .fp8e4m3⟩
  | .hbm, ⟨22, _⟩ => ⟨S2x1x256, .f32⟩
  | .hbm, ⟨23, _⟩ => ⟨S2x1728x256, .fp8e4m3⟩
  | .hbm, ⟨24, _⟩ => ⟨S2x1x256, .f32⟩
  | .local _ .vmem, ⟨0, _⟩ => ⟨S1x256x2560, .bf16⟩
  | .local _ .vmem, ⟨1, _⟩ => ⟨S1x256x2560, .bf16⟩
  | .local _ .vmem, ⟨2, _⟩ => ⟨S1x256x640, .fp8e4m3⟩
  | .local _ .vmem, ⟨3, _⟩ => ⟨S1x256x640, .fp8e4m3⟩
  | .local _ .vmem, ⟨4, _⟩ => ⟨S1x1x256, .f32⟩
  | .local _ .vmem, ⟨5, _⟩ => ⟨S1x1x256, .f32⟩
  | .local _ .vmem, ⟨6, _⟩ => ⟨S1x6x2560, .f32⟩
  | .local _ .vmem, ⟨7, _⟩ => ⟨S1x6x2560, .f32⟩
  | .local _ .vmem, ⟨8, _⟩ => ⟨S640x2560, .fp8e4m3⟩
  | .local _ .vmem, ⟨9, _⟩ => ⟨S1x2560, .f32⟩
  | .local _ .vmem, ⟨10, _⟩ => ⟨S1728x2560, .fp8e4m3⟩
  | .local _ .vmem, ⟨11, _⟩ => ⟨S1728x128, .f32⟩
  | .local _ .vmem, ⟨12, _⟩ => ⟨S1728x2560, .fp8e4m3⟩
  | .local _ .vmem, ⟨13, _⟩ => ⟨S1728x128, .f32⟩
  | .local _ .vmem, ⟨14, _⟩ => ⟨S1728x2560, .fp8e4m3⟩
  | .local _ .vmem, ⟨15, _⟩ => ⟨S1x2560, .f32⟩
  | .local _ .vmem, ⟨16, _⟩ => ⟨S1x256x2560, .bf16⟩
  | .local _ .vmem, ⟨17, _⟩ => ⟨S1x256x2560, .bf16⟩
  | .local _ .vmem, ⟨18, _⟩ => ⟨S1x256x2560, .fp8e4m3⟩
  | .local _ .vmem, ⟨19, _⟩ => ⟨S1x256x2560, .fp8e4m3⟩
  | .local _ .vmem, ⟨20, _⟩ => ⟨S1x1x256, .f32⟩
  | .local _ .vmem, ⟨21, _⟩ => ⟨S1x1x256, .f32⟩
  | .local _ .vmem, ⟨22, _⟩ => ⟨S1x1728x256, .fp8e4m3⟩
  | .local _ .vmem, ⟨23, _⟩ => ⟨S1x1728x256, .fp8e4m3⟩
  | .local _ .vmem, ⟨24, _⟩ => ⟨S1x1x256, .f32⟩
  | .local _ .vmem, ⟨25, _⟩ => ⟨S1x1x256, .f32⟩
  | _, _ => ⟨S2x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x640 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S640x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1728x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1728x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1728x2560 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1728x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1728x2560 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2560 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x2560 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1728x256 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== TRefIdeal.lean ====
abbrev S2x256x2560 : Shape := ⟨3, ![2, 256, 2560]⟩
abbrev S2x256x640 : Shape := ⟨3, ![2, 256, 640]⟩
abbrev S2x1x256 : Shape := ⟨3, ![2, 1, 256]⟩
abbrev S2x6x2560 : Shape := ⟨3, ![2, 6, 2560]⟩
abbrev S640x2560 : Shape := ⟨2, ![640, 2560]⟩
abbrev S2560 : Shape := ⟨1, ![2560]⟩
abbrev S2560x1728 : Shape := ⟨2, ![2560, 1728]⟩
abbrev S1728 : Shape := ⟨1, ![1728]⟩
abbrev S1728x2560 : Shape := ⟨2, ![1728, 2560]⟩
abbrev S1x2560 : Shape := ⟨2, ![1, 2560]⟩
abbrev S1x1728 : Shape := ⟨2, ![1, 1728]⟩
abbrev S2x1728x256 : Shape := ⟨3, ![2, 1728, 256]⟩
abbrev S2x256x1 : Shape := ⟨3, ![2, 256, 1]⟩
abbrev S2x1x2560 : Shape := ⟨3, ![2, 1, 2560]⟩
abbrev S1x640x2560 : Shape := ⟨3, ![1, 640, 2560]⟩
abbrev S2x640x2560 : Shape := ⟨3, ![2, 640, 2560]⟩
abbrev S1x1x2560 : Shape := ⟨3, ![1, 1, 2560]⟩
abbrev S2x256 : Shape := ⟨2, ![2, 256]⟩
abbrev S1x2560x1728 : Shape := ⟨3, ![1, 2560, 1728]⟩
abbrev S2x2560x1728 : Shape := ⟨3, ![2, 2560, 1728]⟩
abbrev S2x256x1728 : Shape := ⟨3, ![2, 256, 1728]⟩
abbrev S1x1x1728 : Shape := ⟨3, ![1, 1, 1728]⟩
abbrev S1x1728x2560 : Shape := ⟨3, ![1, 1728, 2560]⟩
abbrev S2x1728x2560 : Shape := ⟨3, ![2, 1728, 2560]⟩

abbrev nBuf : Space → Nat
  | .hbm => 21
  | .vmem => 17
  | .smem => 0
  | _ => 0

abbrev bufTy : (tb : Table) → Fin (tcTables nBuf tb) → BufTy
  | .hbm, ⟨0, _⟩ => ⟨S2x256x2560, .bf16⟩
  | .hbm, ⟨1, _⟩ => ⟨S2x256x640, .fp8e4m3⟩
  | .hbm, ⟨2, _⟩ => ⟨S2x1x256, .f32⟩
  | .hbm, ⟨3, _⟩ => ⟨S2x6x2560, .f32⟩
  | .hbm, ⟨4, _⟩ => ⟨S640x2560, .fp8e4m3⟩
  | .hbm, ⟨5, _⟩ => ⟨S2560, .f32⟩
  | .hbm, ⟨6, _⟩ => ⟨S2560x1728, .fp8e4m3⟩
  | .hbm, ⟨7, _⟩ => ⟨S1728, .f32⟩
  | .hbm, ⟨8, _⟩ => ⟨S2560x1728, .fp8e4m3⟩
  | .hbm, ⟨9, _⟩ => ⟨S1728, .f32⟩
  | .hbm, ⟨10, _⟩ => ⟨S1728x2560, .fp8e4m3⟩
  | .hbm, ⟨11, _⟩ => ⟨S2560, .f32⟩
  | .hbm, ⟨12, _⟩ => ⟨S1x2560, .f32⟩
  | .hbm, ⟨13, _⟩ => ⟨S1x1728, .f32⟩
  | .hbm, ⟨14, _⟩ => ⟨S1x1728, .f32⟩
  | .hbm, ⟨15, _⟩ => ⟨S1x2560, .f32⟩
  | .hbm, ⟨16, _⟩ => ⟨S2x256x2560, .bf16⟩
  | .hbm, ⟨17, _⟩ => ⟨S2x256x2560, .fp8e4m3⟩
  | .hbm, ⟨18, _⟩ => ⟨S2x1x256, .f32⟩
  | .hbm, ⟨19, _⟩ => ⟨S2x1728x256, .fp8e4m3⟩
  | .hbm, ⟨20, _⟩ => ⟨S2x1x256, .f32⟩
  | .local _ .vmem, ⟨0, _⟩ => ⟨S2x256x2560, .bf16⟩
  | .local _ .vmem, ⟨1, _⟩ => ⟨S2x256x640, .fp8e4m3⟩
  | .local _ .vmem, ⟨2, _⟩ => ⟨S2x1x256, .f32⟩
  | .local _ .vmem, ⟨3, _⟩ => ⟨S2x6x2560, .f32⟩
  | .local _ .vmem, ⟨4, _⟩ => ⟨S640x2560, .fp8e4m3⟩
  | .local _ .vmem, ⟨5, _⟩ => ⟨S1x2560, .f32⟩
  | .local _ .vmem, ⟨6, _⟩ => ⟨S2560x1728, .fp8e4m3⟩
  | .local _ .vmem, ⟨7, _⟩ => ⟨S1x1728, .f32⟩
  | .local _ .vmem, ⟨8, _⟩ => ⟨S2560x1728, .fp8e4m3⟩
  | .local _ .vmem, ⟨9, _⟩ => ⟨S1x1728, .f32⟩
  | .local _ .vmem, ⟨10, _⟩ => ⟨S1728x2560, .fp8e4m3⟩
  | .local _ .vmem, ⟨11, _⟩ => ⟨S1x2560, .f32⟩
  | .local _ .vmem, ⟨12, _⟩ => ⟨S2x256x2560, .bf16⟩
  | .local _ .vmem, ⟨13, _⟩ => ⟨S2x256x2560, .fp8e4m3⟩
  | .local _ .vmem, ⟨14, _⟩ => ⟨S2x1x256, .f32⟩
  | .local _ .vmem, ⟨15, _⟩ => ⟨S2x1728x256, .fp8e4m3⟩
  | .local _ .vmem, ⟨16, _⟩ => ⟨S2x1x256, .f32⟩
  | _, _ => ⟨S2x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S2x256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x640 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x6x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2560x1728 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1728 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2560x1728 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1728 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1728x2560 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2560 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x256x2560 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x256x2560 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1728x256 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Mlp.lean ====
abbrev S19 : Shape := ⟨1, ![19]⟩
abbrev S2x12240x2560 : Shape := ⟨3, ![2, 12240, 2560]⟩
abbrev S2x5x12240x128 : Shape := ⟨4, ![2, 5, 12240, 128]⟩
abbrev S2x10x12288x128 : Shape := ⟨4, ![2, 10, 12288, 128]⟩
abbrev S2x18x16x128 : Shape := ⟨4, ![2, 18, 16, 128]⟩
abbrev S2x6x2560 : Shape := ⟨3, ![2, 6, 2560]⟩
abbrev S640x2560 : Shape := ⟨2, ![640, 2560]⟩
abbrev S2560 : Shape := ⟨1, ![2560]⟩
abbrev S2560x1728 : Shape := ⟨2, ![2560, 1728]⟩
abbrev S1728 : Shape := ⟨1, ![1728]⟩
abbrev S1728x2560 : Shape := ⟨2, ![1728, 2560]⟩
abbrev S_ : Shape := ⟨0, ![]⟩
abbrev S1x2560 : Shape := ⟨2, ![1, 2560]⟩
abbrev S1728x1 : Shape := ⟨2, ![1728, 1]⟩
abbrev S1728x128 : Shape := ⟨2, ![1728, 128]⟩
abbrev S2x12240x640 : Shape := ⟨3, ![2, 12240, 640]⟩
abbrev S2x1x12240 : Shape := ⟨3, ![2, 1, 12240]⟩
abbrev S2x1728x12240 : Shape := ⟨3, ![2, 1728, 12240]⟩
abbrev S1x256x2560 : Shape := ⟨3, ![1, 256, 2560]⟩
abbrev S1x5x256x128 : Shape := ⟨4, ![1, 5, 256, 128]⟩
abbrev S1x10x256x128 : Shape := ⟨4, ![1, 10, 256, 128]⟩
abbrev S1x18x16x128 : Shape := ⟨4, ![1, 18, 16, 128]⟩
abbrev S1x6x2560 : Shape := ⟨3, ![1, 6, 2560]⟩
abbrev S1x256x640 : Shape := ⟨3, ![1, 256, 640]⟩
abbrev S1x1x256 : Shape := ⟨3, ![1, 1, 256]⟩
abbrev S1x1728x256 : Shape := ⟨3, ![1, 1728, 256]⟩
abbrev S16x256 : Shape := ⟨2, ![16, 256]⟩
abbrev S1x1x16x1 : Shape := ⟨4, ![1, 1, 16, 1]⟩
abbrev S16x1 : Shape := ⟨2, ![16, 1]⟩
abbrev S1 : Shape := ⟨1, ![1]⟩
abbrev S256x16 : Shape := ⟨2, ![256, 16]⟩
abbrev S1x1x256x128 : Shape := ⟨4, ![1, 1, 256, 128]⟩
abbrev S256x128 : Shape := ⟨2, ![256, 128]⟩
abbrev S256x1 : Shape := ⟨2, ![256, 1]⟩
abbrev S256 : Shape := ⟨1, ![256]⟩
abbrev S128x256 : Shape := ⟨2, ![128, 256]⟩
abbrev S1x256 : Shape := ⟨2, ![1, 256]⟩
abbrev S256x640 : Shape := ⟨2, ![256, 640]⟩
abbrev S256x2560 : Shape := ⟨2, ![256, 2560]⟩
abbrev S1x1x2560 : Shape := ⟨3, ![1, 1, 2560]⟩
abbrev S1728x256 : Shape := ⟨2, ![1728, 256]⟩

abbrev nBuf : Space → Nat
  | .hbm => 41
  | .vmem => 38
  | .smem => 1
  | _ => 0

abbrev bufTy : (tb : Table) → Fin (tcTables nBuf tb) → BufTy
  | .hbm, ⟨0, _⟩ => ⟨S2x12240x2560, .bf16⟩
  | .hbm, ⟨1, _⟩ => ⟨S2x5x12240x128, .f32⟩
  | .hbm, ⟨2, _⟩ => ⟨S2x10x12288x128, .f32⟩
  | .hbm, ⟨3, _⟩ => ⟨S2x18x16x128, .f32⟩
  | .hbm, ⟨4, _⟩ => ⟨S2x6x2560, .f32⟩
  | .hbm, ⟨5, _⟩ => ⟨S640x2560, .fp8e4m3⟩
  | .hbm, ⟨6, _⟩ => ⟨S2560, .f32⟩
  | .hbm, ⟨7, _⟩ => ⟨S2560x1728, .fp8e4m3⟩
  | .hbm, ⟨8, _⟩ => ⟨S1728, .f32⟩
  | .hbm, ⟨9, _⟩ => ⟨S2560x1728, .fp8e4m3⟩
  | .hbm, ⟨10, _⟩ => ⟨S1728, .f32⟩
  | .hbm, ⟨11, _⟩ => ⟨S1728x2560, .fp8e4m3⟩
  | .hbm, ⟨12, _⟩ => ⟨S2560, .f32⟩
  | .hbm, ⟨13, _⟩ => ⟨S_, .f32⟩
  | .hbm, ⟨14, _⟩ => ⟨S2x18x16x128, .f32⟩
  | .hbm, ⟨15, _⟩ => ⟨S2x18x16x128, .i1⟩
  | .hbm, ⟨16, _⟩ => ⟨S_, .f32⟩
  | .hbm, ⟨17, _⟩ => ⟨S2x18x16x128, .f32⟩
  | .hbm, ⟨18, _⟩ => ⟨S2x18x16x128, .f32⟩
  | .hbm, ⟨19, _⟩ => ⟨S_, .f32⟩
  | .hbm, ⟨20, _⟩ => ⟨S_, .f32⟩
  | .hbm, ⟨21, _⟩ => ⟨S2x18x16x128, .f32⟩
  | .hbm, ⟨22, _⟩ => ⟨S2x18x16x128, .f32⟩
  | .hbm, ⟨23, _⟩ => ⟨S1728x2560, .fp8e4m3⟩
  | .hbm, ⟨24, _⟩ => ⟨S1728x2560, .fp8e4m3⟩
  | .hbm, ⟨25, _⟩ => ⟨S1x2560, .f32⟩
  | .hbm, ⟨26, _⟩ => ⟨S1x2560, .f32⟩
  | .hbm, ⟨27, _⟩ => ⟨S1728x1, .f32⟩
  | .hbm, ⟨28, _⟩ => ⟨S1728x128, .f32⟩
  | .hbm, ⟨29, _⟩ => ⟨S1728x1, .f32⟩
  | .hbm, ⟨30, _⟩ => ⟨S1728x128, .f32⟩
  | .hbm, ⟨31, _⟩ => ⟨S2x12240x2560, .bf16⟩
  | .hbm, ⟨32, _⟩ => ⟨S2x12240x640, .bf16⟩
  | .hbm, ⟨33, _⟩ => ⟨S2x5x12240x128, .fp8e4m3⟩
  | .hbm, ⟨34, _⟩ => ⟨S2x5x12240x128, .fp8e4m3⟩
  | .hbm, ⟨35, _⟩ => ⟨S2x12240x640, .fp8e4m3⟩
  | .hbm, ⟨36, _⟩ => ⟨S2x1x12240, .f32⟩
  | .hbm, ⟨37, _⟩ => ⟨S2x12240x2560, .fp8e4m3⟩
  | .hbm, ⟨38, _⟩ => ⟨S2x1x12240, .f32⟩
  | .hbm, ⟨39, _⟩ => ⟨S2x1728x12240, .fp8e4m3⟩
  | .hbm, ⟨40, _⟩ => ⟨S2x1x12240, .f32⟩
  | .local _ .vmem, ⟨0, _⟩ => ⟨S1x256x2560, .bf16⟩
  | .local _ .vmem, ⟨1, _⟩ => ⟨S1x256x2560, .bf16⟩
  | .local _ .vmem, ⟨2, _⟩ => ⟨S1x5x256x128, .f32⟩
  | .local _ .vmem, ⟨3, _⟩ => ⟨S1x5x256x128, .f32⟩
  | .local _ .vmem, ⟨4, _⟩ => ⟨S1x10x256x128, .f32⟩
  | .local _ .vmem, ⟨5, _⟩ => ⟨S1x10x256x128, .f32⟩
  | .local _ .vmem, ⟨6, _⟩ => ⟨S1x18x16x128, .f32⟩
  | .local _ .vmem, ⟨7, _⟩ => ⟨S1x18x16x128, .f32⟩
  | .local _ .vmem, ⟨8, _⟩ => ⟨S1x6x2560, .f32⟩
  | .local _ .vmem, ⟨9, _⟩ => ⟨S1x6x2560, .f32⟩
  | .local _ .vmem, ⟨10, _⟩ => ⟨S640x2560, .fp8e4m3⟩
  | .local _ .vmem, ⟨11, _⟩ => ⟨S1x2560, .f32⟩
  | .local _ .vmem, ⟨12, _⟩ => ⟨S1728x2560, .fp8e4m3⟩
  | .local _ .vmem, ⟨13, _⟩ => ⟨S1728x128, .f32⟩
  | .local _ .vmem, ⟨14, _⟩ => ⟨S1728x2560, .fp8e4m3⟩
  | .local _ .vmem, ⟨15, _⟩ => ⟨S1728x128, .f32⟩
  | .local _ .vmem, ⟨16, _⟩ => ⟨S1728x2560, .fp8e4m3⟩
  | .local _ .vmem, ⟨17, _⟩ => ⟨S1x2560, .f32⟩
  | .local _ .vmem, ⟨18, _⟩ => ⟨S1x256x2560, .bf16⟩
  | .local _ .vmem, ⟨19, _⟩ => ⟨S1x256x2560, .bf16⟩
  | .local _ .vmem, ⟨20, _⟩ => ⟨S1x256x640, .bf16⟩
  | .local _ .vmem, ⟨21, _⟩ => ⟨S1x256x640, .bf16⟩
  | .local _ .vmem, ⟨22, _⟩ => ⟨S1x5x256x128, .fp8e4m3⟩
  | .local _ .vmem, ⟨23, _⟩ => ⟨S1x5x256x128, .fp8e4m3⟩
  | .local _ .vmem, ⟨24, _⟩ => ⟨S1x5x256x128, .fp8e4m3⟩
  | .local _ .vmem, ⟨25, _⟩ => ⟨S1x5x256x128, .fp8e4m3⟩
  | .local _ .vmem, ⟨26, _⟩ => ⟨S1x256x640, .fp8e4m3⟩
  | .local _ .vmem, ⟨27, _⟩ => ⟨S1x256x640, .fp8e4m3⟩
  | .local _ .vmem, ⟨28, _⟩ => ⟨S1x1x256, .f32⟩
  | .local _ .vmem, ⟨29, _⟩ => ⟨S1x1x256, .f32⟩
  | .local _ .vmem, ⟨30, _⟩ => ⟨S1x256x2560, .fp8e4m3⟩
  | .local _ .vmem, ⟨31, _⟩ => ⟨S1x256x2560, .fp8e4m3⟩
  | .local _ .vmem, ⟨32, _⟩ => ⟨S1x1x256, .f32⟩
  | .local _ .vmem, ⟨33, _⟩ => ⟨S1x1x256, .f32⟩
  | .local _ .vmem, ⟨34, _⟩ => ⟨S1x1728x256, .fp8e4m3⟩
  | .local _ .vmem, ⟨35, _⟩ => ⟨S1x1728x256, .fp8e4m3⟩
  | .local _ .vmem, ⟨36, _⟩ => ⟨S1x1x256, .f32⟩
  | .local _ .vmem, ⟨37, _⟩ => ⟨S1x1x256, .f32⟩
  | .local _ .smem, ⟨0, _⟩ => ⟨S19, .i32⟩
  | _, _ => ⟨S2x12240x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev main_v13_3 : Ref sig .tc := ⟨.hbm, 34, rfl⟩
abbrev main_v13_4 : Ref sig .tc := ⟨.hbm, 35, rfl⟩
abbrev main_v13_5 : Ref sig .tc := ⟨.hbm, 36, rfl⟩
abbrev main_v13_6 : Ref sig .tc := ⟨.hbm, 37, rfl⟩
abbrev main_v13_7 : Ref sig .tc := ⟨.hbm, 38, rfl⟩
abbrev main_v13_8 : Ref sig .tc := ⟨.hbm, 39, rfl⟩
abbrev main_v13_9 : Ref sig .tc := ⟨.hbm, 40, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37

abbrev nD : Nat := 1
abbrev τ : Topo := Topo.v7x

variable {F : FTy → Type} [FloatOps F]

abbrev grid0 : Pipeline.Grid := ⟨2, ![2, 48], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x18x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x6x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S640x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1728x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1728x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1728x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1728x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1728x2560 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2560 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x2560 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x640 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x5x256x128 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x5x256x128 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x640 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x2560 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1728x256 .fp8e4m3 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== MRefIdeal.lean ====
abbrev S19 : Shape := ⟨1, ![19]⟩
abbrev S2x12240x2560 : Shape := ⟨3, ![2, 12240, 2560]⟩
abbrev S2x5x12240x128 : Shape := ⟨4, ![2, 5, 12240, 128]⟩
abbrev S2x10x12288x128 : Shape := ⟨4, ![2, 10, 12288, 128]⟩
abbrev S2x18x16x128 : Shape := ⟨4, ![2, 18, 16, 128]⟩
abbrev S2x6x2560 : Shape := ⟨3, ![2, 6, 2560]⟩
abbrev S640x2560 : Shape := ⟨2, ![640, 2560]⟩
abbrev S2560 : Shape := ⟨1, ![2560]⟩
abbrev S2560x1728 : Shape := ⟨2, ![2560, 1728]⟩
abbrev S1728 : Shape := ⟨1, ![1728]⟩
abbrev S1728x2560 : Shape := ⟨2, ![1728, 2560]⟩
abbrev S19x1 : Shape := ⟨2, ![19, 1]⟩
abbrev S1x2560 : Shape := ⟨2, ![1, 2560]⟩
abbrev S1x1728 : Shape := ⟨2, ![1, 1728]⟩
abbrev S2x12240x640 : Shape := ⟨3, ![2, 12240, 640]⟩
abbrev S2x1x12240 : Shape := ⟨3, ![2, 1, 12240]⟩
abbrev S2x1728x12240 : Shape := ⟨3, ![2, 1728, 12240]⟩
abbrev S18x12240 : Shape := ⟨2, ![18, 12240]⟩
abbrev S18x1 : Shape := ⟨2, ![18, 1]⟩
abbrev S12240 : Shape := ⟨1, ![12240]⟩
abbrev S1x12240 : Shape := ⟨2, ![1, 12240]⟩
abbrev S1x18x1x12240 : Shape := ⟨4, ![1, 18, 1, 12240]⟩
abbrev S2x18x10x1 : Shape := ⟨4, ![2, 18, 10, 1]⟩
abbrev S2x18x10x12240 : Shape := ⟨4, ![2, 18, 10, 12240]⟩
abbrev S2x10x12240 : Shape := ⟨3, ![2, 10, 12240]⟩
abbrev S2x10x12240x1 : Shape := ⟨4, ![2, 10, 12240, 1]⟩
abbrev S2x10x12240x128 : Shape := ⟨4, ![2, 10, 12240, 128]⟩
abbrev S2x1x12240x128 : Shape := ⟨4, ![2, 1, 12240, 128]⟩
abbrev S2x12240x128 : Shape := ⟨3, ![2, 12240, 128]⟩
abbrev S2x12240 : Shape := ⟨2, ![2, 12240]⟩
abbrev S2x12240x1 : Shape := ⟨3, ![2, 12240, 1]⟩
abbrev S2x1x2560 : Shape := ⟨3, ![2, 1, 2560]⟩
abbrev S1x640x2560 : Shape := ⟨3, ![1, 640, 2560]⟩
abbrev S2x640x2560 : Shape := ⟨3, ![2, 640, 2560]⟩
abbrev S1x1x2560 : Shape := ⟨3, ![1, 1, 2560]⟩
abbrev S1x2560x1728 : Shape := ⟨3, ![1, 2560, 1728]⟩
abbrev S2x2560x1728 : Shape := ⟨3, ![2, 2560, 1728]⟩
abbrev S2x12240x1728 : Shape := ⟨3, ![2, 12240, 1728]⟩
abbrev S1x1x1728 : Shape := ⟨3, ![1, 1, 1728]⟩
abbrev S1x1728x2560 : Shape := ⟨3, ![1, 1728, 2560]⟩
abbrev S2x1728x2560 : Shape := ⟨3, ![2, 1728, 2560]⟩

abbrev nBuf : Space → Nat
  | .hbm => 29
  | .vmem => 24
  | .smem => 0
  | _ => 0

abbrev bufTy : (tb : Table) → Fin (tcTables nBuf tb) → BufTy
  | .hbm, ⟨0, _⟩ => ⟨S19, .i32⟩
  | .hbm, ⟨1, _⟩ => ⟨S2x12240x2560, .bf16⟩
  | .hbm, ⟨2, _⟩ => ⟨S2x5x12240x128, .f32⟩
  | .hbm, ⟨3, _⟩ => ⟨S2x10x12288x128, .f32⟩
  | .hbm, ⟨4, _⟩ => ⟨S2x18x16x128, .f32⟩
  | .hbm, ⟨5, _⟩ => ⟨S2x6x2560, .f32⟩
  | .hbm, ⟨6, _⟩ => ⟨S640x2560, .fp8e4m3⟩
  | .hbm, ⟨7, _⟩ => ⟨S2560, .f32⟩
  | .hbm, ⟨8, _⟩ => ⟨S2560x1728, .fp8e4m3⟩
  | .hbm, ⟨9, _⟩ => ⟨S1728, .f32⟩
  | .hbm, ⟨10, _⟩ => ⟨S2560x1728, .fp8e4m3⟩
  | .hbm, ⟨11, _⟩ => ⟨S1728, .f32⟩
  | .hbm, ⟨12, _⟩ => ⟨S1728x2560, .fp8e4m3⟩
  | .hbm, ⟨13, _⟩ => ⟨S2560, .f32⟩
  | .hbm, ⟨14, _⟩ => ⟨S19x1, .i32⟩
  | .hbm, ⟨15, _⟩ => ⟨S1x2560, .f32⟩
  | .hbm, ⟨16, _⟩ => ⟨S1x1728, .f32⟩
  | .hbm, ⟨17, _⟩ => ⟨S1x1728, .f32⟩
  | .hbm, ⟨18, _⟩ => ⟨S1x2560, .f32⟩
  | .hbm, ⟨19, _⟩ => ⟨S2x12240x2560, .bf16⟩
  | .hbm, ⟨20, _⟩ => ⟨S2x12240x640, .bf16⟩
  | .hbm, ⟨21, _⟩ => ⟨S2x5x12240x128, .fp8e4m3⟩
  | .hbm, ⟨22, _⟩ => ⟨S2x5x12240x128, .fp8e4m3⟩
  | .hbm, ⟨23, _⟩ => ⟨S2x12240x640, .fp8e4m3⟩
  | .hbm, ⟨24, _⟩ => ⟨S2x1x12240, .f32⟩
  | .hbm, ⟨25, _⟩ => ⟨S2x12240x2560, .fp8e4m3⟩
  | .hbm, ⟨26, _⟩ => ⟨S2x1x12240, .f32⟩
  | .hbm, ⟨27, _⟩ => ⟨S2x1728x12240, .fp8e4m3⟩
  | .hbm, ⟨28, _⟩ => ⟨S2x1x12240, .f32⟩
  | .local _ .vmem, ⟨0, _⟩ => ⟨S19x1, .i32⟩
  | .local _ .vmem, ⟨1, _⟩ => ⟨S2x12240x2560, .bf16⟩
  | .local _ .vmem, ⟨2, _⟩ => ⟨S2x5x12240x128, .f32⟩
  | .local _ .vmem, ⟨3, _⟩ => ⟨S2x10x12288x128, .f32⟩
  | .local _ .vmem, ⟨4, _⟩ => ⟨S2x18x16x128, .f32⟩
  | .local _ .vmem, ⟨5, _⟩ => ⟨S2x6x2560, .f32⟩
  | .local _ .vmem, ⟨6, _⟩ => ⟨S640x2560, .fp8e4m3⟩
  | .local _ .vmem, ⟨7, _⟩ => ⟨S1x2560, .f32⟩
  | .local _ .vmem, ⟨8, _⟩ => ⟨S2560x1728, .fp8e4m3⟩
  | .local _ .vmem, ⟨9, _⟩ => ⟨S1x1728, .f32⟩
  | .local _ .vmem, ⟨10, _⟩ => ⟨S2560x1728, .fp8e4m3⟩
  | .local _ .vmem, ⟨11, _⟩ => ⟨S1x1728, .f32⟩
  | .local _ .vmem, ⟨12, _⟩ => ⟨S1728x2560, .fp8e4m3⟩
  | .local _ .vmem, ⟨13, _⟩ => ⟨S1x2560, .f32⟩
  | .local _ .vmem, ⟨14, _⟩ => ⟨S2x12240x2560, .bf16⟩
  | .local _ .vmem, ⟨15, _⟩ => ⟨S2x12240x640, .bf16⟩
  | .local _ .vmem, ⟨16, _⟩ => ⟨S2x5x12240x128, .fp8e4m3⟩
  | .local _ .vmem, ⟨17, _⟩ => ⟨S2x5x12240x128, .fp8e4m3⟩
  | .local _ .vmem, ⟨18, _⟩ => ⟨S2x12240x640, .fp8e4m3⟩
  | .local _ .vmem, ⟨19, _⟩ => ⟨S2x1x12240, .f32⟩
  | .local _ .vmem, ⟨20, _⟩ => ⟨S2x12240x2560, .fp8e4m3⟩
  | .local _ .vmem, ⟨21, _⟩ => ⟨S2x1x12240, .f32⟩
  | .local _ .vmem, ⟨22, _⟩ => ⟨S2x1728x12240, .fp8e4m3⟩
  | .local _ .vmem, ⟨23, _⟩ => ⟨S2x1x12240, .f32⟩
  | _, _ => ⟨S19, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v5_4 : Ref sig .tc := ⟨.hbm, 23, rfl⟩
abbrev main_v5_5 : Ref sig .tc := ⟨.hbm, 24, rfl⟩
abbrev main_v5_6 : Ref sig .tc := ⟨.hbm, 25, rfl⟩
abbrev main_v5_7 : Ref sig .tc := ⟨.hbm, 26, rfl⟩
abbrev main_v5_8 : Ref sig .tc := ⟨.hbm, 27, rfl⟩
abbrev main_v5_9 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S19x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x12240x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x5x12240x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x10x12288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x18x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x6x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2560x1728 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1728 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2560x1728 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1728 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1728x2560 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2560 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x12240x2560 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x12240x640 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x5x12240x128 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x5x12240x128 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x12240x640 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1x12240 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x12240x2560 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1x12240 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1728x12240 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x1x12240 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Proof.Spec.lean ====
/-
  The mathematics of one token's row, over the extended reals: the quantiser of a row (scale and codes), the modulated
  norm, a linear layer on quantised codes, the gated hidden row and the two residual steps.  Both the kernels and the
  references are read as these functions of a row, so that the comparison of two programs is the comparison of the rows
  that they read.  Beside the definitions: the two places where a kernel multiplies by a reciprocal instead of dividing,
  which is the same number because the divisor is never zero.
-/
module

public import Idealize.ShloMosaic.Lib.Pointwise
public import Idealize.ShloMosaic.Lib.IdealHost

@[expose] public section

noncomputable section

open Idealize.ShloMosaic

namespace Cert.Spec

/-! ### The constants -/

/-- The largest finite fp8 magnitude, 448. -/
abbrev c448 : EReal := Ideal.ofBits .f32 0x43E00000#32
/-- Minus 448. -/
abbrev cm448 : EReal := Ideal.ofBits .f32 0xC3E00000#32
/-- The row length of the norm, 2560. -/
abbrev c2560 : EReal := Ideal.ofBits .f32 0x45200000#32
/-- The norm's small constant, the f32 nearest to 1e-6. -/
abbrev ceps : EReal := Ideal.ofBits .f32 0x358637BD#32
/-- Minus infinity, where a maximum starts. -/
abbrev cbot : EReal := Ideal.ofBits .f32 0xFF800000#32

theorem c448_eq : c448 = ((448 : ℝ) : EReal) := by
  simp [c448, Ideal.ofBits, Ideal.ieee, -EReal.coe_mul]; norm_num

theorem c2560_eq : c2560 = ((2560 : ℝ) : EReal) := by
  simp [c2560, Ideal.ofBits, Ideal.ieee, -EReal.coe_mul]; norm_num

theorem cbot_eq : cbot = ⊥ := by
  simp [cbot, Ideal.ofBits, Ideal.ieee, -EReal.coe_mul]

theorem ceps_pos : 0 < ceps := by
  simp [ceps, Ideal.ofBits, Ideal.ieee, -EReal.coe_mul]

/-! ### The quantiser of a row -/

/-- A scale from a largest magnitude: 1 where the magnitude is 0, otherwise the magnitude over 448. -/
def scaleOf (a : EReal) : EReal := if a = 0 then 1 else Ideal.div a c448

/-- The largest of a row's values. -/
def vmax {n : Nat} (v : Fin n → EReal) : EReal := Finset.fold max cbot v Finset.univ

/-- The largest magnitude of a row. -/
def amax {n : Nat} (v : Fin n → EReal) : EReal := vmax fun x => FloatOps.absf (F := Ideal) (φ := .f32) (v x)

/-- A row's scale. -/
def qscale {n : Nat} (v : Fin n → EReal) : EReal := scaleOf (amax v)

/-- A value's code under a scale: divided by the scale and clipped to ±448. -/
def code (s v : EReal) : EReal := min c448 (max cm448 (Ideal.div v s))

/-- A row's codes. -/
def qcode {n : Nat} (v : Fin n → EReal) (j : Fin n) : EReal := code (qscale v) (v j)

/-- A scale is never zero. -/
theorem scaleOf_ne_zero (a : EReal) : scaleOf a ≠ 0 := by
  unfold scaleOf
  split
  · exact one_ne_zero
  · rename_i h
    have h448 : c448 ≠ 0 := by rw [c448_eq]; norm_num
    unfold Ideal.div
    rw [if_neg h448]
    intro e
    rcases mul_eq_zero.mp e with e | e
    · exact h e
    · rw [c448_eq, ← EReal.coe_inv] at e
      norm_num at e

/-- Multiplying by a scale's reciprocal is dividing by the scale. -/
theorem code_of_inv (a v : EReal) :
    min c448 (max cm448 (v * Ideal.div 1 (scaleOf a))) = code (scaleOf a) v := by
  unfold code
  rw [Ideal.mul_one_div (scaleOf_ne_zero a)]

/-- The same for a row's codes. -/
theorem qcode_of_inv {n : Nat} (v : Fin n → EReal) (j : Fin n) :
    min c448 (max cm448 (v j * Ideal.div 1 (qscale v))) = qcode v j := code_of_inv _ _

/-- A row's codes, spelt with the row's scale. -/
theorem qcode_eq {n : Nat} (v : Fin n → EReal) (j : Fin n) :
    min c448 (max cm448 (Ideal.div (v j) (qscale v))) = qcode v j := rfl

/-- A row's scale, spelt with the row's largest magnitude. -/
theorem qscale_eq {n : Nat} (v : Fin n → EReal) :
    (if (vmax fun x => FloatOps.absf (F := Ideal) (φ := .f32) (v x)) = 0 then 1
      else Ideal.div (vmax fun x => FloatOps.absf (F := Ideal) (φ := .f32) (v x)) c448) = qscale v := rfl

/-! ### Maxima over an axis, at any sizes -/

/-- A maximum over the last axis of a matrix is each row's largest value. -/
theorem max_r2_a1 {n0 n1 : Nat} (h : (⟨2, ![n0, n1]⟩ : Shape).Reduces [1] ⟨1, ![n0]⟩) (v : FVec Ideal ⟨2, ![n0, n1]⟩ .f32)
    (hφ : FKind.Formats .f32) (hacc : 0xFF800000#32 = FKind.maximumf.neutral .f32 hφ) :
    multiReduction .maximumf [1] ⟨1, ![n0]⟩ v 0xFF800000#32 h hφ hacc = fun j => vmax fun k : Fin n1 => v (ix2 (j 0) k) := by
  funext j
  unfold vmax
  pointwise

/-- A maximum over the first axis of a matrix is each column's largest value. -/
theorem max_r2_a0 {n0 n1 : Nat} (h : (⟨2, ![n0, n1]⟩ : Shape).Reduces [0] ⟨1, ![n1]⟩) (v : FVec Ideal ⟨2, ![n0, n1]⟩ .f32)
    (hφ : FKind.Formats .f32) (hacc : 0xFF800000#32 = FKind.maximumf.neutral .f32 hφ) :
    multiReduction .maximumf [0] ⟨1, ![n1]⟩ v 0xFF800000#32 h hφ hacc = fun j => vmax fun k : Fin n0 => v (ix2 k (j 0)) := by
  funext j
  unfold vmax
  pointwise

/-- A maximum over the last axis of a rank-3 array. -/
theorem max_r3_a2 {n0 n1 n2 : Nat} (h : (⟨3, ![n0, n1, n2]⟩ : Shape).Reduces [2] ⟨2, ![n0, n1]⟩) (v : FVec Ideal ⟨3, ![n0, n1, n2]⟩ .f32)
    (hφ : FKind.Formats .f32) (hacc : 0xFF800000#32 = FKind.maximumf.neutral .f32 hφ) :
    multiReduction .maximumf [2] ⟨2, ![n0, n1]⟩ v 0xFF800000#32 h hφ hacc = fun j => vmax fun k : Fin n2 => v (ix3 (j 0) (j 1) k) := by
  funext j
  unfold vmax
  pointwise

/-! ### The modulated norm of a row -/

/-- The root of a row's mean square plus the small constant. -/
def rms (y : Fin 2560 → EReal) : EReal := Ideal.sqrt (Ideal.div (∑ x, y x * y x) c2560 + ceps)

/-- The modulated norm of a row: over the root of its mean square, times one plus `sc`, plus `sh`. -/
def modnorm (y sh sc : Fin 2560 → EReal) (j : Fin 2560) : EReal := Ideal.div (y j) (rms y) * (1 + sc j) + sh j

theorem sq_nonneg' (x : EReal) : 0 ≤ x * x := by
  induction x with
  | bot => simp
  | top => simp
  | coe r => exact_mod_cast mul_self_nonneg r

theorem sqrt_ne_zero {x : EReal} (h : 0 < x) : Ideal.sqrt x ≠ 0 := by
  induction x with
  | bot => simp at h
  | top => exact EReal.top_ne_zero
  | coe r =>
    have hr : 0 < r := by exact_mod_cast h
    have : ¬ r < 0 := not_lt.mpr hr.le
    rw [Ideal.sqrt_coe, if_neg this]
    have := (Real.sqrt_pos.mpr hr).ne'
    exact_mod_cast this

/-- The root is never zero: what is under it is at least the small constant. -/
theorem rms_ne_zero (y : Fin 2560 → EReal) : rms y ≠ 0 := by
  apply sqrt_ne_zero
  have h2560 : c2560 ≠ 0 := by rw [c2560_eq]; norm_num
  have h0 : (0 : EReal) ≤ Ideal.div (∑ x, y x * y x) c2560 := by
    unfold Ideal.div
    rw [if_neg h2560, c2560_eq, ← EReal.coe_inv]
    refine mul_nonneg (Finset.sum_nonneg fun i _ => sq_nonneg' _) ?_
    exact_mod_cast (by norm_num : (0 : ℝ) ≤ (2560 : ℝ)⁻¹)
  exact lt_of_lt_of_le ceps_pos (le_add_of_nonneg_left h0)

/-- Multiplying by the root's reciprocal is dividing by the root. -/
theorem modnorm_of_inv (y sh sc : Fin 2560 → EReal) (j : Fin 2560) :
    y j * Ideal.div 1 (rms y) * (1 + sc j) + sh j = modnorm y sh sc j := by
  unfold modnorm
  rw [Ideal.mul_one_div (rms_ne_zero y)]

/-! ### Linear layers on codes, the hidden row, the residual steps -/

/-- A linear layer on a row of codes `c` with the row's scale `s`, the weight's codes `w` and its column scales `ws`. -/
def lin {n p : Nat} (c : Fin n → EReal) (s : EReal) (w : Fin n → Fin p → EReal) (ws : Fin p → EReal) (j : Fin p) : EReal :=
  (∑ x, c x * w x j) * s * ws j

/-- The residual row after the projection. -/
def resid {n p : Nat} (x gate : Fin p → EReal) (c : Fin n → EReal) (s : EReal) (w : Fin n → Fin p → EReal)
    (ws : Fin p → EReal) (j : Fin p) : EReal := x j + gate j * lin c s w ws j

/-- A gated pair: `g · logistic g · u`. -/
def gate (g u : EReal) : EReal := g * Ideal.logistic g * u

/-- The gated hidden row from a row of codes and its scale. -/
def hid {n p : Nat} (c : Fin n → EReal) (s : EReal) (w1 : Fin n → Fin p → EReal) (s1 : Fin p → EReal)
    (w3 : Fin n → Fin p → EReal) (s3 : Fin p → EReal) (j : Fin p) : EReal := gate (lin c s w1 s1 j) (lin c s w3 s3 j)

/-! ### A token and the weights -/

/-- What one token brings: its residual row, its attention codes and their scale, the six modulation rows. -/
structure Tok where
  /-- the residual row -/
  x : Fin 2560 → EReal
  /-- the attention codes -/
  c : Fin 640 → EReal
  /-- the attention codes' scale -/
  s : EReal
  /-- the six modulation rows -/
  m : Fin 6 → Fin 2560 → EReal

/-- The weights' codes, each `input × output`, and their column scales. -/
structure Wts where
  /-- output projection -/
  wo : Fin 640 → Fin 2560 → EReal
  /-- its column scales -/
  so : Fin 2560 → EReal
  /-- gate weights -/
  w1 : Fin 2560 → Fin 1728 → EReal
  /-- their column scales -/
  s1 : Fin 1728 → EReal
  /-- up weights -/
  w3 : Fin 2560 → Fin 1728 → EReal
  /-- their column scales -/
  s3 : Fin 1728 → EReal
  /-- down weights -/
  w2 : Fin 1728 → Fin 2560 → EReal
  /-- their column scales -/
  s2 : Fin 2560 → EReal

/-- The token's row after the attention projection. -/
def yrow (T : Tok) (W : Wts) : Fin 2560 → EReal := resid T.x (T.m 2) T.c T.s W.wo W.so

/-- Its modulated norm, the row that the feed-forward layer quantises. -/
def vrow (T : Tok) (W : Wts) : Fin 2560 → EReal := modnorm (yrow T W) (T.m 3) (T.m 4)

/-- The hidden row. -/
def hrow (T : Tok) (W : Wts) : Fin 1728 → EReal :=
  hid (qcode (vrow T W)) (qscale (vrow T W)) W.w1 W.s1 W.w3 W.s3

/-- The token's row after the feed-forward layer. -/
def zrow (T : Tok) (W : Wts) : Fin 2560 → EReal :=
  resid (yrow T W) (T.m 5) (qcode (hrow T W)) (qscale (hrow T W)) W.w2 W.s2

end Cert.Spec
-- ==== Proof.TMlpIdeal.Pay.lean ====
/-
  The text kernel's payloads at an index: each is a function of one token's row (Proof/Spec.lean) of what it reads.
-/
module

public import proofs.«01_k».proof.Proof.Gen.TMlpIdeal.Skeleton
public import proofs.«01_k».proof.Proof.Spec
public import Idealize.ShloMosaic.Lib.Pointwise

@[expose] public section

set_option maxRecDepth 16384
set_option backward.isDefEq.respectTransparency false

noncomputable section

open Idealize.ShloMosaic Idealize.ShloMosaic.TcCoe Idealize.SL.Sem

namespace Cert.TMlpIdeal.Vals
open Cert.TMlpIdeal Cert.TMlpIdeal.Gen Cert.Spec

/-- The residual row after the projection. -/
theorem pay4_at (v0 : Vec Ideal S1x256x2560 .bf16) (v3 : Vec Ideal S1x256x640 .fp8e4m3) (v5 : Vec Ideal S1x1x256 .f32)
    (v11 : Vec Ideal S640x2560 .fp8e4m3) (v13 : Vec Ideal S1x1x2560 .f32) (v17 : Vec Ideal S1x2560 .f32)
    (r : Fin 256) (l : Fin 2560) :
    k0_pay4 (F := Ideal) v0 v3 v5 v11 v13 v17 (ix2 r l)
      = resid (fun j : Fin 2560 => v0 (ix3 0 r j)) (fun j => v13 (ix3 0 0 j)) (fun k : Fin 640 => v3 (ix3 0 r k)) (v5 (ix3 0 0 r))
          (fun k j => v11 (ix2 k j)) (fun j => v17 (ix2 0 j)) l := by
  pointwise [k0_pay4, resid, lin]

/-- The mean square of the residual row. -/
theorem pay7_at (v0 : Vec Ideal S1x256x2560 .bf16) (v3 : Vec Ideal S1x256x640 .fp8e4m3) (v5 : Vec Ideal S1x1x256 .f32)
    (v11 : Vec Ideal S640x2560 .fp8e4m3) (v13 : Vec Ideal S1x1x2560 .f32) (v17 : Vec Ideal S1x2560 .f32)
    (r : Fin 256) (l : Fin 1) :
    k0_pay7 (F := Ideal) v0 v3 v5 v11 v13 v17 (ix2 r l)
      = Ideal.div (∑ x, k0_pay4 (F := Ideal) v0 v3 v5 v11 v13 v17 (ix2 r x) * k0_pay4 (F := Ideal) v0 v3 v5 v11 v13 v17 (ix2 r x)) c2560 := by
  pointwise [k0_pay7]

/-- The modulated norm of a row whose mean square is `v32`. -/
theorem pay8_at (v23 : FVec Ideal S256x2560 .f32) (v25 v27 : FVec Ideal S1x2560 .f32) (v32 : FVec Ideal S256x1 .f32)
    (r : Fin 256) (h : v32 (ix2 r 0) = Ideal.div (∑ x : Fin 2560, v23 (ix2 r x) * v23 (ix2 r x)) c2560) (l : Fin 2560) :
    k0_pay8 (F := Ideal) v23 v25 v27 v32 (ix2 r l)
      = modnorm (fun j => v23 (ix2 r j)) (fun j => v25 (ix2 0 j)) (fun j => v27 (ix2 0 j)) l := by
  rw [← modnorm_of_inv]
  pointwise [k0_pay8]
  rw [h]
  rfl

/-- A row's scale. -/
theorem pay9_at (v23 : FVec Ideal S256x2560 .f32) (v25 v27 : FVec Ideal S1x2560 .f32) (v32 : FVec Ideal S256x1 .f32)
    (r : Fin 256) (l : Fin 1) :
    k0_pay9 (F := Ideal) v23 v25 v27 v32 (ix2 r l)
      = qscale (fun j : Fin 2560 => k0_pay8 (F := Ideal) v23 v25 v27 v32 (ix2 r j)) := by
  refine Eq.trans ?_ (qscale_eq _)
  unfold k0_pay9
  rw [max_r2_a1]
  pointwise

/-- A row's codes. -/
theorem pay10_at (v23 : FVec Ideal S256x2560 .f32) (v25 v27 : FVec Ideal S1x2560 .f32) (v32 : FVec Ideal S256x1 .f32)
    (r : Fin 256) (l : Fin 2560) :
    k0_pay10 (F := Ideal) v23 v25 v27 v32 (ix2 r l)
      = qcode (fun j : Fin 2560 => k0_pay8 (F := Ideal) v23 v25 v27 v32 (ix2 r j)) l := by
  refine Eq.trans ?_ (qcode_of_inv _ _)
  have h := pay9_at v23 v25 v27 v32 r 0
  unfold k0_pay10
  generalize k0_pay9 (F := Ideal) v23 v25 v27 v32 = s at *
  generalize k0_pay8 (F := Ideal) v23 v25 v27 v32 = v at *
  as_aux_lemma =>
    pointwise
    rw [h]

/-- The hidden row. -/
theorem pay14_at (v63 : FVec Ideal S256x2560 .fp8e4m3) (v70 : FVec Ideal S1x256 .f32) (v74 : Vec Ideal S1728x2560 .fp8e4m3)
    (v79 : Vec Ideal S1728x1 .f32) (v83 : Vec Ideal S1728x2560 .fp8e4m3) (v88 : Vec Ideal S1728x1 .f32) (r : Fin 1728) (l : Fin 256) :
    k0_pay14 (F := Ideal) v63 v70 v74 v79 v83 v88 (ix2 r l)
      = hid (fun k : Fin 2560 => v63 (ix2 l k)) (v70 (ix2 0 l)) (fun k j => v74 (ix2 j k)) (fun j : Fin 1728 => v79 (ix2 j 0))
          (fun k j => v83 (ix2 j k)) (fun j => v88 (ix2 j 0)) r := by
  have e : ∀ w : Vec Ideal S1728x2560 .fp8e4m3, (∑ x : Fin 2560, w (ix2 r x) * v63 (ix2 l x)) = ∑ x : Fin 2560, v63 (ix2 l x) * w (ix2 r x) :=
    fun w => Finset.sum_congr rfl fun x _ => mul_comm _ _
  pointwise [k0_pay14, hid, gate, lin]
  rw [e, e]

/-- The hidden row's scale. -/
theorem pay15_at (v63 : FVec Ideal S256x2560 .fp8e4m3) (v70 : FVec Ideal S1x256 .f32) (v74 : Vec Ideal S1728x2560 .fp8e4m3)
    (v79 : Vec Ideal S1728x1 .f32) (v83 : Vec Ideal S1728x2560 .fp8e4m3) (v88 : Vec Ideal S1728x1 .f32) (r : Fin 1) (l : Fin 256) :
    k0_pay15 (F := Ideal) v63 v70 v74 v79 v83 v88 (ix2 r l)
      = qscale (fun j : Fin 1728 => k0_pay14 (F := Ideal) v63 v70 v74 v79 v83 v88 (ix2 j l)) := by
  refine Eq.trans ?_ (qscale_eq _)
  unfold k0_pay15
  rw [max_r2_a0]
  pointwise

/-- The hidden row's codes. -/
theorem pay1_at (v63 : FVec Ideal S256x2560 .fp8e4m3) (v70 : FVec Ideal S1x256 .f32) (v74 : Vec Ideal S1728x2560 .fp8e4m3)
    (v79 : Vec Ideal S1728x1 .f32) (v83 : Vec Ideal S1728x2560 .fp8e4m3) (v88 : Vec Ideal S1728x1 .f32) (r : Fin 1728) (l : Fin 256) :
    k0_pay1 (F := Ideal) (k0_pay17 v63 v70 v74 v79 v83 v88) (k0_pay18 (F := Ideal)) (ix2 r l)
      = qcode (fun j : Fin 1728 => k0_pay14 (F := Ideal) v63 v70 v74 v79 v83 v88 (ix2 j l)) r := by
  refine Eq.trans ?_ (qcode_of_inv _ _)
  have h := pay15_at v63 v70 v74 v79 v83 v88 0 l
  unfold k0_pay1 k0_pay17 k0_pay18
  generalize k0_pay15 (F := Ideal) v63 v70 v74 v79 v83 v88 = s at *
  generalize k0_pay14 (F := Ideal) v63 v70 v74 v79 v83 v88 = v at *
  as_aux_lemma =>
    pointwise
    rw [h]

/-- The row after the feed-forward layer. -/
theorem pay3_at (v23 : FVec Ideal S256x2560 .f32) (v103 : FVec Ideal S1x256 .f32) (v112 v113 : FVec Ideal S1728x256 .f32)
    (v119 : Vec Ideal S1x1x2560 .f32) (v121 : Vec Ideal S1728x2560 .fp8e4m3) (v129 : Vec Ideal S1x2560 .f32)
    (b : Fin 1) (r : Fin 256) (l : Fin 2560) :
    k0_pay3 (F := Ideal) v23 v103 v112 v113 v119 v121 v129 (ix3 b r l)
      = resid (fun j => v23 (ix2 r j)) (fun j => v119 (ix3 0 0 j)) (fun k : Fin 1728 => k0_pay1 (F := Ideal) v112 v113 (ix2 k r)) (v103 (ix2 0 r))
          (fun k j => v121 (ix2 k j)) (fun j => v129 (ix2 0 j)) l := by
  pointwise [k0_pay3, resid, lin]

/-- The stored codes, scales and hidden codes are the values above, moved. -/
theorem pay11_at (v23 : FVec Ideal S256x2560 .f32) (v25 v27 : FVec Ideal S1x2560 .f32) (v32 : FVec Ideal S256x1 .f32)
    (b : Fin 1) (r : Fin 256) (l : Fin 2560) :
    k0_pay11 (F := Ideal) v23 v25 v27 v32 (ix3 b r l) = k0_pay10 (F := Ideal) v23 v25 v27 v32 (ix2 r l) := by
  pointwise [k0_pay11]

theorem pay12_at (v23 : FVec Ideal S256x2560 .f32) (v25 v27 : FVec Ideal S1x2560 .f32) (v32 : FVec Ideal S256x1 .f32)
    (b : Fin 1) (r : Fin 256) :
    k0_pay12 (F := Ideal) v23 v25 v27 v32 (ix2 b r) = k0_pay9 (F := Ideal) v23 v25 v27 v32 (ix2 r 0) := by
  pointwise [k0_pay12]

theorem pay13_at (v23 : FVec Ideal S256x2560 .f32) (v25 v27 : FVec Ideal S1x2560 .f32) (v32 : FVec Ideal S256x1 .f32)
    (a b : Fin 1) (r : Fin 256) :
    k0_pay13 (F := Ideal) v23 v25 v27 v32 (ix3 a b r) = k0_pay9 (F := Ideal) v23 v25 v27 v32 (ix2 r 0) := by
  pointwise [k0_pay13, k0_pay12]

theorem pay2_at (v112 v113 : FVec Ideal S1728x256 .f32) (a : Fin 1) (j : Fin 1728) (r : Fin 256) :
    k0_pay2 (F := Ideal) v112 v113 (ix3 a j r) = k0_pay1 (F := Ideal) v112 v113 (ix2 j r) := by
  pointwise [k0_pay2]

theorem pay16_at (v63 : FVec Ideal S256x2560 .fp8e4m3) (v70 : FVec Ideal S1x256 .f32) (v74 : Vec Ideal S1728x2560 .fp8e4m3)
    (v79 : Vec Ideal S1728x1 .f32) (v83 : Vec Ideal S1728x2560 .fp8e4m3) (v88 : Vec Ideal S1728x1 .f32) (a b : Fin 1) (l : Fin 256) :
    k0_pay16 (F := Ideal) v63 v70 v74 v79 v83 v88 (ix3 a b l) = k0_pay15 (F := Ideal) v63 v70 v74 v79 v83 v88 (ix2 0 l) := by
  pointwise [k0_pay16]

end Cert.TMlpIdeal.Vals
-- ==== Proof.TMlpIdeal.Out.lean ====
/-
  What the text kernel's outputs hold after its body, at an index, in terms of the input blocks: one token's row
  (Proof/Spec.lean) of the blocks.
-/
module

public import proofs.«01_k».proof.Proof.Gen.TMlpIdeal.Frame
public import proofs.«01_k».proof.Proof.TMlpIdeal.Pay
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.TMlpIdeal.Vals
open Cert.TMlpIdeal Cert.TMlpIdeal.Gen Cert.Spec

variable (x0 : Vec Ideal S1x256x2560 .bf16) (x1 : Vec Ideal S1x256x640 .fp8e4m3) (x2 : Vec Ideal S1x1x256 .f32)
  (x3 : Vec Ideal S1x6x2560 .f32) (x4 : Vec Ideal S640x2560 .fp8e4m3) (x5 : Vec Ideal S1x2560 .f32)
  (x6 : Vec Ideal S1728x2560 .fp8e4m3) (x7 : Vec Ideal S1728x128 .f32) (x8 : Vec Ideal S1728x2560 .fp8e4m3)
  (x9 : Vec Ideal S1728x128 .f32) (x10 : Vec Ideal S1728x2560 .fp8e4m3) (x11 : Vec Ideal S1x2560 .f32)

/-- A token of the block. -/
def tokB (r : Fin 256) : Tok :=
  ⟨fun j => x0 (ix3 0 r j), fun k => x1 (ix3 0 r k), x2 (ix3 0 0 r), fun i j => x3 (ix3 0 i j)⟩

/-- The weights of the blocks. -/
def wtsB : Wts :=
  ⟨fun k j => x4 (ix2 k j), fun j => x5 (ix2 0 j), fun k j => x6 (ix2 j k), fun j => x7 (ix2 j 0),
   fun k j => x8 (ix2 j k), fun j => x9 (ix2 j 0), fun k j => x10 (ix2 k j), fun j => x11 (ix2 0 j)⟩

/-- The residual row. -/
theorem y_at (r : Fin 256) (l : Fin 2560) : k0_pay19 x0 x1 x2 x3 x4 x5 x6 x7 x8 x9 x10 x11 (ix2 r l) = yrow (tokB x0 x1 x2 x3 r) (wtsB x4 x5 x6 x7 x8 x9 x10 x11) l := by
  unfold k0_pay19
  rw [pay4_at]
  pointwise [yrow, resid, lin, tokB, wtsB]

/-- The modulated norm's row. -/
theorem v_at (r : Fin 256) (l : Fin 2560) :
    k0_pay8 (k0_pay19 x0 x1 x2 x3 x4 x5 x6 x7 x8 x9 x10 x11) (k0_pay20 x0 x1 x2 x3 x4 x5 x6 x7 x8 x9 x10 x11)
      (k0_pay21 x0 x1 x2 x3 x4 x5 x6 x7 x8 x9 x10 x11) (k0_pay22 x0 x1 x2 x3 x4 x5 x6 x7 x8 x9 x10 x11) (ix2 r l) = vrow (tokB x0 x1 x2 x3 r) (wtsB x4 x5 x6 x7 x8 x9 x10 x11) l := by
  have hy : (fun j : Fin 2560 => k0_pay19 x0 x1 x2 x3 x4 x5 x6 x7 x8 x9 x10 x11 (ix2 r j)) = yrow (tokB x0 x1 x2 x3 r) (wtsB x4 x5 x6 x7 x8 x9 x10 x11) :=
    funext fun j => y_at x0 x1 x2 x3 x4 x5 x6 x7 x8 x9 x10 x11 r j
  have h3 : (fun j : Fin 2560 => k0_pay20 x0 x1 x2 x3 x4 x5 x6 x7 x8 x9 x10 x11 (ix2 0 j)) = (tokB x0 x1 x2 x3 r).m 3 := by
    funext j
    pointwise [k0_pay20, k0_pay5, tokB]
  have h4 : (fun j : Fin 2560 => k0_pay21 x0 x1 x2 x3 x4 x5 x6 x7 x8 x9 x10 x11 (ix2 0 j)) = (tokB x0 x1 x2 x3 r).m 4 := by
    funext j
    pointwise [k0_pay21, k0_pay6, tokB]
  have h7 : k0_pay22 x0 x1 x2 x3 x4 x5 x6 x7 x8 x9 x10 x11 (ix2 r 0)
      = Ideal.div (∑ x : Fin 2560, k0_pay19 x0 x1 x2 x3 x4 x5 x6 x7 x8 x9 x10 x11 (ix2 r x) * k0_pay19 x0 x1 x2 x3 x4 x5 x6 x7 x8 x9 x10 x11 (ix2 r x)) c2560 :=
    pay7_at _ _ _ _ _ _ r 0
  rw [pay8_at _ _ _ _ r h7 l, hy, h3, h4]
  rfl

/-- The stored x2 codes. -/
theorem out13_at (b : Fin 1) (r : Fin 256) (l : Fin 2560) :
    out0_13 x0 x1 x2 x3 x4 x5 x6 x7 x8 x9 x10 x11 (ix3 b r l) = qcode (vrow (tokB x0 x1 x2 x3 r) (wtsB x4 x5 x6 x7 x8 x9 x10 x11)) l := by
  frame_out
  rw [pay11_at, pay10_at]
  exact congrArg (qcode · l) (funext fun j => v_at x0 x1 x2 x3 x4 x5 x6 x7 x8 x9 x10 x11 r j)

/-- The stored x2 scales. -/
theorem out14_at (a b : Fin 1) (r : Fin 256) :
    out0_14 x0 x1 x2 x3 x4 x5 x6 x7 x8 x9 x10 x11 (ix3 a b r) = qscale (vrow (tokB x0 x1 x2 x3 r) (wtsB x4 x5 x6 x7 x8 x9 x10 x11)) := by
  frame_out
  rw [pay13_at, pay9_at]
  exact congrArg qscale (funext fun j => v_at x0 x1 x2 x3 x4 x5 x6 x7 x8 x9 x10 x11 r j)

/-- The whole weight block, loaded. -/
theorem ld8 (x : Vec Ideal S1728x2560 .fp8e4m3) : View.ld x r0_8 = x := View.ld_unit_lit _ _ (by decide)

/-- The hidden row. -/
theorem h_at (r : Fin 256) (j : Fin 1728) :
    k0_pay14 (k0_pay23 x0 x1 x2 x3 x4 x5 x6 x7 x8 x9 x10 x11) (k0_pay24 x0 x1 x2 x3 x4 x5 x6 x7 x8 x9 x10 x11)
      x6 (View.ld x7 r0_9) x8 (View.ld x9 r0_9) (ix2 j r) = hrow (tokB x0 x1 x2 x3 r) (wtsB x4 x5 x6 x7 x8 x9 x10 x11) j := by
  have hc : (fun k : Fin 2560 => k0_pay23 x0 x1 x2 x3 x4 x5 x6 x7 x8 x9 x10 x11 (ix2 r k)) = qcode (vrow (tokB x0 x1 x2 x3 r) (wtsB x4 x5 x6 x7 x8 x9 x10 x11)) := by
    funext k
    unfold k0_pay23
    rw [pay10_at]
    exact congrArg (qcode · k) (funext fun j => v_at x0 x1 x2 x3 x4 x5 x6 x7 x8 x9 x10 x11 r j)
  have hs : k0_pay24 x0 x1 x2 x3 x4 x5 x6 x7 x8 x9 x10 x11 (ix2 0 r) = qscale (vrow (tokB x0 x1 x2 x3 r) (wtsB x4 x5 x6 x7 x8 x9 x10 x11)) := by
    unfold k0_pay24
    rw [pay12_at, pay9_at]
    exact congrArg qscale (funext fun j => v_at x0 x1 x2 x3 x4 x5 x6 x7 x8 x9 x10 x11 r j)
  have e7 : (fun j : Fin 1728 => View.ld x7 r0_9 (ix2 j 0)) = (wtsB x4 x5 x6 x7 x8 x9 x10 x11).s1 := by
    funext j
    pointwise [wtsB]
  have e9 : (fun j : Fin 1728 => View.ld x9 r0_9 (ix2 j 0)) = (wtsB x4 x5 x6 x7 x8 x9 x10 x11).s3 := by
    funext j
    pointwise [wtsB]
  rw [pay14_at, hc, hs, e7, e9]
  rfl

/-- The stored hidden codes. -/
theorem out15_at (a : Fin 1) (j : Fin 1728) (r : Fin 256) :
    out0_15 x0 x1 x2 x3 x4 x5 x6 x7 x8 x9 x10 x11 (ix3 a j r) = qcode (hrow (tokB x0 x1 x2 x3 r) (wtsB x4 x5 x6 x7 x8 x9 x10 x11)) j := by
  frame_out
  rw [pay2_at]
  unfold k0_pay25 k0_pay26
  rw [ld8, ld8]
  rw [pay1_at]
  exact congrArg (qcode · j) (funext fun k => h_at x0 x1 x2 x3 x4 x5 x6 x7 x8 x9 x10 x11 r k)

/-- The stored hidden scales. -/
theorem out16_at (a b : Fin 1) (r : Fin 256) :
    out0_16 x0 x1 x2 x3 x4 x5 x6 x7 x8 x9 x10 x11 (ix3 a b r) = qscale (hrow (tokB x0 x1 x2 x3 r) (wtsB x4 x5 x6 x7 x8 x9 x10 x11)) := by
  frame_out
  rw [pay16_at, pay15_at]
  exact congrArg qscale (funext fun k => h_at x0 x1 x2 x3 x4 x5 x6 x7 x8 x9 x10 x11 r k)

/-- The row after the feed-forward layer. -/
theorem out12_at (b : Fin 1) (r : Fin 256) (l : Fin 2560) :
    out0_12 x0 x1 x2 x3 x4 x5 x6 x7 x8 x9 x10 x11 (ix3 b r l) = zrow (tokB x0 x1 x2 x3 r) (wtsB x4 x5 x6 x7 x8 x9 x10 x11) l := by
  frame_out
  have hy : (fun j : Fin 2560 => k0_pay19 x0 x1 x2 x3 x4 x5 x6 x7 x8 x9 x10 x11 (ix2 r j)) = yrow (tokB x0 x1 x2 x3 r) (wtsB x4 x5 x6 x7 x8 x9 x10 x11) :=
    funext fun j => y_at x0 x1 x2 x3 x4 x5 x6 x7 x8 x9 x10 x11 r j
  rw [pay3_at, hy, pay15_at]
  unfold k0_pay25 k0_pay26
  rw [ld8, ld8]
  have hc : (fun k : Fin 1728 => k0_pay1 (F := Ideal) (k0_pay17 (k0_pay23 x0 x1 x2 x3 x4 x5 x6 x7 x8 x9 x10 x11) (k0_pay24 x0 x1 x2 x3 x4 x5 x6 x7 x8 x9 x10 x11)
      x6 (View.ld x7 r0_9) x8 (View.ld x9 r0_9)) (k0_pay18 (F := Ideal)) (ix2 k r)) = qcode (hrow (tokB x0 x1 x2 x3 r) (wtsB x4 x5 x6 x7 x8 x9 x10 x11)) := by
    funext k
    rw [pay1_at]
    exact congrArg (qcode · k) (funext fun k => h_at x0 x1 x2 x3 x4 x5 x6 x7 x8 x9 x10 x11 r k)
  rw [hc]
  have hs : (fun j : Fin 1728 => k0_pay14 (k0_pay23 x0 x1 x2 x3 x4 x5 x6 x7 x8 x9 x10 x11) (k0_pay24 x0 x1 x2 x3 x4 x5 x6 x7 x8 x9 x10 x11)
      x6 (View.ld x7 r0_9) x8 (View.ld x9 r0_9) (ix2 j r)) = hrow (tokB x0 x1 x2 x3 r) (wtsB x4 x5 x6 x7 x8 x9 x10 x11) :=
    funext fun k => h_at x0 x1 x2 x3 x4 x5 x6 x7 x8 x9 x10 x11 r k
  have e3 : (fun j : Fin 2560 => View.ld x3 r0_11 (ix3 0 0 j)) = (tokB x0 x1 x2 x3 r).m 5 := by
    funext j
    pointwise [tokB]
  rw [hs, e3]
  rfl

end Cert.TMlpIdeal.Vals
-- ==== Proof.TMlpIdeal.Final.lean ====
/-
  The text kernel's five outputs at the end of its run, as functions of the arguments: every token's row (Proof/Spec.lean).
-/
module

public import proofs.«01_k».proof.Proof.Gen.TMlpIdeal.Frame
public import proofs.«01_k».proof.Proof.TMlpIdeal.Out
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.TMlpIdeal.Vals
open Cert.TMlpIdeal Cert.TMlpIdeal.Gen Cert.Spec

variable (m : (ℓ : Loc nD τ sig) → Buf (Elt Ideal) ℓ) (c : Dev nD)

/-- A token of the arguments: batch `b`, position `r`. -/
def tok (b : Fin 2) (r : Fin 256) : Tok :=
  ⟨fun j => m ((c : Thread nD τ).loc main_arg0) (ix3 b r j), fun k => m ((c : Thread nD τ).loc main_arg1) (ix3 b r k),
   m ((c : Thread nD τ).loc main_arg2) (ix3 b 0 r), fun i j => m ((c : Thread nD τ).loc main_arg3) (ix3 b i j)⟩

/-- The weights and their scales. -/
def wts : Wts :=
  ⟨fun k j => m ((c : Thread nD τ).loc main_arg4) (ix2 k j), fun j => m ((c : Thread nD τ).loc main_arg5) (ix1 j),
   fun k j => m ((c : Thread nD τ).loc main_arg6) (ix2 k j), fun j => m ((c : Thread nD τ).loc main_arg7) (ix1 j),
   fun k j => m ((c : Thread nD τ).loc main_arg8) (ix2 k j), fun j => m ((c : Thread nD τ).loc main_arg9) (ix1 j),
   fun k j => m ((c : Thread nD τ).loc main_arg10) (ix2 k j), fun j => m ((c : Thread nD τ).loc main_arg11) (ix1 j)⟩

/-- Point `t` works on batch `t`; the weights are whole. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val, 0, 0] ∧ win0_13.index t = ![t.val, 0, 0]
    ∧ win0_14.index t = ![t.val, 0, 0] ∧ win0_15.index t = ![t.val, 0, 0] ∧ win0_16.index t = ![t.val, 0, 0] :=
  (by decide +kernel : ∀ t : Fin grid0.N, _)

/-- A token of point `t`'s blocks is the argument's. -/
theorem tok_eq (t : Fin cfg0.N) (b : Fin 2) (hb : b.val = t.val) (r : Fin 256) :
    tokB (iblk m c 0 t) (iblk m c 1 t) (iblk m c 2 t) (iblk m c 3 t) r = tok m c b r := by
  have h0 : (fun j : Fin 2560 => iblk m c 0 t (ix3 (0 : Fin 1) r j)) = fun j => m ((c : Thread nD τ).loc main_arg0) (ix3 b r j) := by
    funext j
    blk_point [iblk, V, idx t]
  have h1 : (fun j : Fin 640 => iblk m c 1 t (ix3 (0 : Fin 1) r j)) = fun j => m ((c : Thread nD τ).loc main_arg1) (ix3 b r j) := by
    funext j
    blk_point [iblk, V, idx t]
  have h2 : iblk m c 2 t (ix3 (0 : Fin 1) (0 : Fin 1) r) = m ((c : Thread nD τ).loc main_arg2) (ix3 b 0 r) := by
    blk_point [iblk, V, idx t]
  have h3 : (fun (i : Fin 6) (j : Fin 2560) => iblk m c 3 t (ix3 (0 : Fin 1) i j)) = fun i j => m ((c : Thread nD τ).loc main_arg3) (ix3 b i j) := by
    funext i j
    blk_point [iblk, V, idx t]
  exact (Tok.mk.injEq ..).mpr ⟨h0, h1, h2, h3⟩

/-- The weight blocks are the arguments', transposed or repeated on the way. -/
theorem wts_eq (t : Fin cfg0.N) : wtsB (iblk m c 4 t) (iblk m c 5 t) (iblk m c 6 t) (iblk m c 7 t) (iblk m c 8 t) (iblk m c 9 t)
    (iblk m c 10 t) (iblk m c 11 t) = wts m c := by
  have h4 : (fun (k : Fin 640) (j : Fin 2560) => iblk m c 4 t (ix2 k j)) = fun k j => m ((c : Thread nD τ).loc main_arg4) (ix2 k j) := by
    funext k j
    blk_point [iblk, V, idx t]
  have h6 : (fun (k : Fin 2560) (j : Fin 1728) => iblk m c 6 t (ix2 j k)) = fun k j => m ((c : Thread nD τ).loc main_arg6) (ix2 k j) := by
    funext k j
    blk_point [iblk, V, idx t]
  have h8 : (fun (k : Fin 2560) (j : Fin 1728) => iblk m c 8 t (ix2 j k)) = fun k j => m ((c : Thread nD τ).loc main_arg8) (ix2 k j) := by
    funext k j
    blk_point [iblk, V, idx t]
  have h10 : (fun (k : Fin 1728) (j : Fin 2560) => iblk m c 10 t (ix2 k j)) = fun k j => m ((c : Thread nD τ).loc main_arg10) (ix2 k j) := by
    funext k j
    blk_point [iblk, V, idx t]
  have h5 : (fun j : Fin 2560 => iblk m c 5 t (ix2 (0 : Fin 1) j)) = fun j => m ((c : Thread nD τ).loc main_arg5) (ix1 j) := by
    funext j
    blk_point [iblk, V, idx t]
  have h7 : (fun j : Fin 1728 => iblk m c 7 t (ix2 j (0 : Fin 128))) = fun j => m ((c : Thread nD τ).loc main_arg7) (ix1 j) := by
    funext j
    blk_point [iblk, V, idx t]
  have h9 : (fun j : Fin 1728 => iblk m c 9 t (ix2 j (0 : Fin 128))) = fun j => m ((c : Thread nD τ).loc main_arg9) (ix1 j) := by
    funext j
    blk_point [iblk, V, idx t]
  have h11 : (fun j : Fin 2560 => iblk m c 11 t (ix2 (0 : Fin 1) j)) = fun j => m ((c : Thread nD τ).loc main_arg11) (ix1 j) := by
    funext j
    blk_point [iblk, V, idx t]
  exact (Wts.mk.injEq ..).mpr ⟨h4, h5, h6, h7, h8, h9, h10, h11⟩

/-- The first output at the end of the run: the row after the feed-forward layer. -/
theorem final12 : (dats m 0 c).arrAt 12 cfg0.N = fun i => zrow (tok m c (i 0) (i 1)) (wts m c) (i 2) := by
  refine (dats m 0 c).arrAt_eq_of_covers 12 _ (by decide +kernel) fun t _ y => ?_
  blk_simp
  rw [after0_12]
  idx_vars y
  generalize he : ((View.whole main_v8_0).slice (win0_12.rect t)).emb (ix3 y0 y1 y2) = i
  have e0 : (i 0).val = t.val := by
    subst he
    blk_simp [idx t]
  have e1 : i 1 = y1 := by
    subst he
    ext
    blk_simp [idx t]
  have e2 : i 2 = y2 := by
    subst he
    ext
    blk_simp [idx t]
  rw [out12_at, tok_eq m c t (i 0) e0, wts_eq]
  show _ = zrow (tok m c (i 0) (i 1)) (wts m c) (i 2)
  rw [e1, e2]

/-- The x2 codes. -/
theorem final13 : (dats m 0 c).arrAt 13 cfg0.N = fun i => qcode (vrow (tok m c (i 0) (i 1)) (wts m c)) (i 2) := by
  refine (dats m 0 c).arrAt_eq_of_covers 13 _ (by decide +kernel) fun t _ y => ?_
  blk_simp
  rw [after0_13]
  idx_vars y
  generalize he : ((View.whole main_v8_1).slice (win0_13.rect t)).emb (ix3 y0 y1 y2) = i
  have e0 : (i 0).val = t.val := by
    subst he
    blk_simp [idx t]
  have e1 : i 1 = y1 := by
    subst he
    ext
    blk_simp [idx t]
  have e2 : i 2 = y2 := by
    subst he
    ext
    blk_simp [idx t]
  rw [out13_at, tok_eq m c t (i 0) e0, wts_eq]
  show _ = qcode (vrow (tok m c (i 0) (i 1)) (wts m c)) (i 2)
  rw [e1, e2]

/-- The x2 scales. -/
theorem final14 : (dats m 0 c).arrAt 14 cfg0.N = fun i => qscale (vrow (tok m c (i 0) (i 2)) (wts m c)) := by
  refine (dats m 0 c).arrAt_eq_of_covers 14 _ (by decide +kernel) fun t _ y => ?_
  blk_simp
  rw [after0_14]
  idx_vars y
  generalize he : ((View.whole main_v8_2).slice (win0_14.rect t)).emb (ix3 y0 y1 y2) = i
  have e0 : (i 0).val = t.val := by
    subst he
    blk_simp [idx t]
  have e1 : i 2 = y2 := by
    subst he
    ext
    blk_simp [idx t]
  rw [out14_at, tok_eq m c t (i 0) e0, wts_eq]
  show _ = qscale (vrow (tok m c (i 0) (i 2)) (wts m c))
  rw [e1]

/-- The hidden codes, stored with the tokens last. -/
theorem final15 : (dats m 0 c).arrAt 15 cfg0.N = fun i => qcode (hrow (tok m c (i 0) (i 2)) (wts m c)) (i 1) := by
  refine (dats m 0 c).arrAt_eq_of_covers 15 _ (by decide +kernel) fun t _ y => ?_
  blk_simp
  rw [after0_15]
  idx_vars y
  generalize he : ((View.whole main_v8_3).slice (win0_15.rect t)).emb (ix3 y0 y1 y2) = i
  have e0 : (i 0).val = t.val := by
    subst he
    blk_simp [idx t]
  have e1 : i 2 = y2 := by
    subst he
    ext
    blk_simp [idx t]
  have e2 : i 1 = y1 := by
    subst he
    ext
    blk_simp [idx t]
  rw [out15_at, tok_eq m c t (i 0) e0, wts_eq]
  show _ = qcode (hrow (tok m c (i 0) (i 2)) (wts m c)) (i 1)
  rw [e1, e2]

/-- The hidden scales. -/
theorem final16 : (dats m 0 c).arrAt 16 cfg0.N = fun i => qscale (hrow (tok m c (i 0) (i 2)) (wts m c)) := by
  refine (dats m 0 c).arrAt_eq_of_covers 16 _ (by decide +kernel) fun t _ y => ?_
  blk_simp
  rw [after0_16]
  idx_vars y
  generalize he : ((View.whole main_v8_4).slice (win0_16.rect t)).emb (ix3 y0 y1 y2) = i
  have e0 : (i 0).val = t.val := by
    subst he
    blk_simp [idx t]
  have e1 : i 2 = y2 := by
    subst he
    ext
    blk_simp [idx t]
  rw [out16_at, tok_eq m c t (i 0) e0, wts_eq]
  show _ = qscale (hrow (tok m c (i 0) (i 2)) (wts m c))
  rw [e1]

end Cert.TMlpIdeal.Vals
-- ==== Proof.TMlpIdeal.Run.lean ====
/-
  The run, ending at the specification.
-/
module

public import proofs.«01_k».proof.Proof.Gen.TMlpIdeal.Frame
public import proofs.«01_k».proof.Proof.TMlpIdeal.Final
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.TMlpIdeal.Vals
open Cert.TMlpIdeal Cert.TMlpIdeal.Gen Cert.Spec

variable (m : (ℓ : Loc nD τ sig) → Buf (Elt Ideal) ℓ)

set_option backward.isDefEq.respectTransparency.types false in
set_option maxHeartbeats 2000000 in
/-- Every run ends with the five results at the specification's rows and the arguments unchanged. -/
theorem values (ρ : Dev nD → PrngReg) : θ_run defs (onTc (τ := τ) (main (F := Ideal))) ⟨m, fun _ => 0, ρ⟩ (fun r => ∀ c : Dev nD,
      r.2.mem ((c.tc : Thread nD τ).loc main_v8_0) = (fun i => zrow (tok m c (i 0) (i 1)) (wts m c) (i 2))
      ∧ r.2.mem ((c.tc : Thread nD τ).loc main_v8_1) = (fun i => qcode (vrow (tok m c (i 0) (i 1)) (wts m c)) (i 2))
      ∧ r.2.mem ((c.tc : Thread nD τ).loc main_v8_2) = (fun i => qscale (vrow (tok m c (i 0) (i 2)) (wts m c)))
      ∧ r.2.mem ((c.tc : Thread nD τ).loc main_v8_3) = (fun i => qcode (hrow (tok m c (i 0) (i 2)) (wts m c)) (i 1))
      ∧ r.2.mem ((c.tc : Thread nD τ).loc main_v8_4) = (fun i => qscale (hrow (tok m c (i 0) (i 2)) (wts m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 12).trans (final12 m c),
      ((h c).1 13).trans (final13 m c),
      ((h c).1 14).trans (final14 m c),
      ((h c).1 15).trans (final15 m c),
      ((h c).1 16).trans (final16 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 10).trans (((dats m 0 c).arrAt_in 10 rfl _).trans ((A_eq m c 10).trans (V_main_arg10 m c))),
      ((h c).2 main_arg11 (Pipeline.mem_restRefs_of main_arg11 (by decide) (by decide))).trans (V_main_arg11 m c)⟩) (run_main m ρ)

end Cert.TMlpIdeal.Vals
-- ==== Proof.TRefIdeal.Pay.lean ====
/-
  The text reference's payloads at an index: each is a function of one token's row (Proof/Spec.lean) of what it reads.
-/
module

public import proofs.«01_k».proof.Proof.Gen.TRefIdeal.Skeleton
public import proofs.«01_k».proof.Proof.Spec
public import Idealize.ShloMosaic.Lib.Pointwise

@[expose] public section

set_option maxRecDepth 16384
set_option backward.isDefEq.respectTransparency false

noncomputable section

open Idealize.ShloMosaic Idealize.ShloMosaic.TcCoe Idealize.SL.Sem

namespace Cert.TRefIdeal.Vals
open Cert.TRefIdeal Cert.TRefIdeal.Gen Cert.Spec

/-- The residual row after the projection. -/
theorem pay6_at (v0 : Vec Ideal S2x256x2560 .bf16) (v2 : Vec Ideal S2x6x2560 .f32) (v3 : Vec Ideal S2x256x640 .fp8e4m3)
    (v4 : Vec Ideal S2x1x256 .f32) (v6 : Vec Ideal S640x2560 .fp8e4m3) (v7 : Vec Ideal S1x2560 .f32) (b : Fin 2) (r : Fin 256) (l : Fin 2560) :
    k0_pay6 (F := Ideal) v0 v2 v3 v4 v6 v7 (ix3 b r l)
      = resid (fun j : Fin 2560 => v0 (ix3 b r j)) (fun j => v2 (ix3 b 2 j)) (fun k : Fin 640 => v3 (ix3 b r k)) (v4 (ix3 b 0 r))
          (fun k j => v6 (ix2 k j)) (fun j => v7 (ix2 0 j)) l := by
  pointwise [k0_pay6, resid, lin]

/-- The modulated norm. -/
theorem pay7_at (v2 : Vec Ideal S2x6x2560 .f32) (v30 : FVec Ideal S2x256x2560 .f32) (b : Fin 2) (r : Fin 256) (l : Fin 2560) :
    k0_pay7 (F := Ideal) v2 v30 (ix3 b r l)
      = modnorm (fun j => v30 (ix3 b r j)) (fun j => v2 (ix3 b 3 j)) (fun j => v2 (ix3 b 4 j)) l := by
  pointwise [k0_pay7, modnorm, rms]

/-- A row's scale. -/
theorem pay8_at (v2 : Vec Ideal S2x6x2560 .f32) (v30 : FVec Ideal S2x256x2560 .f32) (b : Fin 2) (r : Fin 256) (l : Fin 1) :
    k0_pay8 (F := Ideal) v2 v30 (ix3 b r l) = qscale (fun j : Fin 2560 => k0_pay7 (F := Ideal) v2 v30 (ix3 b r j)) := by
  refine Eq.trans ?_ (qscale_eq _)
  unfold k0_pay8
  rw [max_r3_a2]
  pointwise

/-- A row's codes. -/
theorem pay9_at (v2 : Vec Ideal S2x6x2560 .f32) (v30 : FVec Ideal S2x256x2560 .f32) (b : Fin 2) (r : Fin 256) (l : Fin 2560) :
    k0_pay9 (F := Ideal) v2 v30 (ix3 b r l) = qcode (fun j : Fin 2560 => k0_pay7 (F := Ideal) v2 v30 (ix3 b r j)) l := by
  refine Eq.trans ?_ (qcode_eq _ _)
  have h := pay8_at v2 v30 b r 0
  unfold k0_pay9
  generalize k0_pay8 (F := Ideal) v2 v30 = s at *
  generalize k0_pay7 (F := Ideal) v2 v30 = v at *
  as_aux_lemma =>
    pointwise
    rw [h]

/-- The gate's linear layer. -/
theorem pay10_at (v2 : Vec Ideal S2x6x2560 .f32) (v9 : Vec Ideal S2560x1728 .fp8e4m3) (v11 : FVec Ideal S1x1728 .f32)
    (v30 : FVec Ideal S2x256x2560 .f32) (b : Fin 2) (r : Fin 256) (l : Fin 1728) :
    k0_pay10 (F := Ideal) v2 v9 v11 v30 (ix3 b r l)
      = lin (fun k : Fin 2560 => k0_pay9 (F := Ideal) v2 v30 (ix3 b r k)) (k0_pay8 (F := Ideal) v2 v30 (ix3 b r 0))
          (fun k j => v9 (ix2 k j)) (fun j => v11 (ix2 0 j)) l := by
  unfold k0_pay10
  generalize k0_pay8 (F := Ideal) v2 v30 = s
  generalize k0_pay9 (F := Ideal) v2 v30 = v
  as_aux_lemma =>
    pointwise [lin]

/-- The hidden row, where `v73` is the gate's row. -/
theorem pay13_at (v2 : Vec Ideal S2x6x2560 .f32) (v12 : Vec Ideal S2560x1728 .fp8e4m3) (v14 : FVec Ideal S1x1728 .f32)
    (v30 : FVec Ideal S2x256x2560 .f32) (v73 : FVec Ideal S2x256x1728 .f32) (b : Fin 2) (r : Fin 256) (l : Fin 1728) :
    k0_pay13 (F := Ideal) v14 v73 (k0_pay11 v2 v12 v30) (k0_pay12 v2 v30) (ix3 b r l)
      = gate (v73 (ix3 b r l)) (lin (fun k : Fin 2560 => k0_pay9 (F := Ideal) v2 v30 (ix3 b r k)) (k0_pay8 (F := Ideal) v2 v30 (ix3 b r 0))
          (fun k j => v12 (ix2 k j)) (fun j => v14 (ix2 0 j)) l) := by
  unfold k0_pay13 k0_pay12 k0_pay11
  generalize k0_pay8 (F := Ideal) v2 v30 = s
  generalize k0_pay9 (F := Ideal) v2 v30 = v
  as_aux_lemma =>
    pointwise [lin, gate]

/-- The hidden row's scale. -/
theorem pay14_at (v14 : FVec Ideal S1x1728 .f32) (v73 v77 v78 : FVec Ideal S2x256x1728 .f32) (b : Fin 2) (r : Fin 256) (l : Fin 1) :
    k0_pay14 (F := Ideal) v14 v73 v77 v78 (ix3 b r l) = qscale (fun j : Fin 1728 => k0_pay13 (F := Ideal) v14 v73 v77 v78 (ix3 b r j)) := by
  refine Eq.trans ?_ (qscale_eq _)
  unfold k0_pay14
  rw [max_r3_a2]
  pointwise

/-- The hidden row's codes. -/
theorem pay15_at (v14 : FVec Ideal S1x1728 .f32) (v73 v77 v78 : FVec Ideal S2x256x1728 .f32) (b : Fin 2) (r : Fin 256) (l : Fin 1728) :
    k0_pay15 (F := Ideal) v14 v73 v77 v78 (ix3 b r l) = qcode (fun j : Fin 1728 => k0_pay13 (F := Ideal) v14 v73 v77 v78 (ix3 b r j)) l := by
  refine Eq.trans ?_ (qcode_eq _ _)
  have h := pay14_at v14 v73 v77 v78 b r 0
  unfold k0_pay15
  generalize k0_pay14 (F := Ideal) v14 v73 v77 v78 = s at *
  generalize k0_pay13 (F := Ideal) v14 v73 v77 v78 = v at *
  as_aux_lemma =>
    pointwise
    rw [h]

/-- The row after the feed-forward layer. -/
theorem pay16_at (v2 : Vec Ideal S2x6x2560 .f32) (v14 : FVec Ideal S1x1728 .f32) (v15 : Vec Ideal S1728x2560 .fp8e4m3)
    (v17 : FVec Ideal S1x2560 .f32) (v30 : FVec Ideal S2x256x2560 .f32) (v73 v77 v78 : FVec Ideal S2x256x1728 .f32)
    (b : Fin 2) (r : Fin 256) (l : Fin 2560) :
    k0_pay16 (F := Ideal) v2 v14 v15 v17 v30 v73 v77 v78 (ix3 b r l)
      = resid (fun j => v30 (ix3 b r j)) (fun j => v2 (ix3 b 5 j)) (fun k : Fin 1728 => k0_pay15 (F := Ideal) v14 v73 v77 v78 (ix3 b r k))
          (k0_pay14 (F := Ideal) v14 v73 v77 v78 (ix3 b r 0)) (fun k j => v15 (ix2 k j)) (fun j => v17 (ix2 0 j)) l := by
  unfold k0_pay16
  generalize k0_pay14 (F := Ideal) v14 v73 v77 v78 = s
  generalize k0_pay15 (F := Ideal) v14 v73 v77 v78 = v
  as_aux_lemma =>
    pointwise [resid, lin]

/-- The stored scales and hidden codes are the values above, moved. -/
theorem pay1_at (v101 : FVec Ideal S2x256x1728 .fp8e4m3) (b : Fin 2) (j : Fin 1728) (r : Fin 256) :
    k0_pay1 (F := Ideal) v101 (ix3 b j r) = v101 (ix3 b r j) := by
  pointwise [k0_pay1]

theorem pay2_at (v94 : FVec Ideal S2x256x1 .f32) (b : Fin 2) (a : Fin 1) (r : Fin 256) :
    k0_pay2 (F := Ideal) v94 (ix3 b a r) = v94 (ix3 b r 0) := by
  pointwise [k0_pay2]

theorem pay17_at (v57 : FVec Ideal S2x256x1 .f32) (b : Fin 2) (a : Fin 1) (r : Fin 256) :
    k0_pay17 (F := Ideal) v57 (ix3 b a r) = v57 (ix3 b r 0) := by
  pointwise [k0_pay17]

theorem pay3_at (v : Vec Ideal S1x1728 .f32) (a : Fin 1) (j : Fin 1728) : k0_pay3 (F := Ideal) v (ix2 a j) = v (ix2 0 j) := by
  obtain rfl : a = 0 := Subsingleton.elim _ _
  pointwise [k0_pay3]

theorem pay4_at (v : Vec Ideal S1x1728 .f32) (a : Fin 1) (j : Fin 1728) : k0_pay4 (F := Ideal) v (ix2 a j) = v (ix2 0 j) := by
  obtain rfl : a = 0 := Subsingleton.elim _ _
  pointwise [k0_pay4]

theorem pay5_at (v : Vec Ideal S1x2560 .f32) (a : Fin 1) (j : Fin 2560) : k0_pay5 (F := Ideal) v (ix2 a j) = v (ix2 0 j) := by
  obtain rfl : a = 0 := Subsingleton.elim _ _
  pointwise [k0_pay5]

end Cert.TRefIdeal.Vals
-- ==== Proof.TRefIdeal.Out.lean ====
/-
  What the text reference's outputs hold after its body, at an index, in terms of its operands: one token's row
  (Proof/Spec.lean) of the operands.
-/
module

public import proofs.«01_k».proof.Proof.Gen.TRefIdeal.Frame
public import proofs.«01_k».proof.Proof.TRefIdeal.Pay
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.TRefIdeal.Vals
open Cert.TRefIdeal Cert.TRefIdeal.Gen Cert.Spec

variable (x0 : Vec Ideal S2x256x2560 .bf16) (x1 : Vec Ideal S2x256x640 .fp8e4m3) (x2 : Vec Ideal S2x1x256 .f32)
  (x3 : Vec Ideal S2x6x2560 .f32) (x4 : Vec Ideal S640x2560 .fp8e4m3) (x5 : Vec Ideal S1x2560 .f32)
  (x6 : Vec Ideal S2560x1728 .fp8e4m3) (x7 : Vec Ideal S1x1728 .f32) (x8 : Vec Ideal S2560x1728 .fp8e4m3)
  (x9 : Vec Ideal S1x1728 .f32) (x10 : Vec Ideal S1728x2560 .fp8e4m3) (x11 : Vec Ideal S1x2560 .f32)

/-- A token of the operands. -/
def tokR (b : Fin 2) (r : Fin 256) : Tok :=
  ⟨fun j => x0 (ix3 b r j), fun k => x1 (ix3 b r k), x2 (ix3 b 0 r), fun i j => x3 (ix3 b i j)⟩

/-- The weights of the operands. -/
def wtsR : Wts :=
  ⟨fun k j => x4 (ix2 k j), fun j => x5 (ix2 0 j), fun k j => x6 (ix2 k j), fun j => x7 (ix2 0 j),
   fun k j => x8 (ix2 k j), fun j => x9 (ix2 0 j), fun k j => x10 (ix2 k j), fun j => x11 (ix2 0 j)⟩

/-- Whole operands, loaded. -/
theorem l3 (x : Vec Ideal S2x6x2560 .f32) : View.ld x r0_1 = x := View.ld_unit_lit _ _ (by decide)
theorem l6 (x : Vec Ideal S2560x1728 .fp8e4m3) : View.ld x r0_6 = x := View.ld_unit_lit _ _ (by decide)
theorem l7 (x : Vec Ideal S1x1728 .f32) : View.ld x r0_7 = x := View.ld_unit_lit _ _ (by decide)

/-- The row after the attention's projection. -/
theorem y_at (b : Fin 2) (r : Fin 256) (l : Fin 2560) :
    k0_pay19 x0 x1 x2 x3 x4 x5 x6 x7 x8 x9 x10 x11 (ix3 b r l) = yrow (tokR x0 x1 x2 x3 b r) (wtsR x4 x5 x6 x7 x8 x9 x10 x11) l := by
  unfold k0_pay19
  rw [pay6_at]
  pointwise [yrow, resid, lin, tokR, wtsR]

/-- The modulated norm's row. -/
theorem v_at (b : Fin 2) (r : Fin 256) (l : Fin 2560) :
    k0_pay7 x3 (k0_pay19 x0 x1 x2 x3 x4 x5 x6 x7 x8 x9 x10 x11) (ix3 b r l) = vrow (tokR x0 x1 x2 x3 b r) (wtsR x4 x5 x6 x7 x8 x9 x10 x11) l := by
  have hy : (fun j : Fin 2560 => k0_pay19 x0 x1 x2 x3 x4 x5 x6 x7 x8 x9 x10 x11 (ix3 b r j)) = yrow (tokR x0 x1 x2 x3 b r) (wtsR x4 x5 x6 x7 x8 x9 x10 x11) :=
    funext fun j => y_at x0 x1 x2 x3 x4 x5 x6 x7 x8 x9 x10 x11 b r j
  rw [pay7_at, hy]
  rfl

/-- Its codes and scale. -/
theorem vcode_at (b : Fin 2) (r : Fin 256) (l : Fin 2560) :
    k0_pay9 x3 (k0_pay19 x0 x1 x2 x3 x4 x5 x6 x7 x8 x9 x10 x11) (ix3 b r l) = qcode (vrow (tokR x0 x1 x2 x3 b r) (wtsR x4 x5 x6 x7 x8 x9 x10 x11)) l := by
  rw [pay9_at]
  exact congrArg (qcode · l) (funext fun j => v_at x0 x1 x2 x3 x4 x5 x6 x7 x8 x9 x10 x11 b r j)

theorem vscale_at (b : Fin 2) (r : Fin 256) (l : Fin 1) :
    k0_pay8 x3 (k0_pay19 x0 x1 x2 x3 x4 x5 x6 x7 x8 x9 x10 x11) (ix3 b r l) = qscale (vrow (tokR x0 x1 x2 x3 b r) (wtsR x4 x5 x6 x7 x8 x9 x10 x11)) := by
  rw [pay8_at]
  exact congrArg qscale (funext fun j => v_at x0 x1 x2 x3 x4 x5 x6 x7 x8 x9 x10 x11 b r j)

/-- The hidden row. -/
theorem h_at (b : Fin 2) (r : Fin 256) (j : Fin 1728) :
    k0_pay13 (k0_pay18 x0 x1 x2 x3 x4 x5 x6 x7 x8 x9 x10 x11) (k0_pay20 x0 x1 x2 x3 x4 x5 x6 x7 x8 x9 x10 x11) (k0_pay21 x0 x1 x2 x3 x4 x5 x6 x7 x8 x9 x10 x11) (k0_pay22 x0 x1 x2 x3 x4 x5 x6 x7 x8 x9 x10 x11) (ix3 b r j)
      = hrow (tokR x0 x1 x2 x3 b r) (wtsR x4 x5 x6 x7 x8 x9 x10 x11) j := by
  have hc : (fun k : Fin 2560 => k0_pay9 x3 (k0_pay19 x0 x1 x2 x3 x4 x5 x6 x7 x8 x9 x10 x11) (ix3 b r k)) = qcode (vrow (tokR x0 x1 x2 x3 b r) (wtsR x4 x5 x6 x7 x8 x9 x10 x11)) :=
    funext fun k => vcode_at x0 x1 x2 x3 x4 x5 x6 x7 x8 x9 x10 x11 b r k
  have e7 : (fun j : Fin 1728 => k0_pay3 x7 (ix2 0 j)) = fun j => x7 (ix2 0 j) := funext fun j => pay3_at x7 0 j
  have e9 : (fun j : Fin 1728 => k0_pay4 x9 (ix2 0 j)) = fun j => x9 (ix2 0 j) := funext fun j => pay4_at x9 0 j
  unfold k0_pay18 k0_pay20 k0_pay21 k0_pay22
  rw [l3, l6, l6, l7, l7, pay13_at, pay10_at, hc, vscale_at, e7, e9]
  rfl

/-- Its codes and scale. -/
theorem hcode_at (b : Fin 2) (r : Fin 256) (j : Fin 1728) :
    k0_pay15 (k0_pay18 x0 x1 x2 x3 x4 x5 x6 x7 x8 x9 x10 x11) (k0_pay20 x0 x1 x2 x3 x4 x5 x6 x7 x8 x9 x10 x11) (k0_pay21 x0 x1 x2 x3 x4 x5 x6 x7 x8 x9 x10 x11) (k0_pay22 x0 x1 x2 x3 x4 x5 x6 x7 x8 x9 x10 x11) (ix3 b r j)
      = qcode (hrow (tokR x0 x1 x2 x3 b r) (wtsR x4 x5 x6 x7 x8 x9 x10 x11)) j := by
  rw [pay15_at]
  exact congrArg (qcode · j) (funext fun k => h_at x0 x1 x2 x3 x4 x5 x6 x7 x8 x9 x10 x11 b r k)

theorem hscale_at (b : Fin 2) (r : Fin 256) (a : Fin 1) :
    k0_pay14 (k0_pay18 x0 x1 x2 x3 x4 x5 x6 x7 x8 x9 x10 x11) (k0_pay20 x0 x1 x2 x3 x4 x5 x6 x7 x8 x9 x10 x11) (k0_pay21 x0 x1 x2 x3 x4 x5 x6 x7 x8 x9 x10 x11) (k0_pay22 x0 x1 x2 x3 x4 x5 x6 x7 x8 x9 x10 x11) (ix3 b r a)
      = qscale (hrow (tokR x0 x1 x2 x3 b r) (wtsR x4 x5 x6 x7 x8 x9 x10 x11)) := by
  rw [pay14_at]
  exact congrArg qscale (funext fun k => h_at x0 x1 x2 x3 x4 x5 x6 x7 x8 x9 x10 x11 b r k)

/-- The stored x2 codes. -/
theorem out13_at (b : Fin 2) (r : Fin 256) (l : Fin 2560) :
    out0_13 x0 x1 x2 x3 x4 x5 x6 x7 x8 x9 x10 x11 (ix3 b r l) = qcode (vrow (tokR x0 x1 x2 x3 b r) (wtsR x4 x5 x6 x7 x8 x9 x10 x11)) l := by
  frame_out
  exact vcode_at x0 x1 x2 x3 x4 x5 x6 x7 x8 x9 x10 x11 b r l

/-- The stored x2 scales. -/
theorem out14_at (b : Fin 2) (a : Fin 1) (r : Fin 256) :
    out0_14 x0 x1 x2 x3 x4 x5 x6 x7 x8 x9 x10 x11 (ix3 b a r) = qscale (vrow (tokR x0 x1 x2 x3 b r) (wtsR x4 x5 x6 x7 x8 x9 x10 x11)) := by
  frame_out
  rw [pay17_at]
  exact vscale_at x0 x1 x2 x3 x4 x5 x6 x7 x8 x9 x10 x11 b r 0

/-- The stored hidden codes. -/
theorem out15_at (b : Fin 2) (j : Fin 1728) (r : Fin 256) :
    out0_15 x0 x1 x2 x3 x4 x5 x6 x7 x8 x9 x10 x11 (ix3 b j r) = qcode (hrow (tokR x0 x1 x2 x3 b r) (wtsR x4 x5 x6 x7 x8 x9 x10 x11)) j := by
  frame_out
  rw [pay1_at]
  exact hcode_at x0 x1 x2 x3 x4 x5 x6 x7 x8 x9 x10 x11 b r j

/-- The stored hidden scales. -/
theorem out16_at (b : Fin 2) (a : Fin 1) (r : Fin 256) :
    out0_16 x0 x1 x2 x3 x4 x5 x6 x7 x8 x9 x10 x11 (ix3 b a r) = qscale (hrow (tokR x0 x1 x2 x3 b r) (wtsR x4 x5 x6 x7 x8 x9 x10 x11)) := by
  frame_out
  rw [pay2_at]
  exact hscale_at x0 x1 x2 x3 x4 x5 x6 x7 x8 x9 x10 x11 b r 0

/-- The row after the feed-forward layer. -/
theorem out12_at (b : Fin 2) (r : Fin 256) (l : Fin 2560) :
    out0_12 x0 x1 x2 x3 x4 x5 x6 x7 x8 x9 x10 x11 (ix3 b r l) = zrow (tokR x0 x1 x2 x3 b r) (wtsR x4 x5 x6 x7 x8 x9 x10 x11) l := by
  frame_out
  have hy : (fun j : Fin 2560 => k0_pay19 x0 x1 x2 x3 x4 x5 x6 x7 x8 x9 x10 x11 (ix3 b r j)) = yrow (tokR x0 x1 x2 x3 b r) (wtsR x4 x5 x6 x7 x8 x9 x10 x11) :=
    funext fun j => y_at x0 x1 x2 x3 x4 x5 x6 x7 x8 x9 x10 x11 b r j
  have hc : (fun j : Fin 1728 => k0_pay15 (k0_pay18 x0 x1 x2 x3 x4 x5 x6 x7 x8 x9 x10 x11) (k0_pay20 x0 x1 x2 x3 x4 x5 x6 x7 x8 x9 x10 x11) (k0_pay21 x0 x1 x2 x3 x4 x5 x6 x7 x8 x9 x10 x11) (k0_pay22 x0 x1 x2 x3 x4 x5 x6 x7 x8 x9 x10 x11) (ix3 b r j))
      = qcode (hrow (tokR x0 x1 x2 x3 b r) (wtsR x4 x5 x6 x7 x8 x9 x10 x11)) := funext fun j => hcode_at x0 x1 x2 x3 x4 x5 x6 x7 x8 x9 x10 x11 b r j
  have e11 : (fun j : Fin 2560 => k0_pay5 x11 (ix2 0 j)) = fun j => x11 (ix2 0 j) := funext fun j => pay5_at x11 0 j
  rw [pay16_at, hy, hc, hscale_at, e11]
  rfl

end Cert.TRefIdeal.Vals
-- ==== Proof.TRefIdeal.Final.lean ====
/-
  The text reference's five outputs at the end of its run, as functions of the arguments: every token's row
  (Proof/Spec.lean).
-/
module

public import proofs.«01_k».proof.Proof.Gen.TRefIdeal.Frame
public import proofs.«01_k».proof.Proof.TRefIdeal.Out
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.TRefIdeal.Vals
open Cert.TRefIdeal Cert.TRefIdeal.Gen Cert.Spec

variable (m : (ℓ : Loc nD τ sig) → Buf (Elt Ideal) ℓ) (c : Dev nD)

/-- A token of the arguments: batch `b`, position `r`. -/
def tok (b : Fin 2) (r : Fin 256) : Tok :=
  ⟨fun j => m ((c : Thread nD τ).loc main_arg0) (ix3 b r j), fun k => m ((c : Thread nD τ).loc main_arg1) (ix3 b r k),
   m ((c : Thread nD τ).loc main_arg2) (ix3 b 0 r), fun i j => m ((c : Thread nD τ).loc main_arg3) (ix3 b i j)⟩

/-- The weights and their scales. -/
def wts : Wts :=
  ⟨fun k j => m ((c : Thread nD τ).loc main_arg4) (ix2 k j), fun j => m ((c : Thread nD τ).loc main_arg5) (ix1 j),
   fun k j => m ((c : Thread nD τ).loc main_arg6) (ix2 k j), fun j => m ((c : Thread nD τ).loc main_arg7) (ix1 j),
   fun k j => m ((c : Thread nD τ).loc main_arg8) (ix2 k j), fun j => m ((c : Thread nD τ).loc main_arg9) (ix1 j),
   fun k j => m ((c : Thread nD τ).loc main_arg10) (ix2 k j), fun j => m ((c : Thread nD τ).loc main_arg11) (ix1 j)⟩

/-- The one point's blocks are whole. -/
theorem idx : ∀ t : Fin cfg0.N, win0_0.index t = ![0, 0, 0] ∧ win0_1.index t = ![0, 0, 0] ∧ win0_2.index t = ![0, 0, 0] ∧ win0_3.index t = ![0, 0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0, 0] ∧ win0_13.index t = ![0, 0, 0] ∧ win0_14.index t = ![0, 0, 0] ∧ win0_15.index t = ![0, 0, 0] ∧ win0_16.index t = ![0, 0, 0] :=
  (by decide +kernel : ∀ t : Fin grid0.N, _)

/-- A token of the operands is the argument's. -/
theorem tok_eq (t : Fin cfg0.N) (b : Fin 2) (r : Fin 256) :
    tokR (iblk m c 0 t) (iblk m c 1 t) (iblk m c 2 t) (iblk m c 3 t) b r = tok m c b r := by
  have h0 : (fun j : Fin 2560 => iblk m c 0 t (ix3 b r j)) = fun j => m ((c : Thread nD τ).loc main_arg0) (ix3 b r j) := by
    funext j
    blk_point [iblk, V, idx t]
  have h1 : (fun j : Fin 640 => iblk m c 1 t (ix3 b r j)) = fun j => m ((c : Thread nD τ).loc main_arg1) (ix3 b r j) := by
    funext j
    blk_point [iblk, V, idx t]
  have h2 : iblk m c 2 t (ix3 b (0 : Fin 1) r) = m ((c : Thread nD τ).loc main_arg2) (ix3 b 0 r) := by
    blk_point [iblk, V, idx t]
  have h3 : (fun (i : Fin 6) (j : Fin 2560) => iblk m c 3 t (ix3 b i j)) = fun i j => m ((c : Thread nD τ).loc main_arg3) (ix3 b i j) := by
    funext i j
    blk_point [iblk, V, idx t]
  exact (Tok.mk.injEq ..).mpr ⟨h0, h1, h2, h3⟩

/-- The weight operands are the arguments'. -/
theorem wts_eq (t : Fin cfg0.N) : wtsR (iblk m c 4 t) (iblk m c 5 t) (iblk m c 6 t) (iblk m c 7 t) (iblk m c 8 t) (iblk m c 9 t)
    (iblk m c 10 t) (iblk m c 11 t) = wts m c := by
  have h4 : (fun (k : Fin 640) (j : Fin 2560) => iblk m c 4 t (ix2 k j)) = fun k j => m ((c : Thread nD τ).loc main_arg4) (ix2 k j) := by
    funext k j
    blk_point [iblk, V, idx t]
  have h6 : (fun (k : Fin 2560) (j : Fin 1728) => iblk m c 6 t (ix2 k j)) = fun k j => m ((c : Thread nD τ).loc main_arg6) (ix2 k j) := by
    funext k j
    blk_point [iblk, V, idx t]
  have h8 : (fun (k : Fin 2560) (j : Fin 1728) => iblk m c 8 t (ix2 k j)) = fun k j => m ((c : Thread nD τ).loc main_arg8) (ix2 k j) := by
    funext k j
    blk_point [iblk, V, idx t]
  have h10 : (fun (k : Fin 1728) (j : Fin 2560) => iblk m c 10 t (ix2 k j)) = fun k j => m ((c : Thread nD τ).loc main_arg10) (ix2 k j) := by
    funext k j
    blk_point [iblk, V, idx t]
  have h5 : (fun j : Fin 2560 => iblk m c 5 t (ix2 (0 : Fin 1) j)) = fun j => m ((c : Thread nD τ).loc main_arg5) (ix1 j) := by
    funext j
    blk_point [iblk, V, idx t]
  have h7 : (fun j : Fin 1728 => iblk m c 7 t (ix2 (0 : Fin 1) j)) = fun j => m ((c : Thread nD τ).loc main_arg7) (ix1 j) := by
    funext j
    blk_point [iblk, V, idx t]
  have h9 : (fun j : Fin 1728 => iblk m c 9 t (ix2 (0 : Fin 1) j)) = fun j => m ((c : Thread nD τ).loc main_arg9) (ix1 j) := by
    funext j
    blk_point [iblk, V, idx t]
  have h11 : (fun j : Fin 2560 => iblk m c 11 t (ix2 (0 : Fin 1) j)) = fun j => m ((c : Thread nD τ).loc main_arg11) (ix1 j) := by
    funext j
    blk_point [iblk, V, idx t]
  exact (Wts.mk.injEq ..).mpr ⟨h4, h5, h6, h7, h8, h9, h10, h11⟩

/-- The first output at the end of the run: the row after the feed-forward layer. -/
theorem final12 : (dats m 0 c).arrAt 12 cfg0.N = fun i => zrow (tok m c (i 0) (i 1)) (wts m c) (i 2) := by
  refine (dats m 0 c).arrAt_eq_of_after_last 12 t0_0 (by decide +kernel) _ fun j => ?_
  blk_simp
  rw [after0_12]
  idx_vars j
  rw [out12_at, tok_eq, wts_eq]

/-- The x2 codes. -/
theorem final13 : (dats m 0 c).arrAt 13 cfg0.N = fun i => qcode (vrow (tok m c (i 0) (i 1)) (wts m c)) (i 2) := by
  refine (dats m 0 c).arrAt_eq_of_after_last 13 t0_0 (by decide +kernel) _ fun j => ?_
  blk_simp
  rw [after0_13]
  idx_vars j
  rw [out13_at, tok_eq, wts_eq]

/-- The x2 scales. -/
theorem final14 : (dats m 0 c).arrAt 14 cfg0.N = fun i => qscale (vrow (tok m c (i 0) (i 2)) (wts m c)) := by
  refine (dats m 0 c).arrAt_eq_of_after_last 14 t0_0 (by decide +kernel) _ fun j => ?_
  blk_simp
  rw [after0_14]
  idx_vars j
  rw [out14_at, tok_eq, wts_eq]

/-- The hidden codes, stored with the tokens last. -/
theorem final15 : (dats m 0 c).arrAt 15 cfg0.N = fun i => qcode (hrow (tok m c (i 0) (i 2)) (wts m c)) (i 1) := by
  refine (dats m 0 c).arrAt_eq_of_after_last 15 t0_0 (by decide +kernel) _ fun j => ?_
  blk_simp
  rw [after0_15]
  idx_vars j
  rw [out15_at, tok_eq, wts_eq]

/-- The hidden scales. -/
theorem final16 : (dats m 0 c).arrAt 16 cfg0.N = fun i => qscale (hrow (tok m c (i 0) (i 2)) (wts m c)) := by
  refine (dats m 0 c).arrAt_eq_of_after_last 16 t0_0 (by decide +kernel) _ fun j => ?_
  blk_simp
  rw [after0_16]
  idx_vars j
  rw [out16_at, tok_eq, wts_eq]

end Cert.TRefIdeal.Vals
-- ==== Proof.TRefIdeal.Run.lean ====
/-
  The run, ending at the specification.
-/
module

public import proofs.«01_k».proof.Proof.Gen.TRefIdeal.Frame
public import proofs.«01_k».proof.Proof.TRefIdeal.Final
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.TRefIdeal.Vals
open Cert.TRefIdeal Cert.TRefIdeal.Gen Cert.Spec

variable (m : (ℓ : Loc nD τ sig) → Buf (Elt Ideal) ℓ)

set_option backward.isDefEq.respectTransparency.types false in
set_option maxHeartbeats 2000000 in
/-- Every run ends with the five results at the specification's rows and the arguments unchanged. -/
theorem values (ρ : Dev nD → PrngReg) : θ_run defs (onTc (τ := τ) (main (F := Ideal))) ⟨m, fun _ => 0, ρ⟩ (fun r => ∀ c : Dev nD,
      r.2.mem ((c.tc : Thread nD τ).loc main_v4_0) = (fun i => zrow (tok m c (i 0) (i 1)) (wts m c) (i 2))
      ∧ r.2.mem ((c.tc : Thread nD τ).loc main_v4_1) = (fun i => qcode (vrow (tok m c (i 0) (i 1)) (wts m c)) (i 2))
      ∧ r.2.mem ((c.tc : Thread nD τ).loc main_v4_2) = (fun i => qscale (vrow (tok m c (i 0) (i 2)) (wts m c)))
      ∧ r.2.mem ((c.tc : Thread nD τ).loc main_v4_3) = (fun i => qcode (hrow (tok m c (i 0) (i 2)) (wts m c)) (i 1))
      ∧ r.2.mem ((c.tc : Thread nD τ).loc main_v4_4) = (fun i => qscale (hrow (tok m c (i 0) (i 2)) (wts m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 12).trans (final12 m c),
      ((h c).1 13).trans (final13 m c),
      ((h c).1 14).trans (final14 m c),
      ((h c).1 15).trans (final15 m c),
      ((h c).1 16).trans (final16 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c),
      ((h c).1 10).trans (((dats m 0 c).arrAt_in 10 rfl _).trans ((A_eq m c 10).trans (V_main_arg10 m c))),
      ((h c).2 main_arg11 (Pipeline.mem_restRefs_of main_arg11 (by decide) (by decide))).trans (V_main_arg11 m c)⟩) (run_main m ρ)

end Cert.TRefIdeal.Vals
-- ==== Proof.TextAlgebra.lean ====
/-
  The text kernel and its reference leave the same five results.
-/
module

public import proofs.«01_k».proof.Defs
public import proofs.«01_k».proof.Proof.Gen.TMlpIdeal
public import proofs.«01_k».proof.Proof.Gen.TRefIdeal
public import proofs.«01_k».proof.Proof.TMlpIdeal.Run
public import proofs.«01_k».proof.Proof.TRefIdeal.Run
public import Idealize.ShloMosaic.Lib.Claim
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.TextAlgebra

open Cert.Spec

set_option maxHeartbeats 1000000 in
/-- Over the reals the kernel and its reference, run on the same arguments, leave the same five results. -/
theorem algebraic : Cert.algebraic_TMlpIdeal_TRefIdeal := by
  intro m g m' g' _ hagree
  have htok : ∀ c, Cert.TRefIdeal.Vals.tok m' c = Cert.TMlpIdeal.Vals.tok m c := by
    intro c
    obtain ⟨a0, a1, a2, a3, -⟩ := hagree c
    funext b r
    unfold Cert.TRefIdeal.Vals.tok
    rw [a0, a1, a2, a3]
    rfl
  have hwts : ∀ c, Cert.TRefIdeal.Vals.wts m' c = Cert.TMlpIdeal.Vals.wts m c := by
    intro c
    obtain ⟨-, -, -, -, a4, a5, a6, a7, a8, a9, a10, a11⟩ := hagree c
    unfold Cert.TRefIdeal.Vals.wts
    rw [a4, a5, a6, a7, a8, a9, a10, a11]
    rfl
  have hr := Cert.TRefIdeal.Vals.values m' g'
  simp only [htok, hwts] at hr
  exact ⟨_, _, _, _, _, Cert.TMlpIdeal.Vals.values m g, hr⟩

end Cert.TextAlgebra
-- ==== Proof.MlpIdeal.Runs.lean ====
module

public import proofs.«01_k».proof.Proof.Gen.MlpIdeal.Launch
public import proofs.«01_k».proof.Proof.Gen.MlpIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

/-! The video MLP call: what the launch finds, the windows' blocks, and the frame read off a run. -/

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 2 (fun _ => rfl) (by decide)) (P := 1) (by decide) t).mpr (Nat.mod_one _) : ∀ t : Fin grid0.N, Pipeline.Window.fetchOf grid0 false cc0_transform_1 t = true)
abbrev bodyAt0 (a : (pcfg0 (F := F)).Adm) (t : Fin (cfg0 a).N) : Prog (TpuEff nD τ sig (Elt F) Λ₀ .tc) PUnit :=
  cc0_vid_mlp (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (spec0_20.stage ((cfg0 a).slots t 20)) (hstage0_20 (((cfg0 a).slots t 20).cast nbuf0_20)) (spec0_21.stage ((cfg0 a).slots t 21)) (hstage0_21 (((cfg0 a).slots t 21).cast nbuf0_21)) (spec0_22.stage ((cfg0 a).slots t 22)) (hstage0_22 (((cfg0 a).slots t 22).cast nbuf0_22))

/-- The three stretches of host operations before the kernel call: the scales of the value codes are computed from the
    given maxima (a comparison, a quotient, and a selection), then the weights and their scales are laid out. -/
abbrev hostOps : List (List (HloOp τ sig (Elt F))) := [hostOps0, hostOps0_1, hostOps0_2]

/-- Core `c`'s buffers when the kernel call is entered. -/
abbrev V (c : Dev nD) (b : Ref sig .tc) : Buf (Elt F) ((c : Thread nD τ).loc b) := StableHlo.after hostOps.flatten (fun b => m (c, b)) b

theorem hostOps_fresh : (hostOps : List (List (HloOp τ sig (Elt F)))).Forall fun ops => ops.Forall fun op => op.fresh = ∅ := by
  simp only [List.Forall]; repeat' constructor

set_option maxHeartbeats 800000 in
/-- `@main` up to the kernel call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostOps ⟨hostOps0_sub, hostOps0_1_sub, hostOps0_2_sub⟩ hostOps_fresh main_chain

/-- What the host operations write. -/
abbrev hostWrites : List (Ref sig .tc) :=
  [main_cst, main_v0, main_v1, main_cst_0, main_v2, main_v3, main_cst_1, main_call0_v0, main_call0_v1, main_v4,
    main_v5, main_v6, main_v7, main_v8, main_v9, main_v10, main_v11, main_v12]

/-- A buffer no host operation writes is found as launched. -/
theorem V_arg (c : Dev nD) (b : Ref sig .tc) (h : ∀ x ∈ hostWrites, b ≠ x) : V m c b = m ((c : Thread nD τ).loc b) :=
  StableHlo.after_of_forall_not_mem (b := Proc.devRef .tc b) _ _ (List.forall_iff_forall_mem.mp (by
    simp only [hostOps, hostOps0, hostOps0_1, hostOps0_2, List.flatten_cons, List.flatten_nil, List.append_nil, List.cons_append,
      List.nil_append, List.Forall]
    repeat' apply And.intro
    all_goals
      intro hm
      have e := Finset.mem_singleton.mp hm
      exact StableHlo.devRef_ne_of_ne (h _ (by simp)) e))

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S19 .i32 := Memref.whole main_arg0
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1380000 in
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (by decide : main_arg0 ∈ Pipeline.restRefs sig spec0)).trans (V_arg m c main_arg0 (by decide)),
      (Pipeline.RDat.FramePost.arr_in h c 0 rfl).trans ((hA c 0).trans (V_arg m c main_arg1 (by decide))),
      (Pipeline.RDat.FramePost.arr_in h c 1 rfl).trans ((hA c 1).trans (V_arg m c main_arg2 (by decide))),
      (Pipeline.RDat.FramePost.arr_in h c 2 rfl).trans ((hA c 2).trans (V_arg m c main_arg3 (by decide))),
      ((h c).2 main_arg4 (by decide : main_arg4 ∈ Pipeline.restRefs sig spec0)).trans (V_arg m c main_arg4 (by decide)),
      (Pipeline.RDat.FramePost.arr_in h c 4 rfl).trans ((hA c 4).trans (V_arg m c main_arg5 (by decide))),
      (Pipeline.RDat.FramePost.arr_in h c 5 rfl).trans ((hA c 5).trans (V_arg m c main_arg6 (by decide))),
      ((h c).2 main_arg7 (by decide : main_arg7 ∈ Pipeline.restRefs sig spec0)).trans (V_arg m c main_arg7 (by decide)),
      ((h c).2 main_arg8 (by decide : main_arg8 ∈ Pipeline.restRefs sig spec0)).trans (V_arg m c main_arg8 (by decide)),
      ((h c).2 main_arg9 (by decide : main_arg9 ∈ Pipeline.restRefs sig spec0)).trans (V_arg m c main_arg9 (by decide)),
      ((h c).2 main_arg10 (by decide : main_arg10 ∈ Pipeline.restRefs sig spec0)).trans (V_arg m c main_arg10 (by decide)),
      ((h c).2 main_arg11 (by decide : main_arg11 ∈ Pipeline.restRefs sig spec0)).trans (V_arg m c main_arg11 (by decide)),
      (Pipeline.RDat.FramePost.arr_in h c 11 rfl).trans ((hA c 11).trans (V_arg m c main_arg12 (by decide))),
      ((h c).2 main_arg13 (by decide : main_arg13 ∈ Pipeline.restRefs sig spec0)).trans (V_arg m c main_arg13 (by decide))⟩) h

abbrev ms0_0 (hO : Ok m) (t : Fin (cfgM m hO).N) : Memref sig .tc .vmem S1x256x2560 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x5x256x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x10x256x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x18x16x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x6x2560 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S640x2560 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2560 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1728x2560 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1728x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1728x2560 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1728x128 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1728x2560 .fp8e4m3 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x2560 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x256x2560 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x256x640 .bf16 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x5x256x128 .fp8e4m3 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x5x256x128 .fp8e4m3 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x256x640 .fp8e4m3 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x1x256 .f32 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S1x256x2560 .fp8e4m3 := spec0_19.stage ((cfgM m hO).slots t 19)
abbrev hs0_19 (hO : Ok m) (t : Fin (cfgM m hO).N) : (ms0_19 m hO t).IsWhole := hstage0_19 (((cfgM m hO).slots t 19).cast nbuf0_19)
abbrev ms0_20 (hO : Ok m) (t : Fin (cfgM m hO).N) : Memref sig .tc .vmem S1x1x256 .f32 := spec0_20.stage ((cfgM m hO).slots t 20)
abbrev hs0_20 (hO : Ok m) (t : Fin (cfgM m hO).N) : (ms0_20 m hO t).IsWhole := hstage0_20 (((cfgM m hO).slots t 20).cast nbuf0_20)
abbrev ms0_21 (hO : Ok m) (t : Fin (cfgM m hO).N) : Memref sig .tc .vmem S1x1728x256 .fp8e4m3 := spec0_21.stage ((cfgM m hO).slots t 21)
abbrev hs0_21 (hO : Ok m) (t : Fin (cfgM m hO).N) : (ms0_21 m hO t).IsWhole := hstage0_21 (((cfgM m hO).slots t 21).cast nbuf0_21)
abbrev ms0_22 (hO : Ok m) (t : Fin (cfgM m hO).N) : Memref sig .tc .vmem S1x1x256 .f32 := spec0_22.stage ((cfgM m hO).slots t 22)
abbrev hs0_22 (hO : Ok m) (t : Fin (cfgM m hO).N) : (ms0_22 m hO t).IsWhole := hstage0_22 (((cfgM m hO).slots t 22).cast nbuf0_22)

end Cert.MlpIdeal.Gen

end
-- ==== Proof.MlpIdeal.RunA.lean ====
module

public import proofs.«01_k».proof.Proof.MlpIdeal.Runs
public import Idealize.ShloMosaic.Lib.Pipeline.FrameBody
public import Idealize.ShloMosaic.Lib.Ring
public import Idealize.ShloMosaic.Lib.Tactic
public import Idealize.ShloMosaic.Lib.WordCmp

@[expose] public section

/-! One grid point of the video MLP call, run on whole memrefs holding any contents. -/

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) :
    Σ' (L13 : List (View.Piece (Elt F) S1x256x2560 .bf16)), Σ' (L14 : List (View.Piece (Elt F) S1x256x640 .bf16)), Σ' (L15 : List (View.Piece (Elt F) S1x5x256x128 .fp8e4m3)), Σ' (L16 : List (View.Piece (Elt F) S1x5x256x128 .fp8e4m3)), Σ' (L17 : List (View.Piece (Elt F) S1x256x640 .fp8e4m3)), Σ' (L18 : List (View.Piece (Elt F) S1x1x256 .f32)), Σ' (L19 : List (View.Piece (Elt F) S1x256x2560 .fp8e4m3)), Σ' (L20 : List (View.Piece (Elt F) S1x1x256 .f32)), Σ' (L21 : List (View.Piece (Elt F) S1x1728x256 .fp8e4m3)), { L22 : List (View.Piece (Elt F) S1x1x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f L17) ∗ (∃ f, arg21.view.loc (c : Thread nD τ) ↦[arg21.view.set]{fullShare} arg21.view.writes (Elt F) f L18) ∗ (∃ f, arg22.view.loc (c : Thread nD τ) ↦[arg22.view.set]{fullShare} arg22.view.writes (Elt F) f L19) ∗ (∃ f, arg23.view.loc (c : Thread nD τ) ↦[arg23.view.set]{fullShare} arg23.view.writes (Elt F) f L20) ∗ (∃ f, arg24.view.loc (c : Thread nD τ) ↦[arg24.view.set]{fullShare} arg24.view.writes (Elt F) f L21) ∗ (∃ f, arg25.view.loc (c : Thread nD τ) ↦[arg25.view.set]{fullShare} arg25.view.writes (Elt F) f L22) ∗ tbPt0 c tbM0_0 xt0) -∗ K ⟨⟩))
          ⊢ wp frame (wpE (defs₀ (F := F)) Variants.none c none) E (cc0_vid_mlp i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, fun E K => ?run⟩
  case run =>
    simp only [cc0_vid_mlp_eq_skeleton]; unfold cc0_vid_mlp_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexact HT0

end Cert.MlpIdeal.Gen

end
-- ==== Proof.MlpIdeal.Body.lean ====
module

public import proofs.«01_k».proof.Proof.MlpIdeal.RunA
public import Idealize.ShloMosaic.Lib.Pipeline.FrameBody
public import Idealize.ShloMosaic.Lib.Ring
public import Idealize.ShloMosaic.Lib.Tactic
public import Idealize.ShloMosaic.Lib.WordCmp

@[expose] public section

/-! One grid point of the video MLP call at its staging buffers: what it leaves in each output. -/

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VO0_13 : View sig .tc .vmem S1x256x2560 .bf16 := (Memref.whole cc0_stg13_0 : Memref sig .tc .vmem S1x256x2560 .bf16).view
abbrev VO0_14 : View sig .tc .vmem S1x256x640 .bf16 := (Memref.whole cc0_stg14_0 : Memref sig .tc .vmem S1x256x640 .bf16).view
abbrev VO0_15 : View sig .tc .vmem S1x5x256x128 .fp8e4m3 := (Memref.whole cc0_stg15_0 : Memref sig .tc .vmem S1x5x256x128 .fp8e4m3).view
abbrev VO0_16 : View sig .tc .vmem S1x5x256x128 .fp8e4m3 := (Memref.whole cc0_stg16_0 : Memref sig .tc .vmem S1x5x256x128 .fp8e4m3).view
abbrev VO0_17 : View sig .tc .vmem S1x256x640 .fp8e4m3 := (Memref.whole cc0_stg17_0 : Memref sig .tc .vmem S1x256x640 .fp8e4m3).view
abbrev VO0_18 : View sig .tc .vmem S1x1x256 .f32 := (Memref.whole cc0_stg18_0 : Memref sig .tc .vmem S1x1x256 .f32).view
abbrev VO0_19 : View sig .tc .vmem S1x256x2560 .fp8e4m3 := (Memref.whole cc0_stg19_0 : Memref sig .tc .vmem S1x256x2560 .fp8e4m3).view
abbrev VO0_20 : View sig .tc .vmem S1x1x256 .f32 := (Memref.whole cc0_stg20_0 : Memref sig .tc .vmem S1x1x256 .f32).view
abbrev VO0_21 : View sig .tc .vmem S1x1728x256 .fp8e4m3 := (Memref.whole cc0_stg21_0 : Memref sig .tc .vmem S1x1728x256 .fp8e4m3).view
abbrev VO0_22 : View sig .tc .vmem S1x1x256 .f32 := (Memref.whole cc0_stg22_0 : Memref sig .tc .vmem S1x1x256 .f32).view

theorem cover0_A_13 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) (y : S1x256x2560.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).1 S1x256x2560.size (by sl_kernel_rfl) y

def out0_A_13 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) : Vec F S1x256x2560 .bf16 :=
  VO0_13.read (Elt F) (VO0_13.writes (Elt F) VO0_13.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).1)

theorem cover0_A_14 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) (y : S1x256x640.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.1 S1x256x640.size (by sl_kernel_rfl) y

def out0_A_14 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) : Vec F S1x256x640 .bf16 :=
  VO0_14.read (Elt F) (VO0_14.writes (Elt F) VO0_14.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.1)

theorem cover0_A_15 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) (y : S1x5x256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.1 S1x1x256x128.size (by sl_kernel_rfl) y

def out0_A_15 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) : Vec F S1x5x256x128 .fp8e4m3 :=
  VO0_15.read (Elt F) (VO0_15.writes (Elt F) VO0_15.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.1)

theorem cover0_A_16 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) (y : S1x5x256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.1 S1x1x256x128.size (by sl_kernel_rfl) y

def out0_A_16 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) : Vec F S1x5x256x128 .fp8e4m3 :=
  VO0_16.read (Elt F) (VO0_16.writes (Elt F) VO0_16.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.1)

theorem cover0_A_17 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) (y : S1x256x640.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.1 S1x256x640.size (by sl_kernel_rfl) y

def out0_A_17 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) : Vec F S1x256x640 .fp8e4m3 :=
  VO0_17.read (Elt F) (VO0_17.writes (Elt F) VO0_17.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.1)

theorem cover0_A_18 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) (y : S1x1x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.1 S1x1x256.size (by sl_kernel_rfl) y

def out0_A_18 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) : Vec F S1x1x256 .f32 :=
  VO0_18.read (Elt F) (VO0_18.writes (Elt F) VO0_18.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.1)

theorem cover0_A_19 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) (y : S1x256x2560.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.2.1 S1x256x2560.size (by sl_kernel_rfl) y

def out0_A_19 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) : Vec F S1x256x2560 .fp8e4m3 :=
  VO0_19.read (Elt F) (VO0_19.writes (Elt F) VO0_19.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.2.1)

theorem cover0_A_20 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) (y : S1x1x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.2.2.1 S1x1x256.size (by sl_kernel_rfl) y

def out0_A_20 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) : Vec F S1x1x256 .f32 :=
  VO0_20.read (Elt F) (VO0_20.writes (Elt F) VO0_20.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.2.2.1)

theorem cover0_A_21 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) (y : S1x1728x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.2.2.2.1 S1x1728x256.size (by sl_kernel_rfl) y

def out0_A_21 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) : Vec F S1x1728x256 .fp8e4m3 :=
  VO0_21.read (Elt F) (VO0_21.writes (Elt F) VO0_21.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.2.2.2.1)

theorem cover0_A_22 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) (y : S1x1x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.2.2.2.2.1 S1x1x256.size (by sl_kernel_rfl) y

def out0_A_22 (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) : Vec F S1x1x256 .f32 :=
  VO0_22.read (Elt F) (VO0_22.writes (Elt F) VO0_22.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0).2.2.2.2.2.2.2.2.2.1)

/-- What one grid point leaves in output window 13, its inputs' buffers holding `x0` to `x12`. -/
def val13 (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) : Vec F S1x256x2560 .bf16 :=
  out0_A_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) x0 x1 x2 x3 x4 x5 x6 x7 x8 x9 x10 x11 x12 (tbl m 0)

/-- What one grid point leaves in output window 14, its inputs' buffers holding `x0` to `x12`. -/
def val14 (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) : Vec F S1x256x640 .bf16 :=
  out0_A_14 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) x0 x1 x2 x3 x4 x5 x6 x7 x8 x9 x10 x11 x12 (tbl m 0)

/-- What one grid point leaves in output window 15, its inputs' buffers holding `x0` to `x12`. -/
def val15 (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) : Vec F S1x5x256x128 .fp8e4m3 :=
  out0_A_15 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) x0 x1 x2 x3 x4 x5 x6 x7 x8 x9 x10 x11 x12 (tbl m 0)

/-- What one grid point leaves in output window 16, its inputs' buffers holding `x0` to `x12`. -/
def val16 (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) : Vec F S1x5x256x128 .fp8e4m3 :=
  out0_A_16 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) x0 x1 x2 x3 x4 x5 x6 x7 x8 x9 x10 x11 x12 (tbl m 0)

/-- What one grid point leaves in output window 17, its inputs' buffers holding `x0` to `x12`. -/
def val17 (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) : Vec F S1x256x640 .fp8e4m3 :=
  out0_A_17 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) x0 x1 x2 x3 x4 x5 x6 x7 x8 x9 x10 x11 x12 (tbl m 0)

/-- What one grid point leaves in output window 18, its inputs' buffers holding `x0` to `x12`. -/
def val18 (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) : Vec F S1x1x256 .f32 :=
  out0_A_18 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) x0 x1 x2 x3 x4 x5 x6 x7 x8 x9 x10 x11 x12 (tbl m 0)

/-- What one grid point leaves in output window 19, its inputs' buffers holding `x0` to `x12`. -/
def val19 (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) : Vec F S1x256x2560 .fp8e4m3 :=
  out0_A_19 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) x0 x1 x2 x3 x4 x5 x6 x7 x8 x9 x10 x11 x12 (tbl m 0)

/-- What one grid point leaves in output window 20, its inputs' buffers holding `x0` to `x12`. -/
def val20 (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) : Vec F S1x1x256 .f32 :=
  out0_A_20 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) x0 x1 x2 x3 x4 x5 x6 x7 x8 x9 x10 x11 x12 (tbl m 0)

/-- What one grid point leaves in output window 21, its inputs' buffers holding `x0` to `x12`. -/
def val21 (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) : Vec F S1x1728x256 .fp8e4m3 :=
  out0_A_21 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) x0 x1 x2 x3 x4 x5 x6 x7 x8 x9 x10 x11 x12 (tbl m 0)

/-- What one grid point leaves in output window 22, its inputs' buffers holding `x0` to `x12`. -/
def val22 (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) : Vec F S1x1x256 .f32 :=
  out0_A_22 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) x0 x1 x2 x3 x4 x5 x6 x7 x8 x9 x10 x11 x12 (tbl m 0)

set_option maxHeartbeats 2000000 in
/-- One grid point, from any contents of the inputs' buffers: the inputs keep them and each output holds its value. -/
theorem body_values (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (K : PUnit → sProp 𝕄) :
    iprop(owns (c : Thread nD τ) (ms0_0 m hO t) fullShare x0 ∗ owns (c : Thread nD τ) (ms0_1 m hO t) fullShare x1 ∗ owns (c : Thread nD τ) (ms0_2 m hO t) fullShare x2 ∗ owns (c : Thread nD τ) (ms0_3 m hO t) fullShare x3 ∗ owns (c : Thread nD τ) (ms0_4 m hO t) fullShare x4 ∗ owns (c : Thread nD τ) (ms0_5 m hO t) fullShare x5 ∗ owns (c : Thread nD τ) (ms0_6 m hO t) fullShare x6 ∗ owns (c : Thread nD τ) (ms0_7 m hO t) fullShare x7 ∗ owns (c : Thread nD τ) (ms0_8 m hO t) fullShare x8 ∗ owns (c : Thread nD τ) (ms0_9 m hO t) fullShare x9 ∗ owns (c : Thread nD τ) (ms0_10 m hO t) fullShare x10 ∗ owns (c : Thread nD τ) (ms0_11 m hO t) fullShare x11 ∗ owns (c : Thread nD τ) (ms0_12 m hO t) fullShare x12 ∗ (∃ d, owns (c : Thread nD τ) (ms0_13 m hO t) fullShare d) ∗ (∃ d, owns (c : Thread nD τ) (ms0_14 m hO t) fullShare d) ∗ (∃ d, owns (c : Thread nD τ) (ms0_15 m hO t) fullShare d) ∗ (∃ d, owns (c : Thread nD τ) (ms0_16 m hO t) fullShare d) ∗ (∃ d, owns (c : Thread nD τ) (ms0_17 m hO t) fullShare d) ∗ (∃ d, owns (c : Thread nD τ) (ms0_18 m hO t) fullShare d) ∗ (∃ d, owns (c : Thread nD τ) (ms0_19 m hO t) fullShare d) ∗ (∃ d, owns (c : Thread nD τ) (ms0_20 m hO t) fullShare d) ∗ (∃ d, owns (c : Thread nD τ) (ms0_21 m hO t) fullShare d) ∗ (∃ d, owns (c : Thread nD τ) (ms0_22 m hO t) fullShare d) ∗ tbPt0 c tbM0_0 (tbl m 0)
        ∗ (iprop(owns (c : Thread nD τ) (ms0_0 m hO t) fullShare x0 ∗ owns (c : Thread nD τ) (ms0_1 m hO t) fullShare x1 ∗ owns (c : Thread nD τ) (ms0_2 m hO t) fullShare x2 ∗ owns (c : Thread nD τ) (ms0_3 m hO t) fullShare x3 ∗ owns (c : Thread nD τ) (ms0_4 m hO t) fullShare x4 ∗ owns (c : Thread nD τ) (ms0_5 m hO t) fullShare x5 ∗ owns (c : Thread nD τ) (ms0_6 m hO t) fullShare x6 ∗ owns (c : Thread nD τ) (ms0_7 m hO t) fullShare x7 ∗ owns (c : Thread nD τ) (ms0_8 m hO t) fullShare x8 ∗ owns (c : Thread nD τ) (ms0_9 m hO t) fullShare x9 ∗ owns (c : Thread nD τ) (ms0_10 m hO t) fullShare x10 ∗ owns (c : Thread nD τ) (ms0_11 m hO t) fullShare x11 ∗ owns (c : Thread nD τ) (ms0_12 m hO t) fullShare x12 ∗ owns (c : Thread nD τ) (ms0_13 m hO t) fullShare (val13 m hO c t x0 x1 x2 x3 x4 x5 x6 x7 x8 x9 x10 x11 x12) ∗ owns (c : Thread nD τ) (ms0_14 m hO t) fullShare (val14 m hO c t x0 x1 x2 x3 x4 x5 x6 x7 x8 x9 x10 x11 x12) ∗ owns (c : Thread nD τ) (ms0_15 m hO t) fullShare (val15 m hO c t x0 x1 x2 x3 x4 x5 x6 x7 x8 x9 x10 x11 x12) ∗ owns (c : Thread nD τ) (ms0_16 m hO t) fullShare (val16 m hO c t x0 x1 x2 x3 x4 x5 x6 x7 x8 x9 x10 x11 x12) ∗ owns (c : Thread nD τ) (ms0_17 m hO t) fullShare (val17 m hO c t x0 x1 x2 x3 x4 x5 x6 x7 x8 x9 x10 x11 x12) ∗ owns (c : Thread nD τ) (ms0_18 m hO t) fullShare (val18 m hO c t x0 x1 x2 x3 x4 x5 x6 x7 x8 x9 x10 x11 x12) ∗ owns (c : Thread nD τ) (ms0_19 m hO t) fullShare (val19 m hO c t x0 x1 x2 x3 x4 x5 x6 x7 x8 x9 x10 x11 x12) ∗ owns (c : Thread nD τ) (ms0_20 m hO t) fullShare (val20 m hO c t x0 x1 x2 x3 x4 x5 x6 x7 x8 x9 x10 x11 x12) ∗ owns (c : Thread nD τ) (ms0_21 m hO t) fullShare (val21 m hO c t x0 x1 x2 x3 x4 x5 x6 x7 x8 x9 x10 x11 x12) ∗ owns (c : Thread nD τ) (ms0_22 m hO t) fullShare (val22 m hO c t x0 x1 x2 x3 x4 x5 x6 x7 x8 x9 x10 x11 x12) ∗ tbPt0 c tbM0_0 (tbl m 0)) -∗ K ⟨⟩))
      ⊢ wp frame (wpE (defs₀ (F := F)) Variants.none c none) Set.univ (bodyAt0 (adm m hO) t) K := by
  unfold bodyAt0 val13 val14 val15 val16 val17 val18 val19 val20 val21 val22
  unfold out0_A_13 out0_A_14 out0_A_15 out0_A_16 out0_A_17 out0_A_18 out0_A_19 out0_A_20 out0_A_21 out0_A_22; (try dsimp only)
  iintro ⟨H0, H1, H2, H3, H4, H5, H6, H7, H8, H9, H10, H11, H12, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, HT0, Hk⟩
  iapply ((kernelRun0_A c (grid0.coords t) _ _ _ _ _ _ _ _ _ _ _ _ _ _ _ _ _ _ _ _ _ _ _ _ _ _ _ _ _ _ _ _ _ _ _ _ _ _ _ _ _ _ _ _ _ _  x0 x1 x2 x3 x4 x5 x6 x7 x8 x9 x10 x11 x12 (tbl m 0)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HT0]; · iexact HT0
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, HT0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  iexact HT0

end Cert.MlpIdeal.Gen

end
-- ==== Proof.MlpIdeal.Frame.lean ====
module

public import proofs.«01_k».proof.Proof.MlpIdeal.Body
public import Idealize.ShloMosaic.Lib.Pipeline.Frame
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

/-! The frame of the video MLP call. Windows 0, 1 and 13 to 22 have a last block that runs past the array's end: their
    obligations are stated on the rows inside the array. -/

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- One grid point, from any contents of the inputs' buffers: the inputs keep them, nothing is said of the outputs. -/
theorem body_any (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (K : PUnit → sProp 𝕄) :
    iprop(owns (c : Thread nD τ) (ms0_0 m hO t) fullShare x0 ∗ owns (c : Thread nD τ) (ms0_1 m hO t) fullShare x1 ∗ owns (c : Thread nD τ) (ms0_2 m hO t) fullShare x2 ∗ owns (c : Thread nD τ) (ms0_3 m hO t) fullShare x3 ∗ owns (c : Thread nD τ) (ms0_4 m hO t) fullShare x4 ∗ owns (c : Thread nD τ) (ms0_5 m hO t) fullShare x5 ∗ owns (c : Thread nD τ) (ms0_6 m hO t) fullShare x6 ∗ owns (c : Thread nD τ) (ms0_7 m hO t) fullShare x7 ∗ owns (c : Thread nD τ) (ms0_8 m hO t) fullShare x8 ∗ owns (c : Thread nD τ) (ms0_9 m hO t) fullShare x9 ∗ owns (c : Thread nD τ) (ms0_10 m hO t) fullShare x10 ∗ owns (c : Thread nD τ) (ms0_11 m hO t) fullShare x11 ∗ owns (c : Thread nD τ) (ms0_12 m hO t) fullShare x12 ∗ (∃ d, owns (c : Thread nD τ) (ms0_13 m hO t) fullShare d) ∗ (∃ d, owns (c : Thread nD τ) (ms0_14 m hO t) fullShare d) ∗ (∃ d, owns (c : Thread nD τ) (ms0_15 m hO t) fullShare d) ∗ (∃ d, owns (c : Thread nD τ) (ms0_16 m hO t) fullShare d) ∗ (∃ d, owns (c : Thread nD τ) (ms0_17 m hO t) fullShare d) ∗ (∃ d, owns (c : Thread nD τ) (ms0_18 m hO t) fullShare d) ∗ (∃ d, owns (c : Thread nD τ) (ms0_19 m hO t) fullShare d) ∗ (∃ d, owns (c : Thread nD τ) (ms0_20 m hO t) fullShare d) ∗ (∃ d, owns (c : Thread nD τ) (ms0_21 m hO t) fullShare d) ∗ (∃ d, owns (c : Thread nD τ) (ms0_22 m hO t) fullShare d) ∗ tbPt0 c tbM0_0 (tbl m 0)
        ∗ (iprop(owns (c : Thread nD τ) (ms0_0 m hO t) fullShare x0 ∗ owns (c : Thread nD τ) (ms0_1 m hO t) fullShare x1 ∗ owns (c : Thread nD τ) (ms0_2 m hO t) fullShare x2 ∗ owns (c : Thread nD τ) (ms0_3 m hO t) fullShare x3 ∗ owns (c : Thread nD τ) (ms0_4 m hO t) fullShare x4 ∗ owns (c : Thread nD τ) (ms0_5 m hO t) fullShare x5 ∗ owns (c : Thread nD τ) (ms0_6 m hO t) fullShare x6 ∗ owns (c : Thread nD τ) (ms0_7 m hO t) fullShare x7 ∗ owns (c : Thread nD τ) (ms0_8 m hO t) fullShare x8 ∗ owns (c : Thread nD τ) (ms0_9 m hO t) fullShare x9 ∗ owns (c : Thread nD τ) (ms0_10 m hO t) fullShare x10 ∗ owns (c : Thread nD τ) (ms0_11 m hO t) fullShare x11 ∗ owns (c : Thread nD τ) (ms0_12 m hO t) fullShare x12 ∗ (∃ d, owns (c : Thread nD τ) (ms0_13 m hO t) fullShare d) ∗ (∃ d, owns (c : Thread nD τ) (ms0_14 m hO t) fullShare d) ∗ (∃ d, owns (c : Thread nD τ) (ms0_15 m hO t) fullShare d) ∗ (∃ d, owns (c : Thread nD τ) (ms0_16 m hO t) fullShare d) ∗ (∃ d, owns (c : Thread nD τ) (ms0_17 m hO t) fullShare d) ∗ (∃ d, owns (c : Thread nD τ) (ms0_18 m hO t) fullShare d) ∗ (∃ d, owns (c : Thread nD τ) (ms0_19 m hO t) fullShare d) ∗ (∃ d, owns (c : Thread nD τ) (ms0_20 m hO t) fullShare d) ∗ (∃ d, owns (c : Thread nD τ) (ms0_21 m hO t) fullShare d) ∗ (∃ d, owns (c : Thread nD τ) (ms0_22 m hO t) fullShare d) ∗ tbPt0 c tbM0_0 (tbl m 0)) -∗ K ⟨⟩))
      ⊢ wp frame (wpE (defs₀ (F := F)) Variants.none c none) Set.univ (bodyAt0 (adm m hO) t) K := by
  iintro ⟨H0, H1, H2, H3, H4, H5, H6, H7, H8, H9, H10, H11, H12, H13, H14, H15, H16, H17, H18, H19, H20, H21, H22, HT0, Hk⟩
  iapply (body_values m hO c t x0 x1 x2 x3 x4 x5 x6 x7 x8 x9 x10 x11 x12)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HT0]; · iexact HT0
  iintro ⟨H0, H1, H2, H3, H4, H5, H6, H7, H8, H9, H10, H11, H12, H13, H14, H15, H16, H17, H18, H19, H20, H21, H22, HT0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexact HT0

/-- The output windows, of which this frame says nothing. -/
def forgets0 : Fin 23 → Bool := fun w => decide (13 ≤ w.val)

/-- The proof data of the pipeline on core `c`: the arrays as the call finds them; each input's buffer at its block (for
    the two inputs whose last block runs past the array's end, on the rows inside the array); the outputs at anything. -/
def dats (hO : Ok m) (_ : Fin 1) (c : Dev nD) : Dat τ (Elt F) Unit ℕ (UR sig nD τ) ℕ (cfgM m hO) c where
  A w := V m c (Pipeline.arrRef spec0 w)
  after w t := match w with
    | ⟨0, h⟩ => ((cfgM m hO).win 0).fill (grid0.coords t) (Pipeline.Dat.unnamed (cfg := (cfgM m hO)) ⟨0, h⟩ t) (iblk m hO c 0 t)
    | ⟨1, h⟩ => ((cfgM m hO).win 1).fill (grid0.coords t) (Pipeline.Dat.unnamed (cfg := (cfgM m hO)) ⟨1, h⟩ t) (iblk m hO c 1 t)
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, h⟩ => Pipeline.Dat.unnamed (cfg := (cfgM m hO)) ⟨13, h⟩ t
    | ⟨14, h⟩ => Pipeline.Dat.unnamed (cfg := (cfgM m hO)) ⟨14, h⟩ t
    | ⟨15, h⟩ => Pipeline.Dat.unnamed (cfg := (cfgM m hO)) ⟨15, h⟩ t
    | ⟨16, h⟩ => Pipeline.Dat.unnamed (cfg := (cfgM m hO)) ⟨16, h⟩ t
    | ⟨17, h⟩ => Pipeline.Dat.unnamed (cfg := (cfgM m hO)) ⟨17, h⟩ t
    | ⟨18, h⟩ => Pipeline.Dat.unnamed (cfg := (cfgM m hO)) ⟨18, h⟩ t
    | ⟨19, h⟩ => Pipeline.Dat.unnamed (cfg := (cfgM m hO)) ⟨19, h⟩ t
    | ⟨20, h⟩ => Pipeline.Dat.unnamed (cfg := (cfgM m hO)) ⟨20, h⟩ t
    | ⟨21, h⟩ => Pipeline.Dat.unnamed (cfg := (cfgM m hO)) ⟨21, h⟩ t
    | ⟨22, h⟩ => Pipeline.Dat.unnamed (cfg := (cfgM m hO)) ⟨22, h⟩ t
    | ⟨_ + 23, h⟩ => absurd h (Nat.not_lt.2 (Nat.le_add_left _ _))
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem cut0_0 (hO : Ok m) (c : Dev nD) (t : Fin (cfgM m hO).N) :
    ((cfgM m hO).win 0).cut (grid0.coords t) ((dats m hO 0 c).after 0 t) = iblk m hO c 0 t := Pipeline.Window.cut_fill _ _ _ _
theorem before0_0 (hO : Ok m) (c : Dev nD) (t : Fin (cfgM m hO).N) (d) :
    (dats m hO 0 c).before 0 t d = ((cfgM m hO).win 0).fill (grid0.coords t) d (iblk m hO c 0 t) := by
  unfold Dat.before; rw [if_pos (fetch0_0 _ t)]; rfl
theorem cut0_1 (hO : Ok m) (c : Dev nD) (t : Fin (cfgM m hO).N) :
    ((cfgM m hO).win 1).cut (grid0.coords t) ((dats m hO 0 c).after 1 t) = iblk m hO c 1 t := Pipeline.Window.cut_fill _ _ _ _
theorem before0_1 (hO : Ok m) (c : Dev nD) (t : Fin (cfgM m hO).N) (d) :
    (dats m hO 0 c).before 1 t d = ((cfgM m hO).win 1).fill (grid0.coords t) d (iblk m hO c 1 t) := by
  unfold Dat.before; rw [if_pos (fetch0_1 _ t)]; rfl
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem after0_6 (hO : Ok m) (c : Dev nD) (t : Fin (cfgM m hO).N) : (dats m hO 0 c).after 6 t = iblk m hO c 6 t := by dsimp only [dats]; try rfl
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem after0_7 (hO : Ok m) (c : Dev nD) (t : Fin (cfgM m hO).N) : (dats m hO 0 c).after 7 t = iblk m hO c 7 t := by dsimp only [dats]; try rfl
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem after0_8 (hO : Ok m) (c : Dev nD) (t : Fin (cfgM m hO).N) : (dats m hO 0 c).after 8 t = iblk m hO c 8 t := by dsimp only [dats]; try rfl
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem after0_9 (hO : Ok m) (c : Dev nD) (t : Fin (cfgM m hO).N) : (dats m hO 0 c).after 9 t = iblk m hO c 9 t := by dsimp only [dats]; try rfl
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem after0_10 (hO : Ok m) (c : Dev nD) (t : Fin (cfgM m hO).N) : (dats m hO 0 c).after 10 t = iblk m hO c 10 t := by dsimp only [dats]; try rfl
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem after0_11 (hO : Ok m) (c : Dev nD) (t : Fin (cfgM m hO).N) : (dats m hO 0 c).after 11 t = iblk m hO c 11 t := by dsimp only [dats]; try rfl
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem after0_12 (hO : Ok m) (c : Dev nD) (t : Fin (cfgM m hO).N) : (dats m hO 0 c).after 12 t = iblk m hO c 12 t := by dsimp only [dats]; try rfl
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d)
    ∗ (∃ d, owns (c : Thread nD τ) (ms0_18 m hO t) fullShare d)
    ∗ (∃ d, owns (c : Thread nD τ) (ms0_19 m hO t) fullShare d)
    ∗ (∃ d, owns (c : Thread nD τ) (ms0_20 m hO t) fullShare d)
    ∗ (∃ d, owns (c : Thread nD τ) (ms0_21 m hO t) fullShare d)
    ∗ (∃ d, owns (c : Thread nD τ) (ms0_22 m hO t) fullShare d))

def bodyPost (hO : Ok m) (c : Dev nD) (t : Fin (cfgM m hO).N) (X0 : (((cfgM m hO).win 0).xblock ((cfgM m hO).grid.coords t)).Idx → Elt F ((cfgM m hO).win 0).elt) (X1 : (((cfgM m hO).win 1).xblock ((cfgM m hO).grid.coords t)).Idx → Elt F ((cfgM m hO).win 1).elt) : sProp 𝕄 :=
  iprop((dats m hO 0 c).Φ t.succ ∗ (dats m hO 0 c).owesAt () t.succ
    ∗ (∃ d, owns (c : Thread nD τ) (ms0_0 m hO t) fullShare (((cfgM m hO).win 0).fill (grid0.coords t) d X0))
    ∗ (∃ d, owns (c : Thread nD τ) (ms0_1 m hO t) fullShare (((cfgM m hO).win 1).fill (grid0.coords t) d X1))
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d)
    ∗ (∃ d, owns (c : Thread nD τ) (ms0_18 m hO t) fullShare d)
    ∗ (∃ d, owns (c : Thread nD τ) (ms0_19 m hO t) fullShare d)
    ∗ (∃ d, owns (c : Thread nD τ) (ms0_20 m hO t) fullShare d)
    ∗ (∃ d, owns (c : Thread nD τ) (ms0_21 m hO t) fullShare d)
    ∗ (∃ d, owns (c : Thread nD τ) (ms0_22 m hO t) fullShare d))

set_option maxHeartbeats 2000000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t (iblk m hO c 0 t) (iblk m hO c 1 t)) := by
  unfold bodyPre bodyPost
  simp only [before0_0, before0_1, before0_2, before0_3, before0_4, before0_5, before0_6, before0_7, before0_8, before0_9, before0_10, before0_11, before0_12]
  rw [show (dats m hO 0 c).Φ t.succ = (dats m hO 0 c).Φ t.castSucc from rfl,
    show (dats m hO 0 c).owesAt () t.succ = (dats m hO 0 c).owesAt () t.castSucc from rfl,
    after0_2, after0_3, after0_4, after0_5, after0_6, after0_7, after0_8, after0_9, after0_10, after0_11, after0_12]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17, H18, H19, H20, H21, H22⟩
  iapply (body_any m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HT0]; · iexact HT0
  iintro ⟨H0, H1, H2, H3, H4, H5, H6, H7, H8, H9, H10, H11, H12, H13, H14, H15, H16, H17, H18, H19, H20, H21, H22, HT0⟩
  isplitl [HΦ HT0]
  · isplitl [HΦ]
    · iexact HΦ
    iexact HT0
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligationLoose (dats (F := F) m hO 0 c) (defs₀ (F := F)) Variants.none () Set.univ forgets0 := fun t => by
  rw [bigSep_W0, bigSep_W0, defs₀_row m hO]
  have h := sound_body m hO c t
  rw [← cut0_0 m hO c t, ← cut0_1 m hO c t] at h
  exact triple_restated h rfl .rfl fun _ => .rfl

set_option backward.isDefEq.respectTransparency.types false in
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => body_obligation m hO c) (hshare := fun c => (dats m hO 0 c).share_full fun _ => rfl)
    (howed := fun _ _ => rfl) (V := V m) (hmain := hmain m Variants.none) (hA := A_eq m hO) (hpf := V_pre m) (hΦ := fun _ _ => rfl)

theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ hO (fun c => (dats m hO 0 c).toRForget forgets0) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ hO) ((θ_run defs _ _).mono (fun _ h => h.2) (run_main_quiescent m ρ hO))

end Cert.MlpIdeal.Gen

end
-- ==== Proof.VidSpec.lean ====
/-
  The mathematics that the video call adds to one token's row: the window that a token lies in, the scale of that window,
  and the attention row as five heads side by side.
-/
module

public import proofs.«01_k».proof.Proof.Spec
public import Idealize.ShloMosaic.Lib.Pointwise
public import Idealize.ShloMosaic.Lib.WordCmp

@[expose] public section

noncomputable section

open Idealize.ShloMosaic

namespace Cert.Spec

/-! ### The window of a token -/

/-- The entry of the last window from 1 to 17 that has begun, or of window 0 when none of them has. -/
def pick (ge : Fin 18 → Prop) [DecidablePred ge] (a : Fin 18 → EReal) : EReal :=
  if ge 17 then a 17 else if ge 16 then a 16 else if ge 15 then a 15 else if ge 14 then a 14 else
  if ge 13 then a 13 else if ge 12 then a 12 else if ge 11 then a 11 else if ge 10 then a 10 else
  if ge 9 then a 9 else if ge 8 then a 8 else if ge 7 then a 7 else if ge 6 then a 6 else
  if ge 5 then a 5 else if ge 4 then a 4 else if ge 3 then a 3 else if ge 2 then a 2 else
  if ge 1 then a 1 else a 0

/-- Some window is the last that has begun. -/
theorem exists_last (ge : Fin 18 → Prop) : ∃ k : Fin 18, (ge k ∨ k = 0) ∧ ∀ j, k < j → ¬ ge j := by
  classical
  let S : Finset (Fin 18) := Finset.univ.filter fun k => ge k ∨ k = 0
  have h0 : (0 : Fin 18) ∈ S := by simp [S]
  refine ⟨S.max' ⟨0, h0⟩, ?_, fun j hj hg => ?_⟩
  · have := S.max'_mem ⟨0, h0⟩
    simpa [S] using this
  · have : j ≤ S.max' ⟨0, h0⟩ := S.le_max' j (by simp [S, hg])
    exact absurd hj (not_lt.mpr this)

/-- What is picked is the entry of the last window that has begun. -/
theorem pick_eq (ge : Fin 18 → Prop) [DecidablePred ge] (a : Fin 18 → EReal) (k : Fin 18) (hk : ge k ∨ k = 0)
    (hl : ∀ j, k < j → ¬ ge j) : pick ge a = a k := by
  have h : ∀ j : Fin 18, j.val > k.val → (ge j ↔ False) := fun j hj => iff_false_intro (hl j hj)
  unfold pick
  fin_cases k <;> simp_all

/-- A scale is picked where its magnitude is. -/
theorem pick_scaleOf (ge : Fin 18 → Prop) [DecidablePred ge] (a : Fin 18 → EReal) :
    pick ge (fun w => scaleOf (a w)) = scaleOf (pick ge a) := by
  obtain ⟨k, hk, hl⟩ := exists_last ge
  rw [pick_eq ge _ k hk hl, pick_eq ge _ k hk hl]

/-- Window numbers as words, and back. -/
theorem word_toInt : ∀ w : Fin 18, (BitVec.ofNat 32 w.val).toInt = (w.val : ℤ) := by decide

/-- The larger of two words, as integers. -/
theorem maxsi_toInt (x y : BitVec 32) : (IntOp.maxsi x y).toInt = max x.toInt y.toInt := by
  simp only [IntOp.maxsi, BitVec.slt_eq_decide, decide_eq_true_eq]
  split_ifs with h
  · rw [max_eq_left h.le]
  · rw [max_eq_right (not_lt.mp h)]

/-- The largest number of a window that has begun is the last such window's. -/
theorem fold_last (ge : Fin 18 → Prop) [DecidablePred ge] (f : Fin 18 → BitVec 32)
    (hf : ∀ w, f w = if ge w then BitVec.ofNat 32 w.val else 0#32) (k : Fin 18) (hk : ge k ∨ k = 0)
    (hl : ∀ j, k < j → ¬ ge j) : Finset.univ.fold IntOp.maxsi 2147483648#32 f = BitVec.ofNat 32 k.val := by
  apply BitVec.eq_of_toInt_eq
  have e : ∀ w, (f w).toInt = if ge w then (w.val : ℤ) else 0 := by
    intro w
    rw [hf]
    split_ifs
    · exact word_toInt w
    · rfl
  have h : (Finset.univ.fold IntOp.maxsi 2147483648#32 f).toInt
      = Finset.univ.fold max (2147483648#32 : BitVec 32).toInt fun w => (f w).toInt :=
    (Finset.fold_hom (op := IntOp.maxsi) (op' := max) (m := BitVec.toInt) maxsi_toInt).symm
  rw [h, word_toInt]
  apply le_antisymm
  · rw [Finset.fold_max_le]
    refine ⟨le_trans (by decide) (Int.natCast_nonneg _), fun w _ => ?_⟩
    rw [e]
    split_ifs with hg
    · have : w ≤ k := not_lt.mp fun hlt => hl w hlt hg
      exact_mod_cast this
    · positivity
  · rw [Finset.le_fold_max]
    refine Or.inr ⟨k, Finset.mem_univ _, ?_⟩
    rw [e]
    split_ifs with hg
    · exact le_refl _
    · rcases hk with hk | hk
      · exact absurd hk hg
      · subst hk; simp

/-- The sum over the windows of the entries marked by the last window that has begun is its entry. -/
theorem sum_last (ge : Fin 18 → Prop) [DecidablePred ge] (f : Fin 18 → BitVec 32)
    (hf : ∀ w, f w = if ge w then BitVec.ofNat 32 w.val else 0#32) (a : Fin 18 → EReal) :
    (∑ w : Fin 18, if BitVec.ofNat 32 w.val = Finset.univ.fold IntOp.maxsi 2147483648#32 f then a w else 0) = pick ge a := by
  obtain ⟨k, hk, hl⟩ := exists_last ge
  rw [fold_last ge f hf k hk hl, pick_eq ge a k hk hl]
  have e : ∀ w : Fin 18, (BitVec.ofNat 32 w.val = BitVec.ofNat 32 k.val) ↔ w = k := by
    intro w
    constructor
    · intro h
      have := congrArg BitVec.toInt h
      rw [word_toInt, word_toInt] at this
      ext
      exact_mod_cast this
    · rintro rfl; rfl
  simp only [e, Finset.sum_ite_eq', Finset.mem_univ, if_true]

/-! ### The attention row -/

/-- Five heads side by side. -/
def cat (f : Fin 5 → Fin 128 → EReal) (k : Fin 640) : EReal :=
  f ⟨k.val / 128, by omega⟩ ⟨k.val % 128, Nat.mod_lt _ (by norm_num)⟩

/-- Five heads side by side, read as a concatenation reads them. -/
theorem cat_ladder (f : Fin 5 → Fin 128 → EReal) (k : Fin 640) :
    cat f k = if h : k.val < 128 then f 0 ⟨k.val, h⟩ else
      if h : k.val - 128 < 128 then f 1 ⟨k.val - 128, h⟩ else
      if h : k.val - 128 - 128 < 128 then f 2 ⟨k.val - 128 - 128, h⟩ else
      if h : k.val - 128 - 128 - 128 < 128 then f 3 ⟨k.val - 128 - 128 - 128, h⟩ else
      f 4 ⟨k.val - 128 - 128 - 128 - 128, by omega⟩ := by
  have e : ∀ (p : Fin 5) (j : Fin 128), k.val = p.val * 128 + j.val → cat f k = f p j := by
    intro p j h
    have e1 : (⟨k.val / 128, by omega⟩ : Fin 5) = p := by ext; simp; omega
    have e2 : (⟨k.val % 128, Nat.mod_lt _ (by norm_num)⟩ : Fin 128) = j := by ext; simp; omega
    unfold cat
    rw [e1, e2]
  split_ifs with h0 h1 h2 h3
  · exact e 0 ⟨_, h0⟩ (by simp)
  · exact e 1 ⟨_, h1⟩ (by simp; omega)
  · exact e 2 ⟨_, h2⟩ (by simp; omega)
  · exact e 3 ⟨_, h3⟩ (by simp; omega)
  · exact e 4 ⟨_, _⟩ (by simp; omega)

theorem vmax_le {n : Nat} (v : Fin n → EReal) (c : EReal) : vmax v ≤ c ↔ ∀ x, v x ≤ c := by
  unfold vmax
  rw [Finset.fold_max_le, cbot_eq]
  simp

/-- The largest magnitude of the row is the largest over the lanes of the heads' largest. -/
theorem amax_cat (f : Fin 5 → Fin 128 → EReal) :
    amax (cat f) = vmax fun j : Fin 128 =>
      max (max (max (max (FloatOps.absf (F := Ideal) (φ := .f32) (f 0 j)) (FloatOps.absf (F := Ideal) (φ := .f32) (f 1 j)))
        (FloatOps.absf (F := Ideal) (φ := .f32) (f 2 j))) (FloatOps.absf (F := Ideal) (φ := .f32) (f 3 j)))
        (FloatOps.absf (F := Ideal) (φ := .f32) (f 4 j)) := by
  refine eq_of_forall_ge_iff fun c => ?_
  unfold amax
  rw [vmax_le, vmax_le]
  simp only [max_le_iff]
  constructor
  · intro h j
    have hp : ∀ p : Fin 5, FloatOps.absf (F := Ideal) (φ := .f32) (f p j) ≤ c := by
      intro p
      have := h ⟨p.val * 128 + j.val, by omega⟩
      have e1 : (⟨(p.val * 128 + j.val) / 128, by omega⟩ : Fin 5) = p := by ext; simp; omega
      have e2 : (⟨(p.val * 128 + j.val) % 128, Nat.mod_lt _ (by norm_num)⟩ : Fin 128) = j := by ext; simp
      unfold cat at this
      simp only [e1, e2] at this
      exact this
    exact ⟨⟨⟨⟨hp 0, hp 1⟩, hp 2⟩, hp 3⟩, hp 4⟩
  · intro h k
    unfold cat
    have := h ⟨k.val % 128, Nat.mod_lt _ (by norm_num)⟩
    generalize (⟨k.val % 128, Nat.mod_lt _ (by norm_num)⟩ : Fin 128) = j at *
    generalize (⟨k.val / 128, by omega⟩ : Fin 5) = p
    obtain ⟨⟨⟨⟨h0, h1⟩, h2⟩, h3⟩, h4⟩ := this
    fin_cases p <;> assumption

/-! ### A video token -/

/-- A video token: its row, its attention row's codes and scale, and its modulation rows. -/
def vtok (x : Fin 2560 → EReal) (att : Fin 5 → Fin 128 → EReal) (m : Fin 6 → Fin 2560 → EReal) : Tok :=
  ⟨x, qcode (cat att), qscale (cat att), m⟩

/-- A query's or key's code under the scale of the window that the token lies in: `cu` are the windows' first tokens,
    `w` the windows' largest magnitudes. -/
def wcode (cu : Fin 18 → BitVec 32) (w : Fin 18 → EReal) (n : Nat) (v : EReal) : EReal :=
  code (scaleOf (pick (fun k => (cu k).toInt ≤ (BitVec.ofNat 32 n).toInt) w)) v

end Cert.Spec
-- ==== Proof.MlpIdeal.Geo.lean ====
/-
  The video kernel's blocks as parts of the arguments.
-/
module

public import proofs.«01_k».proof.Proof.MlpIdeal.Runs
public import proofs.«01_k».proof.Proof.VidSpec
public import Idealize.ShloMosaic.Lib.StableHlo.Run
public import Idealize.ShloMosaic.Lib.StableHlo.ReadAt
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.MlpIdeal.Vals
open Cert.MlpIdeal Cert.MlpIdeal.Gen Cert.Spec

variable (m : (ℓ : Loc nD τ sig) → Buf (Elt Ideal) ℓ) (hO : Ok m) (c : Dev nD)

/-! ### What the host operations leave -/

theorem one_bits : Ideal.ofBits .f32 1065353216#32 = (1 : EReal) := by
  simp [Ideal.ofBits, Ideal.ieee, -EReal.coe_mul]; norm_num

theorem v4_at (i : S2x18x16x128.Idx) : V m c main_v4 i = scaleOf (m ((c : Thread nD τ).loc main_arg4) i) := by
  simp only [V, hostOps, hostOps0, hostOps0_1, hostOps0_2, List.flatten_cons, List.flatten_nil, List.append_nil, List.cons_append, List.nil_append]
  open StableHlo in after_reads_at
  unfold scaleOf
  refine if_congr Iff.rfl ?_ rfl
  exact one_bits

theorem v5_at (j : Fin 1728) (k : Fin 2560) : V m c main_v5 (ix2 j k) = m ((c : Thread nD τ).loc main_arg8) (ix2 k j) := by
  simp only [V, hostOps, hostOps0, hostOps0_1, hostOps0_2, List.flatten_cons, List.flatten_nil, List.append_nil, List.cons_append, List.nil_append]
  open StableHlo in after_results
  pointwise

theorem v6_at (j : Fin 1728) (k : Fin 2560) : V m c main_v6 (ix2 j k) = m ((c : Thread nD τ).loc main_arg10) (ix2 k j) := by
  simp only [V, hostOps, hostOps0, hostOps0_1, hostOps0_2, List.flatten_cons, List.flatten_nil, List.append_nil, List.cons_append, List.nil_append]
  open StableHlo in after_results
  pointwise

theorem v7_at (k : Fin 2560) : V m c main_v7 (ix2 0 k) = m ((c : Thread nD τ).loc main_arg7) (ix1 k) := by
  simp only [V, hostOps, hostOps0, hostOps0_1, hostOps0_2, List.flatten_cons, List.flatten_nil, List.append_nil, List.cons_append, List.nil_append]
  open StableHlo in after_results
  pointwise

theorem v8_at (k : Fin 2560) : V m c main_v8 (ix2 0 k) = m ((c : Thread nD τ).loc main_arg13) (ix1 k) := by
  simp only [V, hostOps, hostOps0, hostOps0_1, hostOps0_2, List.flatten_cons, List.flatten_nil, List.append_nil, List.cons_append, List.nil_append]
  open StableHlo in after_results
  pointwise

theorem v10_at (j : Fin 1728) (k : Fin 128) : V m c main_v10 (ix2 j k) = m ((c : Thread nD τ).loc main_arg9) (ix1 j) := by
  simp only [V, hostOps, hostOps0, hostOps0_1, hostOps0_2, List.flatten_cons, List.flatten_nil, List.append_nil, List.cons_append, List.nil_append]
  open StableHlo in after_results
  pointwise

theorem v12_at (j : Fin 1728) (k : Fin 128) : V m c main_v12 (ix2 j k) = m ((c : Thread nD τ).loc main_arg11) (ix1 j) := by
  simp only [V, hostOps, hostOps0, hostOps0_1, hostOps0_2, List.flatten_cons, List.flatten_nil, List.append_nil, List.cons_append, List.nil_append]
  open StableHlo in after_results
  pointwise

/-! ### Which block each point works on -/

theorem index_at : ∀ t : Fin grid0.N, cc0_transform_0 (grid0.coords t) = ![t.val / 48, t.val % 48, 0]
    ∧ cc0_transform_1 (grid0.coords t) = ![t.val / 48, 0, t.val % 48, 0]
    ∧ cc0_transform_2 (grid0.coords t) = ![t.val / 48, 0, t.val % 48, 0]
    ∧ cc0_transform_3 (grid0.coords t) = ![t.val / 48, 0, 0, 0]
    ∧ cc0_transform_4 (grid0.coords t) = ![t.val / 48, 0, 0]
    ∧ cc0_transform_5 (grid0.coords t) = ![0, 0]
    ∧ cc0_transform_6 (grid0.coords t) = ![0, 0]
    ∧ cc0_transform_7 (grid0.coords t) = ![0, 0]
    ∧ cc0_transform_8 (grid0.coords t) = ![0, 0]
    ∧ cc0_transform_9 (grid0.coords t) = ![0, 0]
    ∧ cc0_transform_10 (grid0.coords t) = ![0, 0]
    ∧ cc0_transform_11 (grid0.coords t) = ![0, 0]
    ∧ cc0_transform_12 (grid0.coords t) = ![0, 0]
    ∧ cc0_transform_13 (grid0.coords t) = ![t.val / 48, t.val % 48, 0]
    ∧ cc0_transform_14 (grid0.coords t) = ![t.val / 48, t.val % 48, 0]
    ∧ cc0_transform_15 (grid0.coords t) = ![t.val / 48, 0, t.val % 48, 0]
    ∧ cc0_transform_16 (grid0.coords t) = ![t.val / 48, 0, t.val % 48, 0]
    ∧ cc0_transform_17 (grid0.coords t) = ![t.val / 48, t.val % 48, 0]
    ∧ cc0_transform_18 (grid0.coords t) = ![t.val / 48, 0, t.val % 48]
    ∧ cc0_transform_19 (grid0.coords t) = ![t.val / 48, t.val % 48, 0]
    ∧ cc0_transform_20 (grid0.coords t) = ![t.val / 48, 0, t.val % 48]
    ∧ cc0_transform_21 (grid0.coords t) = ![t.val / 48, 0, t.val % 48]
    ∧ cc0_transform_22 (grid0.coords t) = ![t.val / 48, 0, t.val % 48] :=
  by decide +kernel

theorem idx0 (t : Fin grid0.N) : (pcfg0.win (adm m hO) 0).index t = ![t.val / 48, t.val % 48, 0] := (index_at t).1
theorem idx1 (t : Fin grid0.N) : (pcfg0.win (adm m hO) 1).index t = ![t.val / 48, 0, t.val % 48, 0] := (index_at t).2.1
theorem idx2 (t : Fin grid0.N) : (pcfg0.win (adm m hO) 2).index t = ![t.val / 48, 0, t.val % 48, 0] := (index_at t).2.2.1
theorem idx3 (t : Fin grid0.N) : (pcfg0.win (adm m hO) 3).index t = ![t.val / 48, 0, 0, 0] := (index_at t).2.2.2.1
theorem idx4 (t : Fin grid0.N) : (pcfg0.win (adm m hO) 4).index t = ![t.val / 48, 0, 0] := (index_at t).2.2.2.2.1
theorem idx5 (t : Fin grid0.N) : (pcfg0.win (adm m hO) 5).index t = ![0, 0] := (index_at t).2.2.2.2.2.1
theorem idx6 (t : Fin grid0.N) : (pcfg0.win (adm m hO) 6).index t = ![0, 0] := (index_at t).2.2.2.2.2.2.1
theorem idx7 (t : Fin grid0.N) : (pcfg0.win (adm m hO) 7).index t = ![0, 0] := (index_at t).2.2.2.2.2.2.2.1
theorem idx8 (t : Fin grid0.N) : (pcfg0.win (adm m hO) 8).index t = ![0, 0] := (index_at t).2.2.2.2.2.2.2.2.1
theorem idx9 (t : Fin grid0.N) : (pcfg0.win (adm m hO) 9).index t = ![0, 0] := (index_at t).2.2.2.2.2.2.2.2.2.1
theorem idx10 (t : Fin grid0.N) : (pcfg0.win (adm m hO) 10).index t = ![0, 0] := (index_at t).2.2.2.2.2.2.2.2.2.2.1
theorem idx11 (t : Fin grid0.N) : (pcfg0.win (adm m hO) 11).index t = ![0, 0] := (index_at t).2.2.2.2.2.2.2.2.2.2.2.1
theorem idx12 (t : Fin grid0.N) : (pcfg0.win (adm m hO) 12).index t = ![0, 0] := (index_at t).2.2.2.2.2.2.2.2.2.2.2.2.1
theorem idx13 (t : Fin grid0.N) : (pcfg0.win (adm m hO) 13).index t = ![t.val / 48, t.val % 48, 0] := (index_at t).2.2.2.2.2.2.2.2.2.2.2.2.2.1
theorem idx14 (t : Fin grid0.N) : (pcfg0.win (adm m hO) 14).index t = ![t.val / 48, t.val % 48, 0] := (index_at t).2.2.2.2.2.2.2.2.2.2.2.2.2.2.1
theorem idx15 (t : Fin grid0.N) : (pcfg0.win (adm m hO) 15).index t = ![t.val / 48, 0, t.val % 48, 0] := (index_at t).2.2.2.2.2.2.2.2.2.2.2.2.2.2.2.1
theorem idx16 (t : Fin grid0.N) : (pcfg0.win (adm m hO) 16).index t = ![t.val / 48, 0, t.val % 48, 0] := (index_at t).2.2.2.2.2.2.2.2.2.2.2.2.2.2.2.2.1
theorem idx17 (t : Fin grid0.N) : (pcfg0.win (adm m hO) 17).index t = ![t.val / 48, t.val % 48, 0] := (index_at t).2.2.2.2.2.2.2.2.2.2.2.2.2.2.2.2.2.1
theorem idx18 (t : Fin grid0.N) : (pcfg0.win (adm m hO) 18).index t = ![t.val / 48, 0, t.val % 48] := (index_at t).2.2.2.2.2.2.2.2.2.2.2.2.2.2.2.2.2.2.1
theorem idx19 (t : Fin grid0.N) : (pcfg0.win (adm m hO) 19).index t = ![t.val / 48, t.val % 48, 0] := (index_at t).2.2.2.2.2.2.2.2.2.2.2.2.2.2.2.2.2.2.2.1
theorem idx20 (t : Fin grid0.N) : (pcfg0.win (adm m hO) 20).index t = ![t.val / 48, 0, t.val % 48] := (index_at t).2.2.2.2.2.2.2.2.2.2.2.2.2.2.2.2.2.2.2.2.1
theorem idx21 (t : Fin grid0.N) : (pcfg0.win (adm m hO) 21).index t = ![t.val / 48, 0, t.val % 48] := (index_at t).2.2.2.2.2.2.2.2.2.2.2.2.2.2.2.2.2.2.2.2.2.1
theorem idx22 (t : Fin grid0.N) : (pcfg0.win (adm m hO) 22).index t = ![t.val / 48, 0, t.val % 48] := (index_at t).2.2.2.2.2.2.2.2.2.2.2.2.2.2.2.2.2.2.2.2.2.2

/-! ### The blocks that lie inside their arrays -/

theorem b2 (t : Fin grid0.N) (b : Fin 2) (hb : b.val = t.val / 48) (n : Fin 12288) (r : Fin 256) (hn : n.val = t.val % 48 * 256 + r.val) (h : Fin 10) (l : Fin 128) :
    iblk m hO c 2 t (ix4 (0 : Fin 1) h r l) = m ((c : Thread nD τ).loc main_arg3) (ix4 b h n l) := by
  rw [← V_arg m c main_arg3 (by decide)]
  have e0 := congrFun (idx2 m hO t) 0
  have e1 := congrFun (idx2 m hO t) 1
  have e2 := congrFun (idx2 m hO t) 2
  have e3 := congrFun (idx2 m hO t) 3
  blk_point [iblk, cfgM, cfg0, e0, e1, e2, e3]
  case «0» => exact (congrArg (fun x : Nat => x + 0) e0).trans (show t.val / 48 + 0 = b.val by omega)
  case «1» => exact (congrArg (fun x : Nat => x * 10 + h.val) e1).trans (show 0 * 10 + h.val = h.val by omega)
  case «2» => exact (congrArg (fun x : Nat => x * 256 + r.val) e2).trans (show (t.val % 48) * 256 + r.val = n.val by omega)
  case «3» => exact (congrArg (fun x : Nat => x * 128 + l.val) e3).trans (show 0 * 128 + l.val = l.val by omega)

theorem b3 (t : Fin grid0.N) (b : Fin 2) (hb : b.val = t.val / 48) (k : Fin 18) (q : Fin 16) (l : Fin 128) :
    iblk m hO c 3 t (ix4 (0 : Fin 1) k q l) = scaleOf (m ((c : Thread nD τ).loc main_arg4) (ix4 b k q l)) := by
  rw [← v4_at m c]
  have e0 := congrFun (idx3 m hO t) 0
  have e1 := congrFun (idx3 m hO t) 1
  have e2 := congrFun (idx3 m hO t) 2
  have e3 := congrFun (idx3 m hO t) 3
  blk_point [iblk, cfgM, cfg0, e0, e1, e2, e3]
  case «0» => exact (congrArg (fun x : Nat => x + 0) e0).trans (show t.val / 48 + 0 = b.val by omega)
  case «1» => exact (congrArg (fun x : Nat => x * 18 + k.val) e1).trans (show 0 * 18 + k.val = k.val by omega)
  case «2» => exact (congrArg (fun x : Nat => x * 16 + q.val) e2).trans (show 0 * 16 + q.val = q.val by omega)
  case «3» => exact (congrArg (fun x : Nat => x * 128 + l.val) e3).trans (show 0 * 128 + l.val = l.val by omega)

theorem b4 (t : Fin grid0.N) (b : Fin 2) (hb : b.val = t.val / 48) (i : Fin 6) (j : Fin 2560) :
    iblk m hO c 4 t (ix3 (0 : Fin 1) i j) = m ((c : Thread nD τ).loc main_arg5) (ix3 b i j) := by
  rw [← V_arg m c main_arg5 (by decide)]
  have e0 := congrFun (idx4 m hO t) 0
  have e1 := congrFun (idx4 m hO t) 1
  have e2 := congrFun (idx4 m hO t) 2
  blk_point [iblk, cfgM, cfg0, e0, e1, e2]
  case «0» => exact (congrArg (fun x : Nat => x + 0) e0).trans (show t.val / 48 + 0 = b.val by omega)
  case «1» => exact (congrArg (fun x : Nat => x * 6 + i.val) e1).trans (show 0 * 6 + i.val = i.val by omega)
  case «2» => exact (congrArg (fun x : Nat => x * 2560 + j.val) e2).trans (show 0 * 2560 + j.val = j.val by omega)

theorem b5 (t : Fin grid0.N) (k : Fin 640) (j : Fin 2560) :
    iblk m hO c 5 t (ix2 k j) = m ((c : Thread nD τ).loc main_arg6) (ix2 k j) := by
  rw [← V_arg m c main_arg6 (by decide)]
  have e0 := congrFun (idx5 m hO t) 0
  have e1 := congrFun (idx5 m hO t) 1
  blk_point [iblk, cfgM, cfg0, e0, e1]
  all_goals first
    | exact (congrArg (fun x : Nat => x * 640 + k.val) e0).trans (show 0 * 640 + k.val = k.val by omega)
    | exact (congrArg (fun x : Nat => x * 2560 + j.val) e1).trans (show 0 * 2560 + j.val = j.val by omega)

theorem b6 (t : Fin grid0.N) (j : Fin 2560) :
    iblk m hO c 6 t (ix2 (0 : Fin 1) j) = m ((c : Thread nD τ).loc main_arg7) (ix1 j) := by
  rw [← v7_at m c j]
  have e0 := congrFun (idx6 m hO t) 0
  have e1 := congrFun (idx6 m hO t) 1
  blk_point [iblk, cfgM, cfg0, e0, e1]
  all_goals first
    | exact (congrArg (fun x : Nat => x + 0) e0).trans (show 0 + 0 = 0 by omega)
    | exact (congrArg (fun x : Nat => x * 2560 + j.val) e1).trans (show 0 * 2560 + j.val = j.val by omega)

theorem b7 (t : Fin grid0.N) (k : Fin 1728) (j : Fin 2560) :
    iblk m hO c 7 t (ix2 k j) = m ((c : Thread nD τ).loc main_arg8) (ix2 j k) := by
  rw [← v5_at m c k j]
  have e0 := congrFun (idx7 m hO t) 0
  have e1 := congrFun (idx7 m hO t) 1
  blk_point [iblk, cfgM, cfg0, e0, e1]
  all_goals first
    | exact (congrArg (fun x : Nat => x * 1728 + k.val) e0).trans (show 0 * 1728 + k.val = k.val by omega)
    | exact (congrArg (fun x : Nat => x * 2560 + j.val) e1).trans (show 0 * 2560 + j.val = j.val by omega)

theorem b8 (t : Fin grid0.N) (k : Fin 1728) (j : Fin 128) :
    iblk m hO c 8 t (ix2 k j) = m ((c : Thread nD τ).loc main_arg9) (ix1 k) := by
  rw [← v10_at m c k j]
  have e0 := congrFun (idx8 m hO t) 0
  have e1 := congrFun (idx8 m hO t) 1
  blk_point [iblk, cfgM, cfg0, e0, e1]
  all_goals first
    | exact (congrArg (fun x : Nat => x * 1728 + k.val) e0).trans (show 0 * 1728 + k.val = k.val by omega)
    | exact (congrArg (fun x : Nat => x * 128 + j.val) e1).trans (show 0 * 128 + j.val = j.val by omega)

theorem b9 (t : Fin grid0.N) (k : Fin 1728) (j : Fin 2560) :
    iblk m hO c 9 t (ix2 k j) = m ((c : Thread nD τ).loc main_arg10) (ix2 j k) := by
  rw [← v6_at m c k j]
  have e0 := congrFun (idx9 m hO t) 0
  have e1 := congrFun (idx9 m hO t) 1
  blk_point [iblk, cfgM, cfg0, e0, e1]
  all_goals first
    | exact (congrArg (fun x : Nat => x * 1728 + k.val) e0).trans (show 0 * 1728 + k.val = k.val by omega)
    | exact (congrArg (fun x : Nat => x * 2560 + j.val) e1).trans (show 0 * 2560 + j.val = j.val by omega)

theorem b10 (t : Fin grid0.N) (k : Fin 1728) (j : Fin 128) :
    iblk m hO c 10 t (ix2 k j) = m ((c : Thread nD τ).loc main_arg11) (ix1 k) := by
  rw [← v12_at m c k j]
  have e0 := congrFun (idx10 m hO t) 0
  have e1 := congrFun (idx10 m hO t) 1
  blk_point [iblk, cfgM, cfg0, e0, e1]
  all_goals first
    | exact (congrArg (fun x : Nat => x * 1728 + k.val) e0).trans (show 0 * 1728 + k.val = k.val by omega)
    | exact (congrArg (fun x : Nat => x * 128 + j.val) e1).trans (show 0 * 128 + j.val = j.val by omega)

theorem b11 (t : Fin grid0.N) (k : Fin 1728) (j : Fin 2560) :
    iblk m hO c 11 t (ix2 k j) = m ((c : Thread nD τ).loc main_arg12) (ix2 k j) := by
  rw [← V_arg m c main_arg12 (by decide)]
  have e0 := congrFun (idx11 m hO t) 0
  have e1 := congrFun (idx11 m hO t) 1
  blk_point [iblk, cfgM, cfg0, e0, e1]
  all_goals first
    | exact (congrArg (fun x : Nat => x * 1728 + k.val) e0).trans (show 0 * 1728 + k.val = k.val by omega)
    | exact (congrArg (fun x : Nat => x * 2560 + j.val) e1).trans (show 0 * 2560 + j.val = j.val by omega)

theorem b12 (t : Fin grid0.N) (j : Fin 2560) :
    iblk m hO c 12 t (ix2 (0 : Fin 1) j) = m ((c : Thread nD τ).loc main_arg13) (ix1 j) := by
  rw [← v8_at m c j]
  have e0 := congrFun (idx12 m hO t) 0
  have e1 := congrFun (idx12 m hO t) 1
  blk_point [iblk, cfgM, cfg0, e0, e1]
  all_goals first
    | exact (congrArg (fun x : Nat => x + 0) e0).trans (show 0 + 0 = 0 by omega)
    | exact (congrArg (fun x : Nat => x * 2560 + j.val) e1).trans (show 0 * 2560 + j.val = j.val by omega)

/-! ### The blocks whose last rows may lie past the array's end -/

/-- A row of a block is moved if it lies inside the array. -/
theorem lt_xsize {G : Pipeline.Grid} (w : Pipeline.Window sig G) (hk : w.kind = .blocked) (i : G.Coords) (a : Fin w.shape.rank) (x : Nat)
    (hx : x < w.size a) (h : w.indexMap i a * w.size a + x < w.shape.size a) : x < w.xsize i a := by
  have hc := w.hclip i a
  rw [hk] at hc
  show x < (w.clip i a).extent (w.size a)
  cases hcl : w.clip i a with
  | none => exact hx
  | some n =>
    rw [hcl] at hc
    have h3 : w.indexMap i a * w.size a + n = w.shape.size a := hc.2.2
    show x < n
    omega

theorem f0 (t : Fin grid0.N) (d : ((cfgM m hO).win 0).block.Idx → Elt Ideal ((cfgM m hO).win 0).elt) (b : Fin 2) (hb : b.val = t.val / 48) (n : Fin 12240) (r : Fin 256) (hn : n.val = t.val % 48 * 256 + r.val) (j : Fin 2560) :
    ((cfgM m hO).win 0).fill (grid0.coords t) d (iblk m hO c 0 t) (ix3 (0 : Fin 1) r j) = m ((c : Thread nD τ).loc main_arg1) (ix3 b n j) := by
  have e0 := congrFun (idx0 m hO t) 0
  have e1 := congrFun (idx0 m hO t) 1
  have e2 := congrFun (idx0 m hO t) 2
  have hlt : ∀ a, ((ix3 (0 : Fin 1) r j : ((cfgM m hO).win 0).block.Idx) a).val < ((cfgM m hO).win 0).xsize (grid0.coords t) a := by
    intro a
    refine lt_xsize _ rfl _ _ _ (Fin.isLt _) ?_
    match a with
    | ⟨0, _⟩ => exact lt_of_eq_of_lt (congrArg (fun x : Nat => x * 1 + 0) e0) (show (t.val / 48) * 1 + 0 < 2 by omega)
    | ⟨1, _⟩ => exact lt_of_eq_of_lt (congrArg (fun x : Nat => x * 256 + r.val) e1) (show (t.val % 48) * 256 + r.val < 12240 by omega)
    | ⟨2, _⟩ => exact lt_of_eq_of_lt (congrArg (fun x : Nat => x * 2560 + j.val) e2) (show 0 * 2560 + j.val < 2560 by omega)
  refine (((cfgM m hO).win 0).fill_xinj (grid0.coords t) d (iblk m hO c 0 t) (fun a => ⟨((ix3 (0 : Fin 1) r j : ((cfgM m hO).win 0).block.Idx) a).val, hlt a⟩)).trans ?_
  refine Eq.trans ?_ (congrFun (V_arg m c main_arg1 (by decide)) _)
  refine congrArg (V m c main_arg1) ?_
  funext a
  match a with
  | ⟨0, _⟩ => exact Fin.ext ((congrArg (fun x : Nat => x * 1 + 1 * 0) e0).trans (show (t.val / 48) * 1 + 1 * 0 = b.val by omega))
  | ⟨1, _⟩ => exact Fin.ext ((congrArg (fun x : Nat => x * 256 + 1 * r.val) e1).trans (show (t.val % 48) * 256 + 1 * r.val = n.val by omega))
  | ⟨2, _⟩ => exact Fin.ext ((congrArg (fun x : Nat => x * 2560 + 1 * j.val) e2).trans (show 0 * 2560 + 1 * j.val = j.val by omega))

theorem f1 (t : Fin grid0.N) (d : ((cfgM m hO).win 1).block.Idx → Elt Ideal ((cfgM m hO).win 1).elt) (b : Fin 2) (hb : b.val = t.val / 48) (n : Fin 12240) (r : Fin 256) (hn : n.val = t.val % 48 * 256 + r.val) (p : Fin 5) (j : Fin 128) :
    ((cfgM m hO).win 1).fill (grid0.coords t) d (iblk m hO c 1 t) (ix4 (0 : Fin 1) p r j) = m ((c : Thread nD τ).loc main_arg2) (ix4 b p n j) := by
  have e0 := congrFun (idx1 m hO t) 0
  have e1 := congrFun (idx1 m hO t) 1
  have e2 := congrFun (idx1 m hO t) 2
  have e3 := congrFun (idx1 m hO t) 3
  have hlt : ∀ a, ((ix4 (0 : Fin 1) p r j : ((cfgM m hO).win 1).block.Idx) a).val < ((cfgM m hO).win 1).xsize (grid0.coords t) a := by
    intro a
    refine lt_xsize _ rfl _ _ _ (Fin.isLt _) ?_
    match a with
    | ⟨0, _⟩ => exact lt_of_eq_of_lt (congrArg (fun x : Nat => x * 1 + 0) e0) (show (t.val / 48) * 1 + 0 < 2 by omega)
    | ⟨1, _⟩ => exact lt_of_eq_of_lt (congrArg (fun x : Nat => x * 5 + p.val) e1) (show 0 * 5 + p.val < 5 by omega)
    | ⟨2, _⟩ => exact lt_of_eq_of_lt (congrArg (fun x : Nat => x * 256 + r.val) e2) (show (t.val % 48) * 256 + r.val < 12240 by omega)
    | ⟨3, _⟩ => exact lt_of_eq_of_lt (congrArg (fun x : Nat => x * 128 + j.val) e3) (show 0 * 128 + j.val < 128 by omega)
  refine (((cfgM m hO).win 1).fill_xinj (grid0.coords t) d (iblk m hO c 1 t) (fun a => ⟨((ix4 (0 : Fin 1) p r j : ((cfgM m hO).win 1).block.Idx) a).val, hlt a⟩)).trans ?_
  refine Eq.trans ?_ (congrFun (V_arg m c main_arg2 (by decide)) _)
  refine congrArg (V m c main_arg2) ?_
  funext a
  match a with
  | ⟨0, _⟩ => exact Fin.ext ((congrArg (fun x : Nat => x * 1 + 1 * 0) e0).trans (show (t.val / 48) * 1 + 1 * 0 = b.val by omega))
  | ⟨1, _⟩ => exact Fin.ext ((congrArg (fun x : Nat => x * 5 + 1 * p.val) e1).trans (show 0 * 5 + 1 * p.val = p.val by omega))
  | ⟨2, _⟩ => exact Fin.ext ((congrArg (fun x : Nat => x * 256 + 1 * r.val) e2).trans (show (t.val % 48) * 256 + 1 * r.val = n.val by omega))
  | ⟨3, _⟩ => exact Fin.ext ((congrArg (fun x : Nat => x * 128 + 1 * j.val) e3).trans (show 0 * 128 + 1 * j.val = j.val by omega))

end Cert.MlpIdeal.Vals
-- ==== Proof.MlpIdeal.Pay.lean ====
/-
  The video kernel's payloads at an index: each is a function of one token's row (Proof/Spec.lean, Proof/VidSpec.lean) of
  what it reads.
-/
module

public import proofs.«01_k».proof.Proof.Gen.MlpIdeal.Skeleton
public import proofs.«01_k».proof.Proof.VidSpec
public import Idealize.ShloMosaic.Lib.Pointwise

@[expose] public section

set_option maxRecDepth 16384
set_option backward.isDefEq.respectTransparency false

noncomputable section

open Idealize.ShloMosaic Idealize.ShloMosaic.TcCoe Idealize.SL.Sem

namespace Cert.MlpIdeal.Vals
open Cert.MlpIdeal Cert.MlpIdeal.Gen Cert.Spec

/-- The five heads, laid side by side. -/
theorem pay31_at (a b c d e : FVec Ideal S256x128 .f32) (r : Fin 256) (k : Fin 640) :
    k0_pay31 (F := Ideal) a b c d e (ix2 r k)
      = cat (fun p j => ![a (ix2 r j), b (ix2 r j), c (ix2 r j), d (ix2 r j), e (ix2 r j)] p) k := by
  rw [cat_ladder]
  pointwise [k0_pay31]

/-- The attention row's scale. -/
theorem pay28_at (v277 v279 v281 v283 v285 : Vec Ideal S1x1x256x128 .f32) (r : Fin 256) (l : Fin 1) :
    k0_pay28 (F := Ideal) v277 v279 v281 v283 v285 (ix2 r l)
      = qscale (cat (fun p j => ![v277 (ix4 0 0 r j), v279 (ix4 0 0 r j), v281 (ix4 0 0 r j), v283 (ix4 0 0 r j), v285 (ix4 0 0 r j)] p)) := by
  unfold qscale
  rw [amax_cat]
  unfold k0_pay28
  rw [max_r2_a1]
  pointwise [k0_pay23, k0_pay24, k0_pay25, k0_pay26, k0_pay27]
  rfl

theorem pay29_at (v277 v279 v281 v283 v285 : Vec Ideal S1x1x256x128 .f32) (a : Fin 1) (r : Fin 256) :
    k0_pay29 (F := Ideal) v277 v279 v281 v283 v285 (ix2 a r) = k0_pay28 (F := Ideal) v277 v279 v281 v283 v285 (ix2 r 0) := by
  unfold k0_pay29
  generalize k0_pay28 (F := Ideal) v277 v279 v281 v283 v285 = s
  as_aux_lemma =>
    pointwise

theorem pay30_at (v : FVec Ideal S1x256 .f32) (a b : Fin 1) (r : Fin 256) :
    k0_pay30 (F := Ideal) v (ix3 a b r) = v (ix2 0 r) := by
  pointwise [k0_pay30]

theorem pay32_at (a b c d e : FVec Ideal S256x128 .f32) (z : Fin 1) (r : Fin 256) (k : Fin 640) :
    k0_pay32 (F := Ideal) a b c d e (ix3 z r k) = k0_pay31 (F := Ideal) a b c d e (ix2 r k) := by
  unfold k0_pay32
  generalize k0_pay31 (F := Ideal) a b c d e = v
  as_aux_lemma =>
    pointwise

/-- The attention row's codes, where `s` is its scale. -/
theorem pay33_at (a b c d e : FVec Ideal S256x128 .f32) (s : FVec Ideal S256x1 .f32) (r : Fin 256) (k : Fin 640)
    (h : s (ix2 r 0) = qscale fun k : Fin 640 => k0_pay31 (F := Ideal) a b c d e (ix2 r k)) :
    k0_pay33 (F := Ideal) a b c d e s (ix2 r k) = qcode (fun k : Fin 640 => k0_pay31 (F := Ideal) a b c d e (ix2 r k)) k := by
  refine Eq.trans ?_ (qcode_of_inv _ _)
  unfold k0_pay33
  generalize k0_pay31 (F := Ideal) a b c d e = v at *
  as_aux_lemma =>
    pointwise
    rw [h]

theorem pay34_at (a b c d e : FVec Ideal S256x128 .f32) (s : FVec Ideal S256x1 .f32) (z : Fin 1) (r : Fin 256) (k : Fin 640) :
    k0_pay34 (F := Ideal) a b c d e s (ix3 z r k) = k0_pay33 (F := Ideal) a b c d e s (ix2 r k) := by
  unfold k0_pay34
  generalize k0_pay33 (F := Ideal) a b c d e s = v
  as_aux_lemma =>
    pointwise

/-- The residual row after the projection. -/
theorem pay35_at (a b c d e : FVec Ideal S256x128 .f32) (s : FVec Ideal S256x1 .f32) (v328 : Vec Ideal S1x256x2560 .bf16)
    (v331 : Vec Ideal S640x2560 .fp8e4m3) (v333 : Vec Ideal S1x1x2560 .f32) (v337 : Vec Ideal S1x2560 .f32) (r : Fin 256) (l : Fin 2560) :
    k0_pay35 (F := Ideal) a b c d e s v328 v331 v333 v337 (ix2 r l)
      = resid (fun j : Fin 2560 => v328 (ix3 0 r j)) (fun j => v333 (ix3 0 0 j)) (fun k : Fin 640 => k0_pay33 (F := Ideal) a b c d e s (ix2 r k))
          (s (ix2 r 0)) (fun k j => v331 (ix2 k j)) (fun j => v337 (ix2 0 j)) l := by
  unfold k0_pay35
  generalize k0_pay33 (F := Ideal) a b c d e s = v
  as_aux_lemma =>
    pointwise [resid, lin]

/-- The modulated norm. -/
theorem pay36_at (v343 : FVec Ideal S256x2560 .f32) (v344 v346 : Vec Ideal S1x1x2560 .f32) (r : Fin 256) (l : Fin 2560) :
    k0_pay36 (F := Ideal) v343 v344 v346 (ix2 r l)
      = modnorm (fun j => v343 (ix2 r j)) (fun j => v344 (ix3 0 0 j)) (fun j => v346 (ix3 0 0 j)) l := by
  rw [← modnorm_of_inv]
  pointwise [k0_pay36]
  rfl

/-- A row's scale. -/
theorem pay37_at (v343 : FVec Ideal S256x2560 .f32) (v344 v346 : Vec Ideal S1x1x2560 .f32) (r : Fin 256) (l : Fin 1) :
    k0_pay37 (F := Ideal) v343 v344 v346 (ix2 r l) = qscale (fun j : Fin 2560 => k0_pay36 (F := Ideal) v343 v344 v346 (ix2 r j)) := by
  refine Eq.trans ?_ (qscale_eq _)
  unfold k0_pay37
  rw [max_r2_a1]
  pointwise

/-- A row's codes. -/
theorem pay38_at (v343 : FVec Ideal S256x2560 .f32) (v344 v346 : Vec Ideal S1x1x2560 .f32) (r : Fin 256) (l : Fin 2560) :
    k0_pay38 (F := Ideal) v343 v344 v346 (ix2 r l) = qcode (fun j : Fin 2560 => k0_pay36 (F := Ideal) v343 v344 v346 (ix2 r j)) l := by
  refine Eq.trans ?_ (qcode_of_inv _ _)
  have h := pay37_at v343 v344 v346 r 0
  unfold k0_pay38
  generalize k0_pay37 (F := Ideal) v343 v344 v346 = s at *
  generalize k0_pay36 (F := Ideal) v343 v344 v346 = v at *
  as_aux_lemma =>
    pointwise
    rw [h]

theorem pay39_at (v : FVec Ideal S256x2560 .fp8e4m3) (z : Fin 1) (r : Fin 256) (l : Fin 2560) :
    k0_pay39 (F := Ideal) v (ix3 z r l) = v (ix2 r l) := by
  pointwise [k0_pay39]

theorem pay40_at (v : FVec Ideal S256x1 .f32) (z : Fin 1) (r : Fin 256) : k0_pay40 (F := Ideal) v (ix2 z r) = v (ix2 r 0) := by
  pointwise [k0_pay40]

theorem pay41_at (v : FVec Ideal S256x1 .f32) (y z : Fin 1) (r : Fin 256) : k0_pay41 (F := Ideal) v (ix3 y z r) = v (ix2 r 0) := by
  pointwise [k0_pay41, k0_pay40]

/-- The hidden row. -/
theorem pay42_at (v374 : FVec Ideal S256x1 .f32) (v383 : FVec Ideal S256x2560 .fp8e4m3) (v394 : Vec Ideal S1728x2560 .fp8e4m3)
    (v399 : Vec Ideal S1728x1 .f32) (v403 : Vec Ideal S1728x2560 .fp8e4m3) (v408 : Vec Ideal S1728x1 .f32) (r : Fin 1728) (l : Fin 256) :
    k0_pay42 (F := Ideal) v374 v383 v394 v399 v403 v408 (ix2 r l)
      = hid (fun k : Fin 2560 => v383 (ix2 l k)) (v374 (ix2 l 0)) (fun k j => v394 (ix2 j k)) (fun j : Fin 1728 => v399 (ix2 j 0))
          (fun k j => v403 (ix2 j k)) (fun j => v408 (ix2 j 0)) r := by
  have e : ∀ w : Vec Ideal S1728x2560 .fp8e4m3, (∑ x : Fin 2560, w (ix2 r x) * v383 (ix2 l x)) = ∑ x : Fin 2560, v383 (ix2 l x) * w (ix2 r x) :=
    fun w => Finset.sum_congr rfl fun x _ => mul_comm _ _
  pointwise [k0_pay42, k0_pay40, hid, gate, lin]
  rw [e, e]

/-- The hidden row's scale. -/
theorem pay43_at (v374 : FVec Ideal S256x1 .f32) (v383 : FVec Ideal S256x2560 .fp8e4m3) (v394 : Vec Ideal S1728x2560 .fp8e4m3)
    (v399 : Vec Ideal S1728x1 .f32) (v403 : Vec Ideal S1728x2560 .fp8e4m3) (v408 : Vec Ideal S1728x1 .f32) (r : Fin 1) (l : Fin 256) :
    k0_pay43 (F := Ideal) v374 v383 v394 v399 v403 v408 (ix2 r l)
      = qscale (fun j : Fin 1728 => k0_pay42 (F := Ideal) v374 v383 v394 v399 v403 v408 (ix2 j l)) := by
  refine Eq.trans ?_ (qscale_eq _)
  unfold k0_pay43
  rw [max_r2_a0]
  pointwise

theorem pay44_at (v : FVec Ideal S1x256 .f32) (y z : Fin 1) (r : Fin 256) : k0_pay44 (F := Ideal) v (ix3 y z r) = v (ix2 0 r) := by
  pointwise [k0_pay44]

/-- The hidden row's codes, where `s` is its scale. -/
theorem pay45_at (v : FVec Ideal S1728x256 .f32) (s : FVec Ideal S1x256 .f32) (r : Fin 1728) (l : Fin 256)
    (h : s (ix2 0 l) = qscale fun j : Fin 1728 => v (ix2 j l)) :
    k0_pay45 (F := Ideal) v s (ix2 r l) = qcode (fun j : Fin 1728 => v (ix2 j l)) r := by
  refine Eq.trans ?_ (qcode_of_inv _ _)
  unfold k0_pay45
  pointwise
  rw [h]

theorem pay46_at (v : FVec Ideal S1728x256 .f32) (s : FVec Ideal S1x256 .f32) (z : Fin 1) (r : Fin 1728) (l : Fin 256) :
    k0_pay46 (F := Ideal) v s (ix3 z r l) = k0_pay45 (F := Ideal) v s (ix2 r l) := by
  unfold k0_pay46
  generalize k0_pay45 (F := Ideal) v s = w
  as_aux_lemma =>
    pointwise

/-- The row after the feed-forward layer. -/
theorem pay47_at (v343 : FVec Ideal S256x2560 .f32) (v414 : FVec Ideal S1728x256 .f32) (v423 : FVec Ideal S1x256 .f32)
    (v439 : Vec Ideal S1x1x2560 .f32) (v441 : Vec Ideal S1728x2560 .fp8e4m3) (v449 : Vec Ideal S1x2560 .f32) (r : Fin 256) (l : Fin 2560) :
    k0_pay47 (F := Ideal) v343 v414 v423 v439 v441 v449 (ix2 r l)
      = resid (fun j => v343 (ix2 r j)) (fun j => v439 (ix3 0 0 j)) (fun k : Fin 1728 => k0_pay45 (F := Ideal) v414 v423 (ix2 k r)) (v423 (ix2 0 r))
          (fun k j => v441 (ix2 k j)) (fun j => v449 (ix2 0 j)) l := by
  unfold k0_pay47
  generalize k0_pay45 (F := Ideal) v414 v423 = w
  as_aux_lemma =>
    pointwise [resid, lin]

theorem pay1_at (v : FVec Ideal S256x2560 .f32) (z : Fin 1) (r : Fin 256) (l : Fin 2560) :
    k0_pay1 (F := Ideal) v (ix3 z r l) = v (ix2 r l) := by
  pointwise [k0_pay1]

/-! ### The codes of the ten query and key heads -/

theorem pay9_at (s : FVec Ideal S256x16 .f32) (v : Vec Ideal S1x1x256x128 .f32) (a b : Fin 1) (r : Fin 256) (l : Fin 128)
    (g : EReal) (h : s (ix2 r 0) = Ideal.div 1 (scaleOf g)) : k0_pay9 (F := Ideal) s v (ix4 a b r l) = code (scaleOf g) (v (ix4 0 0 r l)) := by
  refine Eq.trans ?_ (code_of_inv _ _)
  pointwise [k0_pay9]
  rw [h]

theorem pay10_at (s : FVec Ideal S256x16 .f32) (v : Vec Ideal S1x1x256x128 .f32) (a b : Fin 1) (r : Fin 256) (l : Fin 128)
    (g : EReal) (h : s (ix2 r 5) = Ideal.div 1 (scaleOf g)) : k0_pay10 (F := Ideal) s v (ix4 a b r l) = code (scaleOf g) (v (ix4 0 0 r l)) := by
  refine Eq.trans ?_ (code_of_inv _ _)
  pointwise [k0_pay10]
  rw [h]

theorem pay14_at (s : FVec Ideal S256x16 .f32) (v : Vec Ideal S1x1x256x128 .f32) (a b : Fin 1) (r : Fin 256) (l : Fin 128)
    (g : EReal) (h : s (ix2 r 6) = Ideal.div 1 (scaleOf g)) : k0_pay14 (F := Ideal) s v (ix4 a b r l) = code (scaleOf g) (v (ix4 0 0 r l)) := by
  refine Eq.trans ?_ (code_of_inv _ _)
  pointwise [k0_pay14]
  rw [h]

theorem pay15_at (s : FVec Ideal S256x16 .f32) (v : Vec Ideal S1x1x256x128 .f32) (a b : Fin 1) (r : Fin 256) (l : Fin 128)
    (g : EReal) (h : s (ix2 r 2) = Ideal.div 1 (scaleOf g)) : k0_pay15 (F := Ideal) s v (ix4 a b r l) = code (scaleOf g) (v (ix4 0 0 r l)) := by
  refine Eq.trans ?_ (code_of_inv _ _)
  pointwise [k0_pay15]
  rw [h]

theorem pay16_at (s : FVec Ideal S256x16 .f32) (v : Vec Ideal S1x1x256x128 .f32) (a b : Fin 1) (r : Fin 256) (l : Fin 128)
    (g : EReal) (h : s (ix2 r 7) = Ideal.div 1 (scaleOf g)) : k0_pay16 (F := Ideal) s v (ix4 a b r l) = code (scaleOf g) (v (ix4 0 0 r l)) := by
  refine Eq.trans ?_ (code_of_inv _ _)
  pointwise [k0_pay16]
  rw [h]

theorem pay17_at (s : FVec Ideal S256x16 .f32) (v : Vec Ideal S1x1x256x128 .f32) (a b : Fin 1) (r : Fin 256) (l : Fin 128)
    (g : EReal) (h : s (ix2 r 3) = Ideal.div 1 (scaleOf g)) : k0_pay17 (F := Ideal) s v (ix4 a b r l) = code (scaleOf g) (v (ix4 0 0 r l)) := by
  refine Eq.trans ?_ (code_of_inv _ _)
  pointwise [k0_pay17]
  rw [h]

theorem pay21_at (s : FVec Ideal S256x16 .f32) (v : Vec Ideal S1x1x256x128 .f32) (a b : Fin 1) (r : Fin 256) (l : Fin 128)
    (g : EReal) (h : s (ix2 r 4) = Ideal.div 1 (scaleOf g)) : k0_pay21 (F := Ideal) s v (ix4 a b r l) = code (scaleOf g) (v (ix4 0 0 r l)) := by
  refine Eq.trans ?_ (code_of_inv _ _)
  pointwise [k0_pay21]
  rw [h]

theorem pay22_at (s : FVec Ideal S256x16 .f32) (v : Vec Ideal S1x1x256x128 .f32) (a b : Fin 1) (r : Fin 256) (l : Fin 128)
    (g : EReal) (h : s (ix2 r 9) = Ideal.div 1 (scaleOf g)) : k0_pay22 (F := Ideal) s v (ix4 a b r l) = code (scaleOf g) (v (ix4 0 0 r l)) := by
  refine Eq.trans ?_ (code_of_inv _ _)
  pointwise [k0_pay22]
  rw [h]

theorem pay13_at (s : FVec Ideal S256x16 .f32) (v : Vec Ideal S1x1x256x128 .f32) (a b : Fin 1) (r : Fin 256) (l : Fin 128)
    (g : EReal) (h : s (ix2 r 1) = Ideal.div 1 (scaleOf g)) :
    k0_pay13 (F := Ideal) (k0_pay11 s v) c448 (k0_pay12 (F := Ideal)) (ix4 a b r l) = code (scaleOf g) (v (ix4 0 0 r l)) := by
  refine Eq.trans ?_ (code_of_inv _ _)
  pointwise [k0_pay13, k0_pay11, k0_pay12]
  rw [h]

theorem pay20_at (s : FVec Ideal S256x16 .f32) (v : Vec Ideal S1x1x256x128 .f32) (a b : Fin 1) (r : Fin 256) (l : Fin 128)
    (g : EReal) (h : s (ix2 r 8) = Ideal.div 1 (scaleOf g)) :
    k0_pay20 (F := Ideal) (k0_pay18 s v) c448 (k0_pay19 (F := Ideal)) (ix4 a b r l) = code (scaleOf g) (v (ix4 0 0 r l)) := by
  refine Eq.trans ?_ (code_of_inv _ _)
  pointwise [k0_pay20, k0_pay18, k0_pay19]
  rw [h]

/-! ### The window's scale -/

theorem pay2_at (i : grid0.Coords) (p : Fin 16) (r : Fin 256) :
    k0_pay2 i (ix2 p r) = IntOp.addi (Scalar.muli (BitVec.ofNat 32 (i 1).val) 256#32) (BitVec.ofNat 32 r.val) := by
  pointwise [k0_pay2]

/-- A token's position as a word: point `(_, i)` works on positions `256 i` and after. -/
def pos (i : grid0.Coords) (r : Fin 256) : BitVec 32 := IntOp.addi (Scalar.muli (BitVec.ofNat 32 (i 1).val) 256#32) (BitVec.ofNat 32 r.val)

theorem sel_sge (x y : BitVec 32) (a b : EReal) :
    Scalar.select (IntOp.cmpi .sge x y) a b = if y.toInt ≤ x.toInt then a else b := by
  rw [WordCmp.cmpi_sge_eq]
  by_cases h : y.toInt ≤ x.toInt <;> simp [h, Scalar.select]

/-- The reciprocal of the scale of the window that a token lies in. -/
theorem rs_at (i : grid0.Coords) (cu : Fin 18 → BitVec 32) (w : Fin 18 → Vec Ideal S1x1x16x1 .f32) (r : Fin 256) (p : Fin 16) :
    k0_pay8 (F := Ideal) (k0_pay2 i)
      (k0_pay6 (k0_pay2 i)
        (k0_pay5 (k0_pay2 i) (k0_pay3 i (w 0) (cu 1) (w 1) (cu 2) (w 2) (cu 3) (w 3)) (k0_pay4 (F := Ideal) i (cu 4)) (w 4) (cu 5) (w 5) (cu 6) (w 6) (cu 7) (w 7) (cu 8) (w 8))
        (cu 9) (w 9) (cu 10) (w 10) (cu 11) (w 11) (cu 12) (w 12))
      (k0_pay7 (F := Ideal) (k0_pay2 i) (cu 13)) (w 13) (cu 14) (w 14) (cu 15) (w 15) (cu 16) (w 16) (cu 17) (w 17) (ix2 r p)
      = Ideal.div 1 (pick (fun k => (cu k).toInt ≤ (pos i r).toInt) fun k => w k (ix4 0 0 p 0)) := by
  have h := pay2_at i p r
  unfold k0_pay8 k0_pay6 k0_pay5 k0_pay3 k0_pay4 k0_pay7
  generalize k0_pay2 i = t at *
  as_aux_lemma =>
    pointwise
    rw [h]
    simp only [sel_sge]
    rfl

end Cert.MlpIdeal.Vals
-- ==== Proof.MlpIdeal.Out.lean ====
/-
  What the video kernel's outputs hold after its body, at an index, in terms of the blocks that it reads: one token's row
  (Proof/Spec.lean, Proof/VidSpec.lean) of the blocks.
-/
module

public import proofs.«01_k».proof.Proof.MlpIdeal.Body
public import proofs.«01_k».proof.Proof.MlpIdeal.Pay
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.MlpIdeal.Vals
open Cert.MlpIdeal Cert.MlpIdeal.Gen Cert.Spec

/-! ### Rows, from any loads -/

section Rows

variable (L0 L1 L2 L3 L4 : Vec Ideal S1x1x256x128 .f32) (r : Fin 256) (f : Fin 5 → Fin 128 → EReal)

theorem p23 (L : Vec Ideal S1x1x256x128 .f32) (j : Fin 128) : k0_pay23 (F := Ideal) L (ix2 r j) = L (ix4 0 0 r j) := by pointwise [k0_pay23]
theorem p24 (L : Vec Ideal S1x1x256x128 .f32) (j : Fin 128) : k0_pay24 (F := Ideal) L (ix2 r j) = L (ix4 0 0 r j) := by pointwise [k0_pay24]
theorem p25 (L : Vec Ideal S1x1x256x128 .f32) (j : Fin 128) : k0_pay25 (F := Ideal) L (ix2 r j) = L (ix4 0 0 r j) := by pointwise [k0_pay25]
theorem p26 (L : Vec Ideal S1x1x256x128 .f32) (j : Fin 128) : k0_pay26 (F := Ideal) L (ix2 r j) = L (ix4 0 0 r j) := by pointwise [k0_pay26]
theorem p27 (L : Vec Ideal S1x1x256x128 .f32) (j : Fin 128) : k0_pay27 (F := Ideal) L (ix2 r j) = L (ix4 0 0 r j) := by pointwise [k0_pay27]

/-- The attention row. -/
theorem a_at (hL : (fun p j => ![L0 (ix4 0 0 r j), L1 (ix4 0 0 r j), L2 (ix4 0 0 r j), L3 (ix4 0 0 r j), L4 (ix4 0 0 r j)] p) = f) (k : Fin 640) : k0_pay31 (F := Ideal) (k0_pay23 L0) (k0_pay24 L1) (k0_pay25 L2) (k0_pay26 L3) (k0_pay27 L4) (ix2 r k) = cat f k := by
  subst hL
  rw [pay31_at]
  simp only [p23, p24, p25, p26, p27]

/-- Its scale. -/
theorem as_at (hL : (fun p j => ![L0 (ix4 0 0 r j), L1 (ix4 0 0 r j), L2 (ix4 0 0 r j), L3 (ix4 0 0 r j), L4 (ix4 0 0 r j)] p) = f) (l : Fin 1) : k0_pay28 (F := Ideal) L0 L1 L2 L3 L4 (ix2 r l) = qscale (cat f) := by
  rw [pay28_at, hL]

/-- Its codes. -/
theorem ac_at (hL : (fun p j => ![L0 (ix4 0 0 r j), L1 (ix4 0 0 r j), L2 (ix4 0 0 r j), L3 (ix4 0 0 r j), L4 (ix4 0 0 r j)] p) = f) (k : Fin 640) : k0_pay33 (F := Ideal) (k0_pay23 L0) (k0_pay24 L1) (k0_pay25 L2) (k0_pay26 L3) (k0_pay27 L4) (k0_pay28 L0 L1 L2 L3 L4) (ix2 r k) = qcode (cat f) k := by
  have e : (fun k : Fin 640 => k0_pay31 (F := Ideal) (k0_pay23 L0) (k0_pay24 L1) (k0_pay25 L2) (k0_pay26 L3) (k0_pay27 L4) (ix2 r k)) = cat f := funext fun k => a_at L0 L1 L2 L3 L4 r f hL k
  rw [pay33_at _ _ _ _ _ _ r k (by rw [e, as_at L0 L1 L2 L3 L4 r f hL]), e]

variable (T : Tok) (W : Wts)

/-- The residual row after the projection. -/
theorem y_at (hL : (fun p j => ![L0 (ix4 0 0 r j), L1 (ix4 0 0 r j), L2 (ix4 0 0 r j), L3 (ix4 0 0 r j), L4 (ix4 0 0 r j)] p) = f) (x0 : Vec Ideal S1x256x2560 .bf16) (x5 : Vec Ideal S640x2560 .fp8e4m3) (M2 : Vec Ideal S1x1x2560 .f32) (x6 : Vec Ideal S1x2560 .f32)
    (hx : (fun j : Fin 2560 => x0 (ix3 0 r j)) = T.x) (hs : T.s = qscale (cat f)) (hc : T.c = qcode (cat f)) (h2 : (fun j : Fin 2560 => M2 (ix3 0 0 j)) = T.m 2)
    (ho : (fun (k : Fin 640) (j : Fin 2560) => x5 (ix2 k j)) = W.wo) (hso : (fun j : Fin 2560 => x6 (ix2 0 j)) = W.so) :
    (fun l : Fin 2560 => k0_pay35 (F := Ideal) (k0_pay23 L0) (k0_pay24 L1) (k0_pay25 L2) (k0_pay26 L3) (k0_pay27 L4) (k0_pay28 L0 L1 L2 L3 L4) x0 x5 M2 x6 (ix2 r l)) = yrow T W := by
  have e : (fun k : Fin 640 => k0_pay33 (F := Ideal) (k0_pay23 L0) (k0_pay24 L1) (k0_pay25 L2) (k0_pay26 L3) (k0_pay27 L4) (k0_pay28 L0 L1 L2 L3 L4) (ix2 r k)) = qcode (cat f) := funext fun k => ac_at L0 L1 L2 L3 L4 r f hL k
  funext l
  rw [pay35_at, e, as_at L0 L1 L2 L3 L4 r f hL, hx, h2, ho, hso]
  unfold yrow
  rw [hs, hc]

variable (y : FVec Ideal S256x2560 .f32) (M3 M4 M5 : Vec Ideal S1x1x2560 .f32) (hy : (fun l : Fin 2560 => y (ix2 r l)) = yrow T W)
  (h3 : (fun j : Fin 2560 => M3 (ix3 0 0 j)) = T.m 3) (h4 : (fun j : Fin 2560 => M4 (ix3 0 0 j)) = T.m 4)

include hy h3 h4 in
/-- The modulated norm's row. -/
theorem v_row : (fun l : Fin 2560 => k0_pay36 (F := Ideal) y M3 M4 (ix2 r l)) = vrow T W := by
  funext l
  rw [pay36_at, hy, h3, h4]
  rfl

include hy h3 h4 in
/-- Its scale. -/
theorem vs_at (l : Fin 1) : k0_pay37 (F := Ideal) y M3 M4 (ix2 r l) = qscale (vrow T W) := by
  rw [pay37_at, v_row r T W y M3 M4 hy h3 h4]

include hy h3 h4 in
/-- Its codes. -/
theorem vc_row : (fun l : Fin 2560 => k0_pay38 (F := Ideal) y M3 M4 (ix2 r l)) = qcode (vrow T W) := by
  funext l
  rw [pay38_at, v_row r T W y M3 M4 hy h3 h4]

variable (s : FVec Ideal S256x1 .f32) (q : FVec Ideal S256x2560 .fp8e4m3) (x7 x9 : Vec Ideal S1728x2560 .fp8e4m3) (S1 S3 : Vec Ideal S1728x1 .f32)
  (hs : s (ix2 r 0) = qscale (vrow T W)) (hq : (fun k : Fin 2560 => q (ix2 r k)) = qcode (vrow T W))
  (hw1 : (fun (k : Fin 2560) (j : Fin 1728) => x7 (ix2 j k)) = W.w1) (hs1 : (fun j : Fin 1728 => S1 (ix2 j 0)) = W.s1)
  (hw3 : (fun (k : Fin 2560) (j : Fin 1728) => x9 (ix2 j k)) = W.w3) (hs3 : (fun j : Fin 1728 => S3 (ix2 j 0)) = W.s3)

include hs hq hw1 hs1 hw3 hs3 in
/-- The hidden row. -/
theorem h_row : (fun j : Fin 1728 => k0_pay42 (F := Ideal) s q x7 S1 x9 S3 (ix2 j r)) = hrow T W := by
  funext j
  rw [pay42_at, hs, hq, hw1, hs1, hw3, hs3]
  rfl

include hs hq hw1 hs1 hw3 hs3 in
/-- Its scale. -/
theorem hs_at (l : Fin 1) : k0_pay43 (F := Ideal) s q x7 S1 x9 S3 (ix2 l r) = qscale (hrow T W) := by
  rw [pay43_at, h_row r T W s q x7 x9 S1 S3 hs hq hw1 hs1 hw3 hs3]

include hs hq hw1 hs1 hw3 hs3 in
/-- Its codes. -/
theorem hc_row : (fun j : Fin 1728 => k0_pay45 (F := Ideal) (k0_pay42 s q x7 S1 x9 S3) (k0_pay43 s q x7 S1 x9 S3) (ix2 j r)) = qcode (hrow T W) := by
  have e := h_row r T W s q x7 x9 S1 S3 hs hq hw1 hs1 hw3 hs3
  funext j
  rw [pay45_at _ _ j r (by rw [e, hs_at r T W s q x7 x9 S1 S3 hs hq hw1 hs1 hw3 hs3]), e]

include hy hs hq hw1 hs1 hw3 hs3 in
/-- The row after the feed-forward layer. -/
theorem z_at (x11 : Vec Ideal S1728x2560 .fp8e4m3) (x12 : Vec Ideal S1x2560 .f32) (h5 : (fun j : Fin 2560 => M5 (ix3 0 0 j)) = T.m 5)
    (hw2 : (fun (k : Fin 1728) (j : Fin 2560) => x11 (ix2 k j)) = W.w2) (hs2 : (fun j : Fin 2560 => x12 (ix2 0 j)) = W.s2) (l : Fin 2560) :
    k0_pay47 (F := Ideal) y (k0_pay42 s q x7 S1 x9 S3) (k0_pay43 s q x7 S1 x9 S3) M5 x11 x12 (ix2 r l) = zrow T W l := by
  rw [pay47_at, hc_row r T W s q x7 x9 S1 S3 hs hq hw1 hs1 hw3 hs3, hs_at r T W s q x7 x9 S1 S3 hs hq hw1 hs1 hw3 hs3, hy, h5, hw2, hs2]
  rfl

end Rows

/-! ### Rows of the blocks -/

section Blocks

variable (x0 : Vec Ideal S1x256x2560 .bf16) (x1 : Vec Ideal S1x5x256x128 .f32) (x2 : Vec Ideal S1x10x256x128 .f32)
  (x3 : Vec Ideal S1x18x16x128 .f32) (x4 : Vec Ideal S1x6x2560 .f32) (x5 : Vec Ideal S640x2560 .fp8e4m3) (x6 : Vec Ideal S1x2560 .f32)
  (x7 : Vec Ideal S1728x2560 .fp8e4m3) (x8 : Vec Ideal S1728x128 .f32) (x9 : Vec Ideal S1728x2560 .fp8e4m3) (x10 : Vec Ideal S1728x128 .f32)
  (x11 : Vec Ideal S1728x2560 .fp8e4m3) (x12 : Vec Ideal S1x2560 .f32)

/-- A block row's heads. -/
def attX (r : Fin 256) : Fin 5 → Fin 128 → EReal := fun p j => x1 (ix4 0 p r j)

/-- A block row's token. -/
def tokX (r : Fin 256) : Tok := vtok (fun j => x0 (ix3 0 r j)) (attX x1 r) (fun i j => x4 (ix3 0 i j))

/-- The weight blocks; the feed-forward layer's first two are stored with their columns first. -/
def wtsX : Wts :=
  ⟨fun k j => x5 (ix2 k j), fun j => x6 (ix2 0 j), fun k j => x7 (ix2 j k), fun j => x8 (ix2 j 0),
   fun k j => x9 (ix2 j k), fun j => x10 (ix2 j 0), fun k j => x11 (ix2 k j), fun j => x12 (ix2 0 j)⟩

end Blocks

/-- The stored row after the feed-forward layer. -/
theorem outA_13_at (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec Ideal S1x256x2560 .bf16) (x1 : Vec Ideal S1x5x256x128 .f32) (x2 : Vec Ideal S1x10x256x128 .f32) (x3 : Vec Ideal S1x18x16x128 .f32) (x4 : Vec Ideal S1x6x2560 .f32) (x5 : Vec Ideal S640x2560 .fp8e4m3) (x6 : Vec Ideal S1x2560 .f32) (x7 : Vec Ideal S1728x2560 .fp8e4m3) (x8 : Vec Ideal S1728x128 .f32) (x9 : Vec Ideal S1728x2560 .fp8e4m3) (x10 : Vec Ideal S1728x128 .f32) (x11 : Vec Ideal S1728x2560 .fp8e4m3) (x12 : Vec Ideal S1x2560 .f32) (xt0 : TbBuf0 (F := Ideal) c tbM0_0) (z : Fin 1) (r : Fin 256) (l : Fin 2560) :
    out0_A_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0 (ix3 z r l) = zrow (tokX x0 x1 x4 r) (wtsX x5 x6 x7 x8 x9 x10 x11 x12) l := by
  frame_out
  rw [pay1_at]
  exact z_at r (tokX x0 x1 x4 r) (wtsX x5 x6 x7 x8 x9 x10 x11 x12) _ _ (y_at _ _ _ _ _ r (attX x1 r) _ (wtsX x5 x6 x7 x8 x9 x10 x11 x12) (by funext p j; fin_cases p <;> pointwise [attX]) _ _ _ _ rfl rfl rfl (by funext j; pointwise [tokX, vtok]) rfl rfl) _ _ _ _ _ _ (vs_at r (tokX x0 x1 x4 r) (wtsX x5 x6 x7 x8 x9 x10 x11 x12) _ _ _ (y_at _ _ _ _ _ r (attX x1 r) _ (wtsX x5 x6 x7 x8 x9 x10 x11 x12) (by funext p j; fin_cases p <;> pointwise [attX]) _ _ _ _ rfl rfl rfl (by funext j; pointwise [tokX, vtok]) rfl rfl) (by funext j; pointwise [tokX, vtok]) (by funext j; pointwise [tokX, vtok]) 0) (vc_row r (tokX x0 x1 x4 r) (wtsX x5 x6 x7 x8 x9 x10 x11 x12) _ _ _ (y_at _ _ _ _ _ r (attX x1 r) _ (wtsX x5 x6 x7 x8 x9 x10 x11 x12) (by funext p j; fin_cases p <;> pointwise [attX]) _ _ _ _ rfl rfl rfl (by funext j; pointwise [tokX, vtok]) rfl rfl) (by funext j; pointwise [tokX, vtok]) (by funext j; pointwise [tokX, vtok])) rfl (by funext j; pointwise [wtsX]) rfl (by funext j; pointwise [wtsX]) _ _ (by funext j; pointwise [tokX, vtok]) rfl rfl l

/-- The stored attention row. -/
theorem outA_14_at (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec Ideal S1x256x2560 .bf16) (x1 : Vec Ideal S1x5x256x128 .f32) (x2 : Vec Ideal S1x10x256x128 .f32) (x3 : Vec Ideal S1x18x16x128 .f32) (x4 : Vec Ideal S1x6x2560 .f32) (x5 : Vec Ideal S640x2560 .fp8e4m3) (x6 : Vec Ideal S1x2560 .f32) (x7 : Vec Ideal S1728x2560 .fp8e4m3) (x8 : Vec Ideal S1728x128 .f32) (x9 : Vec Ideal S1728x2560 .fp8e4m3) (x10 : Vec Ideal S1728x128 .f32) (x11 : Vec Ideal S1728x2560 .fp8e4m3) (x12 : Vec Ideal S1x2560 .f32) (xt0 : TbBuf0 (F := Ideal) c tbM0_0) (z : Fin 1) (r : Fin 256) (l : Fin 640) :
    out0_A_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0 (ix3 z r l) = cat (attX x1 r) l := by
  frame_out
  rw [pay32_at]
  exact a_at _ _ _ _ _ r _ (by funext p j; fin_cases p <;> pointwise [attX]) l

/-- The stored attention codes. -/
theorem outA_17_at (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec Ideal S1x256x2560 .bf16) (x1 : Vec Ideal S1x5x256x128 .f32) (x2 : Vec Ideal S1x10x256x128 .f32) (x3 : Vec Ideal S1x18x16x128 .f32) (x4 : Vec Ideal S1x6x2560 .f32) (x5 : Vec Ideal S640x2560 .fp8e4m3) (x6 : Vec Ideal S1x2560 .f32) (x7 : Vec Ideal S1728x2560 .fp8e4m3) (x8 : Vec Ideal S1728x128 .f32) (x9 : Vec Ideal S1728x2560 .fp8e4m3) (x10 : Vec Ideal S1728x128 .f32) (x11 : Vec Ideal S1728x2560 .fp8e4m3) (x12 : Vec Ideal S1x2560 .f32) (xt0 : TbBuf0 (F := Ideal) c tbM0_0) (z : Fin 1) (r : Fin 256) (l : Fin 640) :
    out0_A_17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0 (ix3 z r l) = qcode (cat (attX x1 r)) l := by
  frame_out
  rw [pay34_at]
  exact ac_at _ _ _ _ _ r _ (by funext p j; fin_cases p <;> pointwise [attX]) l

/-- The stored attention scales. -/
theorem outA_18_at (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec Ideal S1x256x2560 .bf16) (x1 : Vec Ideal S1x5x256x128 .f32) (x2 : Vec Ideal S1x10x256x128 .f32) (x3 : Vec Ideal S1x18x16x128 .f32) (x4 : Vec Ideal S1x6x2560 .f32) (x5 : Vec Ideal S640x2560 .fp8e4m3) (x6 : Vec Ideal S1x2560 .f32) (x7 : Vec Ideal S1728x2560 .fp8e4m3) (x8 : Vec Ideal S1728x128 .f32) (x9 : Vec Ideal S1728x2560 .fp8e4m3) (x10 : Vec Ideal S1728x128 .f32) (x11 : Vec Ideal S1728x2560 .fp8e4m3) (x12 : Vec Ideal S1x2560 .f32) (xt0 : TbBuf0 (F := Ideal) c tbM0_0) (z y : Fin 1) (r : Fin 256) :
    out0_A_18 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0 (ix3 z y r) = qscale (cat (attX x1 r)) := by
  frame_out
  rw [pay30_at, pay29_at]
  exact as_at _ _ _ _ _ r _ (by funext p j; fin_cases p <;> pointwise [attX]) 0

/-- The stored codes of the modulated norm. -/
theorem outA_19_at (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec Ideal S1x256x2560 .bf16) (x1 : Vec Ideal S1x5x256x128 .f32) (x2 : Vec Ideal S1x10x256x128 .f32) (x3 : Vec Ideal S1x18x16x128 .f32) (x4 : Vec Ideal S1x6x2560 .f32) (x5 : Vec Ideal S640x2560 .fp8e4m3) (x6 : Vec Ideal S1x2560 .f32) (x7 : Vec Ideal S1728x2560 .fp8e4m3) (x8 : Vec Ideal S1728x128 .f32) (x9 : Vec Ideal S1728x2560 .fp8e4m3) (x10 : Vec Ideal S1728x128 .f32) (x11 : Vec Ideal S1728x2560 .fp8e4m3) (x12 : Vec Ideal S1x2560 .f32) (xt0 : TbBuf0 (F := Ideal) c tbM0_0) (z : Fin 1) (r : Fin 256) (l : Fin 2560) :
    out0_A_19 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0 (ix3 z r l) = qcode (vrow (tokX x0 x1 x4 r) (wtsX x5 x6 x7 x8 x9 x10 x11 x12)) l := by
  frame_out
  rw [pay39_at]
  exact congrFun (vc_row r (tokX x0 x1 x4 r) (wtsX x5 x6 x7 x8 x9 x10 x11 x12) _ _ _ (y_at _ _ _ _ _ r (attX x1 r) _ (wtsX x5 x6 x7 x8 x9 x10 x11 x12) (by funext p j; fin_cases p <;> pointwise [attX]) _ _ _ _ rfl rfl rfl (by funext j; pointwise [tokX, vtok]) rfl rfl) (by funext j; pointwise [tokX, vtok]) (by funext j; pointwise [tokX, vtok])) l

/-- Their stored scales. -/
theorem outA_20_at (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec Ideal S1x256x2560 .bf16) (x1 : Vec Ideal S1x5x256x128 .f32) (x2 : Vec Ideal S1x10x256x128 .f32) (x3 : Vec Ideal S1x18x16x128 .f32) (x4 : Vec Ideal S1x6x2560 .f32) (x5 : Vec Ideal S640x2560 .fp8e4m3) (x6 : Vec Ideal S1x2560 .f32) (x7 : Vec Ideal S1728x2560 .fp8e4m3) (x8 : Vec Ideal S1728x128 .f32) (x9 : Vec Ideal S1728x2560 .fp8e4m3) (x10 : Vec Ideal S1728x128 .f32) (x11 : Vec Ideal S1728x2560 .fp8e4m3) (x12 : Vec Ideal S1x2560 .f32) (xt0 : TbBuf0 (F := Ideal) c tbM0_0) (z y : Fin 1) (r : Fin 256) :
    out0_A_20 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0 (ix3 z y r) = qscale (vrow (tokX x0 x1 x4 r) (wtsX x5 x6 x7 x8 x9 x10 x11 x12)) := by
  frame_out
  rw [pay41_at]
  exact (vs_at r (tokX x0 x1 x4 r) (wtsX x5 x6 x7 x8 x9 x10 x11 x12) _ _ _ (y_at _ _ _ _ _ r (attX x1 r) _ (wtsX x5 x6 x7 x8 x9 x10 x11 x12) (by funext p j; fin_cases p <;> pointwise [attX]) _ _ _ _ rfl rfl rfl (by funext j; pointwise [tokX, vtok]) rfl rfl) (by funext j; pointwise [tokX, vtok]) (by funext j; pointwise [tokX, vtok]) 0)

/-- The stored hidden codes. -/
theorem outA_21_at (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec Ideal S1x256x2560 .bf16) (x1 : Vec Ideal S1x5x256x128 .f32) (x2 : Vec Ideal S1x10x256x128 .f32) (x3 : Vec Ideal S1x18x16x128 .f32) (x4 : Vec Ideal S1x6x2560 .f32) (x5 : Vec Ideal S640x2560 .fp8e4m3) (x6 : Vec Ideal S1x2560 .f32) (x7 : Vec Ideal S1728x2560 .fp8e4m3) (x8 : Vec Ideal S1728x128 .f32) (x9 : Vec Ideal S1728x2560 .fp8e4m3) (x10 : Vec Ideal S1728x128 .f32) (x11 : Vec Ideal S1728x2560 .fp8e4m3) (x12 : Vec Ideal S1x2560 .f32) (xt0 : TbBuf0 (F := Ideal) c tbM0_0) (z : Fin 1) (j : Fin 1728) (r : Fin 256) :
    out0_A_21 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0 (ix3 z j r) = qcode (hrow (tokX x0 x1 x4 r) (wtsX x5 x6 x7 x8 x9 x10 x11 x12)) j := by
  frame_out
  rw [pay46_at]
  exact congrFun (hc_row r (tokX x0 x1 x4 r) (wtsX x5 x6 x7 x8 x9 x10 x11 x12) _ _ _ _ _ _ (vs_at r (tokX x0 x1 x4 r) (wtsX x5 x6 x7 x8 x9 x10 x11 x12) _ _ _ (y_at _ _ _ _ _ r (attX x1 r) _ (wtsX x5 x6 x7 x8 x9 x10 x11 x12) (by funext p j; fin_cases p <;> pointwise [attX]) _ _ _ _ rfl rfl rfl (by funext j; pointwise [tokX, vtok]) rfl rfl) (by funext j; pointwise [tokX, vtok]) (by funext j; pointwise [tokX, vtok]) 0) (vc_row r (tokX x0 x1 x4 r) (wtsX x5 x6 x7 x8 x9 x10 x11 x12) _ _ _ (y_at _ _ _ _ _ r (attX x1 r) _ (wtsX x5 x6 x7 x8 x9 x10 x11 x12) (by funext p j; fin_cases p <;> pointwise [attX]) _ _ _ _ rfl rfl rfl (by funext j; pointwise [tokX, vtok]) rfl rfl) (by funext j; pointwise [tokX, vtok]) (by funext j; pointwise [tokX, vtok])) rfl (by funext j; pointwise [wtsX]) rfl (by funext j; pointwise [wtsX])) j

/-- Their stored scales. -/
theorem outA_22_at (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec Ideal S1x256x2560 .bf16) (x1 : Vec Ideal S1x5x256x128 .f32) (x2 : Vec Ideal S1x10x256x128 .f32) (x3 : Vec Ideal S1x18x16x128 .f32) (x4 : Vec Ideal S1x6x2560 .f32) (x5 : Vec Ideal S640x2560 .fp8e4m3) (x6 : Vec Ideal S1x2560 .f32) (x7 : Vec Ideal S1728x2560 .fp8e4m3) (x8 : Vec Ideal S1728x128 .f32) (x9 : Vec Ideal S1728x2560 .fp8e4m3) (x10 : Vec Ideal S1728x128 .f32) (x11 : Vec Ideal S1728x2560 .fp8e4m3) (x12 : Vec Ideal S1x2560 .f32) (xt0 : TbBuf0 (F := Ideal) c tbM0_0) (z y : Fin 1) (r : Fin 256) :
    out0_A_22 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0 (ix3 z y r) = qscale (hrow (tokX x0 x1 x4 r) (wtsX x5 x6 x7 x8 x9 x10 x11 x12)) := by
  frame_out
  rw [pay44_at]
  exact hs_at r (tokX x0 x1 x4 r) (wtsX x5 x6 x7 x8 x9 x10 x11 x12) _ _ _ _ _ _ (vs_at r (tokX x0 x1 x4 r) (wtsX x5 x6 x7 x8 x9 x10 x11 x12) _ _ _ (y_at _ _ _ _ _ r (attX x1 r) _ (wtsX x5 x6 x7 x8 x9 x10 x11 x12) (by funext p j; fin_cases p <;> pointwise [attX]) _ _ _ _ rfl rfl rfl (by funext j; pointwise [tokX, vtok]) rfl rfl) (by funext j; pointwise [tokX, vtok]) (by funext j; pointwise [tokX, vtok]) 0) (vc_row r (tokX x0 x1 x4 r) (wtsX x5 x6 x7 x8 x9 x10 x11 x12) _ _ _ (y_at _ _ _ _ _ r (attX x1 r) _ (wtsX x5 x6 x7 x8 x9 x10 x11 x12) (by funext p j; fin_cases p <;> pointwise [attX]) _ _ _ _ rfl rfl rfl (by funext j; pointwise [tokX, vtok]) rfl rfl) (by funext j; pointwise [tokX, vtok]) (by funext j; pointwise [tokX, vtok])) rfl (by funext j; pointwise [wtsX]) rfl (by funext j; pointwise [wtsX]) 0

end Cert.MlpIdeal.Vals
-- ==== Proof.MlpIdeal.OutQK.lean ====
/-
  What the video kernel's query and key outputs hold after its body, at an index, in terms of the blocks that it reads.
-/
module

public import proofs.«01_k».proof.Proof.MlpIdeal.Body
public import proofs.«01_k».proof.Proof.MlpIdeal.Pay
public import Idealize.ShloMosaic.Lib.Pointwise
public import Idealize.ShloMosaic.Lib.Pipeline.ValueKit

@[expose] public section

set_option maxRecDepth 16384
set_option maxHeartbeats 4000000
set_option backward.isDefEq.respectTransparency false

noncomputable section

open Idealize.ShloMosaic Idealize.ShloMosaic.TcCoe Idealize.SL.Sem
open Idealize.ShloMosaic.Pipeline (Dat)

namespace Cert.MlpIdeal.Vals
open Cert.MlpIdeal Cert.MlpIdeal.Gen Cert.Spec

/-- The windows' first tokens, of the table. -/
def cuX (c : Dev nD) (xt0 : TbBuf0 (F := Ideal) c tbM0_0) (k : Fin 18) : BitVec 32 := (xt0 : S19.Idx → BitVec 32) (ix1 ⟨k.val, by omega⟩)

/-- The reciprocal of the scale of the window that a token lies in, from any loads. -/
theorem rs_of (i : grid0.Coords) (c1 c2 c3 c4 c5 c6 c7 c8 c9 c10 c11 c12 c13 c14 c15 c16 c17 : BitVec 32) (v0 v1 v2 v3 v4 v5 v6 v7 v8 v9 v10 v11 v12 v13 v14 v15 v16 v17 : Vec Ideal S1x1x16x1 .f32) (r : Fin 256) (p : Fin 16)
    (cu : Fin 18 → BitVec 32) (g : Fin 18 → EReal) (hc : ∀ k : Fin 17, ![c1, c2, c3, c4, c5, c6, c7, c8, c9, c10, c11, c12, c13, c14, c15, c16, c17] k = cu k.succ)
    (hv : ∀ k : Fin 18, ![v0, v1, v2, v3, v4, v5, v6, v7, v8, v9, v10, v11, v12, v13, v14, v15, v16, v17] k (ix4 0 0 p 0) = scaleOf (g k)) :
    k0_pay8 (F := Ideal) (k0_pay2 i)
      (k0_pay6 (k0_pay2 i)
        (k0_pay5 (k0_pay2 i) (k0_pay3 i v0 c1 v1 c2 v2 c3 v3) (k0_pay4 (F := Ideal) i c4) v4 c5 v5 c6 v6 c7 v7 c8 v8)
        c9 v9 c10 v10 c11 v11 c12 v12)
      (k0_pay7 (F := Ideal) (k0_pay2 i) c13) v13 c14 v14 c15 v15 c16 v16 c17 v17 (ix2 r p)
      = Ideal.div 1 (scaleOf (pick (fun k => (cu k).toInt ≤ (pos i r).toInt) g)) := by
  have hg : (fun k : Fin 18 => ![v0, v1, v2, v3, v4, v5, v6, v7, v8, v9, v10, v11, v12, v13, v14, v15, v16, v17] k (ix4 0 0 p 0)) = fun k => scaleOf (g k) := funext hv
  have e := rs_at i cu ![v0, v1, v2, v3, v4, v5, v6, v7, v8, v9, v10, v11, v12, v13, v14, v15, v16, v17] r p
  rw [hg, pick_scaleOf] at e
  have e1 : c1 = cu 1 := hc 0
  have e2 : c2 = cu 2 := hc 1
  have e3 : c3 = cu 3 := hc 2
  have e4 : c4 = cu 4 := hc 3
  have e5 : c5 = cu 5 := hc 4
  have e6 : c6 = cu 6 := hc 5
  have e7 : c7 = cu 7 := hc 6
  have e8 : c8 = cu 8 := hc 7
  have e9 : c9 = cu 9 := hc 8
  have e10 : c10 = cu 10 := hc 9
  have e11 : c11 = cu 11 := hc 10
  have e12 : c12 = cu 12 := hc 11
  have e13 : c13 = cu 13 := hc 12
  have e14 : c14 = cu 14 := hc 13
  have e15 : c15 = cu 15 := hc 14
  have e16 : c16 = cu 16 := hc 15
  have e17 : c17 = cu 17 := hc 16
  rw [e1, e2, e3, e4, e5, e6, e7, e8, e9, e10, e11, e12, e13, e14, e15, e16, e17]
  exact e

/-- The stored query codes, where the scale block holds the scales of the magnitudes `g`. -/
theorem outA_15_at (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec Ideal S1x256x2560 .bf16) (x1 : Vec Ideal S1x5x256x128 .f32) (x2 : Vec Ideal S1x10x256x128 .f32) (x3 : Vec Ideal S1x18x16x128 .f32) (x4 : Vec Ideal S1x6x2560 .f32) (x5 : Vec Ideal S640x2560 .fp8e4m3) (x6 : Vec Ideal S1x2560 .f32) (x7 : Vec Ideal S1728x2560 .fp8e4m3) (x8 : Vec Ideal S1728x128 .f32) (x9 : Vec Ideal S1728x2560 .fp8e4m3) (x10 : Vec Ideal S1728x128 .f32) (x11 : Vec Ideal S1728x2560 .fp8e4m3) (x12 : Vec Ideal S1x2560 .f32) (xt0 : TbBuf0 (F := Ideal) c tbM0_0) (g : Fin 18 → Fin 16 → EReal) (scl : ∀ k q, x3 (ix4 0 k q 0) = scaleOf (g k q)) (z : Fin 1) (p : Fin 5) (r : Fin 256) (l : Fin 128) :
    out0_A_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0 (ix4 z p r l)
      = code (scaleOf (pick (fun k => (cuX c xt0 k).toInt ≤ (pos i r).toInt) fun k => g k ⟨p.val, by omega⟩)) (x2 (ix4 0 ⟨p.val, by omega⟩ r l)) := by
  frame_out
  clear harg3 harg4 harg5 harg6 harg7 harg8 harg9 harg10 harg11 harg12 harg13 harg14 harg15 harg16 harg17 harg18 harg19 harg20 harg21 harg22 harg23 harg24 harg25
  clear x0 x1 x4 x5 x6 x7 x8 x9 x10 x11 x12
  canon_tiles u hu
  case piece0 =>
    idx_vars u
    obtain rfl : p = 4 := Fin.ext (by change p.val = 4; omega)
    obtain rfl : r = u2 := Fin.ext hu2
    obtain rfl : l = u3 := Fin.ext hu3
    refine (pay21_at _ _ _ _ r l (pick (fun k => (cuX c xt0 k).toInt ≤ (pos i r).toInt) fun k => g k 4) ?_).trans ?_
    · refine rs_of i _ _ _ _ _ _ _ _ _ _ _ _ _ _ _ _ _ _ _ _ _ _ _ _ _ _ _ _ _ _ _ _ _ _ _ r 4 (cuX c xt0) (fun k => g k 4) (fun k => ?_) (fun k => ?_)
      · fin_cases k <;> exact congrArg (xt0 : S19.Idx → BitVec 32) (funext fun a => by fin_cases a; rfl)
      · rw [← scl]
        fin_cases k <;> pointwise
    · refine congrArg (code _) ?_
      pointwise
  case piece1 =>
    idx_vars u
    obtain rfl : p = 3 := Fin.ext (by change p.val = 3; omega)
    obtain rfl : r = u2 := Fin.ext hu2
    obtain rfl : l = u3 := Fin.ext hu3
    refine (pay17_at _ _ _ _ r l (pick (fun k => (cuX c xt0 k).toInt ≤ (pos i r).toInt) fun k => g k 3) ?_).trans ?_
    · refine rs_of i _ _ _ _ _ _ _ _ _ _ _ _ _ _ _ _ _ _ _ _ _ _ _ _ _ _ _ _ _ _ _ _ _ _ _ r 3 (cuX c xt0) (fun k => g k 3) (fun k => ?_) (fun k => ?_)
      · fin_cases k <;> exact congrArg (xt0 : S19.Idx → BitVec 32) (funext fun a => by fin_cases a; rfl)
      · rw [← scl]
        fin_cases k <;> pointwise
    · refine congrArg (code _) ?_
      pointwise
  case piece2 =>
    idx_vars u
    obtain rfl : p = 2 := Fin.ext (by change p.val = 2; omega)
    obtain rfl : r = u2 := Fin.ext hu2
    obtain rfl : l = u3 := Fin.ext hu3
    refine (pay15_at _ _ _ _ r l (pick (fun k => (cuX c xt0 k).toInt ≤ (pos i r).toInt) fun k => g k 2) ?_).trans ?_
    · refine rs_of i _ _ _ _ _ _ _ _ _ _ _ _ _ _ _ _ _ _ _ _ _ _ _ _ _ _ _ _ _ _ _ _ _ _ _ r 2 (cuX c xt0) (fun k => g k 2) (fun k => ?_) (fun k => ?_)
      · fin_cases k <;> exact congrArg (xt0 : S19.Idx → BitVec 32) (funext fun a => by fin_cases a; rfl)
      · rw [← scl]
        fin_cases k <;> pointwise
    · refine congrArg (code _) ?_
      pointwise
  case piece3 =>
    idx_vars u
    obtain rfl : p = 1 := Fin.ext (by change p.val = 1; omega)
    obtain rfl : r = u2 := Fin.ext hu2
    obtain rfl : l = u3 := Fin.ext hu3
    refine (pay13_at _ _ _ _ r l (pick (fun k => (cuX c xt0 k).toInt ≤ (pos i r).toInt) fun k => g k 1) ?_).trans ?_
    · refine rs_of i _ _ _ _ _ _ _ _ _ _ _ _ _ _ _ _ _ _ _ _ _ _ _ _ _ _ _ _ _ _ _ _ _ _ _ r 1 (cuX c xt0) (fun k => g k 1) (fun k => ?_) (fun k => ?_)
      · fin_cases k <;> exact congrArg (xt0 : S19.Idx → BitVec 32) (funext fun a => by fin_cases a; rfl)
      · rw [← scl]
        fin_cases k <;> pointwise
    · refine congrArg (code _) ?_
      pointwise
  case piece4 =>
    idx_vars u
    obtain rfl : p = 0 := Fin.ext (by change p.val = 0; omega)
    obtain rfl : r = u2 := Fin.ext hu2
    obtain rfl : l = u3 := Fin.ext hu3
    refine (pay9_at _ _ _ _ r l (pick (fun k => (cuX c xt0 k).toInt ≤ (pos i r).toInt) fun k => g k 0) ?_).trans ?_
    · refine rs_of i _ _ _ _ _ _ _ _ _ _ _ _ _ _ _ _ _ _ _ _ _ _ _ _ _ _ _ _ _ _ _ _ _ _ _ r 0 (cuX c xt0) (fun k => g k 0) (fun k => ?_) (fun k => ?_)
      · fin_cases k <;> exact congrArg (xt0 : S19.Idx → BitVec 32) (funext fun a => by fin_cases a; rfl)
      · rw [← scl]
        fin_cases k <;> pointwise
    · refine congrArg (code _) ?_
      pointwise

/-- The stored key codes, where the scale block holds the scales of the magnitudes `g`. -/
theorem outA_16_at (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec Ideal S1x256x2560 .bf16) (x1 : Vec Ideal S1x5x256x128 .f32) (x2 : Vec Ideal S1x10x256x128 .f32) (x3 : Vec Ideal S1x18x16x128 .f32) (x4 : Vec Ideal S1x6x2560 .f32) (x5 : Vec Ideal S640x2560 .fp8e4m3) (x6 : Vec Ideal S1x2560 .f32) (x7 : Vec Ideal S1728x2560 .fp8e4m3) (x8 : Vec Ideal S1728x128 .f32) (x9 : Vec Ideal S1728x2560 .fp8e4m3) (x10 : Vec Ideal S1728x128 .f32) (x11 : Vec Ideal S1728x2560 .fp8e4m3) (x12 : Vec Ideal S1x2560 .f32) (xt0 : TbBuf0 (F := Ideal) c tbM0_0) (g : Fin 18 → Fin 16 → EReal) (scl : ∀ k q, x3 (ix4 0 k q 0) = scaleOf (g k q)) (z : Fin 1) (p : Fin 5) (r : Fin 256) (l : Fin 128) :
    out0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 xt0 (ix4 z p r l)
      = code (scaleOf (pick (fun k => (cuX c xt0 k).toInt ≤ (pos i r).toInt) fun k => g k ⟨5 + p.val, by omega⟩)) (x2 (ix4 0 ⟨5 + p.val, by omega⟩ r l)) := by
  frame_out
  clear harg3 harg4 harg5 harg6 harg7 harg8 harg9 harg10 harg11 harg12 harg13 harg14 harg15 harg16 harg17 harg18 harg19 harg20 harg21 harg22 harg23 harg24 harg25
  clear x0 x1 x4 x5 x6 x7 x8 x9 x10 x11 x12
  canon_tiles u hu
  case piece0 =>
    idx_vars u
    obtain rfl : p = 4 := Fin.ext (by change p.val = 4; omega)
    obtain rfl : r = u2 := Fin.ext hu2
    obtain rfl : l = u3 := Fin.ext hu3
    refine (pay22_at _ _ _ _ r l (pick (fun k => (cuX c xt0 k).toInt ≤ (pos i r).toInt) fun k => g k 9) ?_).trans ?_
    · refine rs_of i _ _ _ _ _ _ _ _ _ _ _ _ _ _ _ _ _ _ _ _ _ _ _ _ _ _ _ _ _ _ _ _ _ _ _ r 9 (cuX c xt0) (fun k => g k 9) (fun k => ?_) (fun k => ?_)
      · fin_cases k <;> exact congrArg (xt0 : S19.Idx → BitVec 32) (funext fun a => by fin_cases a; rfl)
      · rw [← scl]
        fin_cases k <;> pointwise
    · refine congrArg (code _) ?_
      pointwise
  case piece1 =>
    idx_vars u
    obtain rfl : p = 3 := Fin.ext (by change p.val = 3; omega)
    obtain rfl : r = u2 := Fin.ext hu2
    obtain rfl : l = u3 := Fin.ext hu3
    refine (pay20_at _ _ _ _ r l (pick (fun k => (cuX c xt0 k).toInt ≤ (pos i r).toInt) fun k => g k 8) ?_).trans ?_
    · refine rs_of i _ _ _ _ _ _ _ _ _ _ _ _ _ _ _ _ _ _ _ _ _ _ _ _ _ _ _ _ _ _ _ _ _ _ _ r 8 (cuX c xt0) (fun k => g k 8) (fun k => ?_) (fun k => ?_)
      · fin_cases k <;> exact congrArg (xt0 : S19.Idx → BitVec 32) (funext fun a => by fin_cases a; rfl)
      · rw [← scl]
        fin_cases k <;> pointwise
    · refine congrArg (code _) ?_
      pointwise
  case piece2 =>
    idx_vars u
    obtain rfl : p = 2 := Fin.ext (by change p.val = 2; omega)
    obtain rfl : r = u2 := Fin.ext hu2
    obtain rfl : l = u3 := Fin.ext hu3
    refine (pay16_at _ _ _ _ r l (pick (fun k => (cuX c xt0 k).toInt ≤ (pos i r).toInt) fun k => g k 7) ?_).trans ?_
    · refine rs_of i _ _ _ _ _ _ _ _ _ _ _ _ _ _ _ _ _ _ _ _ _ _ _ _ _ _ _ _ _ _ _ _ _ _ _ r 7 (cuX c xt0) (fun k => g k 7) (fun k => ?_) (fun k => ?_)
      · fin_cases k <;> exact congrArg (xt0 : S19.Idx → BitVec 32) (funext fun a => by fin_cases a; rfl)
      · rw [← scl]
        fin_cases k <;> pointwise
    · refine congrArg (code _) ?_
      pointwise
  case piece3 =>
    idx_vars u
    obtain rfl : p = 1 := Fin.ext (by change p.val = 1; omega)
    obtain rfl : r = u2 := Fin.ext hu2
    obtain rfl : l = u3 := Fin.ext hu3
    refine (pay14_at _ _ _ _ r l (pick (fun k => (cuX c xt0 k).toInt ≤ (pos i r).toInt) fun k => g k 6) ?_).trans ?_
    · refine rs_of i _ _ _ _ _ _ _ _ _ _ _ _ _ _ _ _ _ _ _ _ _ _ _ _ _ _ _ _ _ _ _ _ _ _ _ r 6 (cuX c xt0) (fun k => g k 6) (fun k => ?_) (fun k => ?_)
      · fin_cases k <;> exact congrArg (xt0 : S19.Idx → BitVec 32) (funext fun a => by fin_cases a; rfl)
      · rw [← scl]
        fin_cases k <;> pointwise
    · refine congrArg (code _) ?_
      pointwise
  case piece4 =>
    idx_vars u
    obtain rfl : p = 0 := Fin.ext (by change p.val = 0; omega)
    obtain rfl : r = u2 := Fin.ext hu2
    obtain rfl : l = u3 := Fin.ext hu3
    refine (pay10_at _ _ _ _ r l (pick (fun k => (cuX c xt0 k).toInt ≤ (pos i r).toInt) fun k => g k 5) ?_).trans ?_
    · refine rs_of i _ _ _ _ _ _ _ _ _ _ _ _ _ _ _ _ _ _ _ _ _ _ _ _ _ _ _ _ _ _ _ _ _ _ _ r 5 (cuX c xt0) (fun k => g k 5) (fun k => ?_) (fun k => ?_)
      · fin_cases k <;> exact congrArg (xt0 : S19.Idx → BitVec 32) (funext fun a => by fin_cases a; rfl)
      · rw [← scl]
        fin_cases k <;> pointwise
    · refine congrArg (code _) ?_
      pointwise

end Cert.MlpIdeal.Vals
-- ==== Proof.MlpIdeal.Values.lean ====
/-
  What each grid point of the video kernel leaves on the rows inside the arrays: every token's row of the arguments
  (Proof/Spec.lean, Proof/VidSpec.lean), read through the point's block.
-/
module

public import proofs.«01_k».proof.Proof.MlpIdeal.Geo
public import proofs.«01_k».proof.Proof.MlpIdeal.Out
public import proofs.«01_k».proof.Proof.MlpIdeal.OutQK

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.MlpIdeal.Vals
open Cert.MlpIdeal Cert.MlpIdeal.Gen Cert.Spec

variable (m : (ℓ : Loc nD τ sig) → Buf (Elt Ideal) ℓ) (hO : Ok m) (c : Dev nD)

/-- A token's heads. -/
def att (b : Fin 2) (n : Fin 12240) : Fin 5 → Fin 128 → EReal := fun p j => m ((c : Thread nD τ).loc main_arg2) (ix4 b p n j)

/-- A token of the arguments: batch `b`, position `n`. -/
def tok (b : Fin 2) (n : Fin 12240) : Tok :=
  vtok (fun j => m ((c : Thread nD τ).loc main_arg1) (ix3 b n j)) (att m c b n) (fun i j => m ((c : Thread nD τ).loc main_arg5) (ix3 b i j))

/-- The weights and their scales. -/
def wts : Wts :=
  ⟨fun k j => m ((c : Thread nD τ).loc main_arg6) (ix2 k j), fun j => m ((c : Thread nD τ).loc main_arg7) (ix1 j),
   fun k j => m ((c : Thread nD τ).loc main_arg8) (ix2 k j), fun j => m ((c : Thread nD τ).loc main_arg9) (ix1 j),
   fun k j => m ((c : Thread nD τ).loc main_arg10) (ix2 k j), fun j => m ((c : Thread nD τ).loc main_arg11) (ix1 j),
   fun k j => m ((c : Thread nD τ).loc main_arg12) (ix2 k j), fun j => m ((c : Thread nD τ).loc main_arg13) (ix1 j)⟩

/-- A query's (heads 0 to 4) or key's (heads 5 to 9) code. -/
def qk (b : Fin 2) (h : Fin 10) (n : Fin 12240) (l : Fin 128) : EReal :=
  wcode (fun k => m ((c : Thread nD τ).loc main_arg0) (ix1 ⟨k.val, by omega⟩)) (fun k => m ((c : Thread nD τ).loc main_arg4) (ix4 b k ⟨h.val, by omega⟩ 0)) n.val
    (m ((c : Thread nD τ).loc main_arg3) (ix4 b h ⟨n.val, by omega⟩ l))

/-- The weight blocks are the arguments', transposed or repeated on the way. -/
theorem wts_eq (t : Fin grid0.N) : wtsX (iblk m hO c 5 t) (iblk m hO c 6 t) (iblk m hO c 7 t) (iblk m hO c 8 t) (iblk m hO c 9 t)
    (iblk m hO c 10 t) (iblk m hO c 11 t) (iblk m hO c 12 t) = wts m c :=
  (Wts.mk.injEq ..).mpr ⟨funext fun k => funext fun j => b5 m hO c t k j, funext fun j => b6 m hO c t j,
    funext fun k => funext fun j => b7 m hO c t j k, funext fun j => b8 m hO c t j 0,
    funext fun k => funext fun j => b9 m hO c t j k, funext fun j => b10 m hO c t j 0,
    funext fun k => funext fun j => b11 m hO c t k j, funext fun j => b12 m hO c t j⟩

section Row
variable (t : Fin grid0.N) (b : Fin 2) (hb : b.val = t.val / 48) (n : Fin 12240) (r : Fin 256) (hn : n.val = t.val % 48 * 256 + r.val)
  (d0 : ((cfgM m hO).win 0).block.Idx → Elt Ideal ((cfgM m hO).win 0).elt) (d1 : ((cfgM m hO).win 1).block.Idx → Elt Ideal ((cfgM m hO).win 1).elt)
include hb hn

theorem att_eq : attX (((cfgM m hO).win 1).fill (grid0.coords t) d1 (iblk m hO c 1 t)) r = att m c b n :=
  funext fun p => funext fun j => f1 m hO c t d1 b hb n r hn p j

/-- A row inside the array holds the arguments' token. -/
theorem tok_eq : tokX (((cfgM m hO).win 0).fill (grid0.coords t) d0 (iblk m hO c 0 t)) (((cfgM m hO).win 1).fill (grid0.coords t) d1 (iblk m hO c 1 t))
    (iblk m hO c 4 t) r = tok m c b n := by
  have h0 : (fun j : Fin 2560 => ((cfgM m hO).win 0).fill (grid0.coords t) d0 (iblk m hO c 0 t) (ix3 (0 : Fin 1) r j)) = fun j => m ((c : Thread nD τ).loc main_arg1) (ix3 b n j) :=
    funext fun j => f0 m hO c t d0 b hb n r hn j
  have h4 : (fun (i : Fin 6) (j : Fin 2560) => iblk m hO c 4 t (ix3 (0 : Fin 1) i j)) = fun i j => m ((c : Thread nD τ).loc main_arg5) (ix3 b i j) :=
    funext fun i => funext fun j => b4 m hO c t b hb i j
  exact (congrArg (fun x => vtok x _ _) h0).trans ((congrArg (fun x => vtok _ x _) (att_eq m hO c t b hb n r hn d1)).trans (congrArg (fun x => vtok _ _ x) h4))

theorem pos_eq : pos (grid0.coords t) r = BitVec.ofNat 32 n.val := by
  have hc : ((grid0.coords t) 1).val = t.val % 48 := (by decide +kernel : ∀ t : Fin grid0.N, ((grid0.coords t) 1).val = t.val % 48) t
  unfold pos
  rw [hc, hn]
  show BitVec.ofNat 32 (t.val % 48) * 256#32 + BitVec.ofNat 32 r.val = _
  apply BitVec.eq_of_toNat_eq
  simp [BitVec.toNat_add, BitVec.toNat_mul]

/-- A row inside the array holds its window's codes. -/
theorem qk_eq (h : Fin 10) (l : Fin 128) :
    code (scaleOf (pick (fun k => (cuX c (tbl m 0) k).toInt ≤ (pos (grid0.coords t) r).toInt) fun k => m ((c : Thread nD τ).loc main_arg4) (ix4 b k ⟨h.val, by omega⟩ 0)))
      (iblk m hO c 2 t (ix4 (0 : Fin 1) h r l)) = qk m c b h n l := by
  have hx := b2 m hO c t b hb ⟨n.val, by omega⟩ r hn h l
  have hcu : ∀ k, cuX c (tbl m 0) k = m ((c : Thread nD τ).loc main_arg0) (ix1 ⟨k.val, by omega⟩) := by
    intro k
    obtain rfl : c = 0 := Subsingleton.elim _ _
    exact congrFun (V_arg m 0 main_arg0 (by decide)) _
  unfold qk wcode
  rw [pos_eq t b hb n r hn]
  simp only [hcu]
  exact congrArg (code _) hx

end Row

/-! ### The results -/

/-- Result 0 at the end of the run. -/
def G13 : Buf (Elt Ideal) ((c : Thread nD τ).loc main_v13_0) := fun i => zrow (tok m c (i 0) (i 1)) (wts m c) (i 2)

/-- Result 1 at the end of the run. -/
def G14 : Buf (Elt Ideal) ((c : Thread nD τ).loc main_v13_1) := fun i => cat (att m c (i 0) (i 1)) (i 2)

/-- Result 2 at the end of the run. -/
def G15 : Buf (Elt Ideal) ((c : Thread nD τ).loc main_v13_2) := fun i => qk m c (i 0) ⟨(i 1).val, lt_trans (i 1).isLt (show (5 : Nat) < 10 by decide)⟩ (i 2) (i 3)

/-- Result 3 at the end of the run. -/
def G16 : Buf (Elt Ideal) ((c : Thread nD τ).loc main_v13_3) := fun i => qk m c (i 0) ⟨5 + (i 1).val, Nat.add_lt_add_left (i 1).isLt 5⟩ (i 2) (i 3)

/-- Result 4 at the end of the run. -/
def G17 : Buf (Elt Ideal) ((c : Thread nD τ).loc main_v13_4) := fun i => qcode (cat (att m c (i 0) (i 1))) (i 2)

/-- Result 5 at the end of the run. -/
def G18 : Buf (Elt Ideal) ((c : Thread nD τ).loc main_v13_5) := fun i => qscale (cat (att m c (i 0) (i 2)))

/-- Result 6 at the end of the run. -/
def G19 : Buf (Elt Ideal) ((c : Thread nD τ).loc main_v13_6) := fun i => qcode (vrow (tok m c (i 0) (i 1)) (wts m c)) (i 2)

/-- Result 7 at the end of the run. -/
def G20 : Buf (Elt Ideal) ((c : Thread nD τ).loc main_v13_7) := fun i => qscale (vrow (tok m c (i 0) (i 2)) (wts m c))

/-- Result 8 at the end of the run. -/
def G21 : Buf (Elt Ideal) ((c : Thread nD τ).loc main_v13_8) := fun i => qcode (hrow (tok m c (i 0) (i 2)) (wts m c)) (i 1)

/-- Result 9 at the end of the run. -/
def G22 : Buf (Elt Ideal) ((c : Thread nD τ).loc main_v13_9) := fun i => qscale (hrow (tok m c (i 0) (i 2)) (wts m c))

end Cert.MlpIdeal.Vals
-- ==== Proof.MlpIdeal.Cut.lean ====
/-
  What each grid point of the video kernel leaves in each output window is, on the rows inside the array, the result
  read through the point's block.
-/
module

public import proofs.«01_k».proof.Proof.MlpIdeal.Values

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.MlpIdeal.Vals
open Cert.MlpIdeal Cert.MlpIdeal.Gen Cert.Spec

variable (m : (ℓ : Loc nD τ sig) → Buf (Elt Ideal) ℓ) (hO : Ok m) (c : Dev nD)

/-- Where window 13's block lies: the rows inside the array. -/
theorem geo13 (t : Fin grid0.N) (y : (((cfgM m hO).win 13).xblock (grid0.coords t)).Idx) :
    ∃ (i : S2x12240x2560.Idx) (z : Fin 1) (r : Fin 256) (l : Fin 2560), (((cfgM m hO).win 13).blk t).view.emb y = i ∧ ((cfgM m hO).win 13).xinj (grid0.coords t) y = ix3 z r l ∧ (i 0).val = t.val / 48 ∧ (i 1).val = t.val % 48 * 256 + r.val ∧ i 2 = l := by
  have hu : ∃ u : S1x256x2560.Idx, ((cfgM m hO).win 13).xinj (grid0.coords t) y = u := ⟨_, rfl⟩
  have hi : ∃ i : S2x12240x2560.Idx, (((cfgM m hO).win 13).blk t).view.emb y = i := ⟨_, rfl⟩
  obtain ⟨u, hu⟩ := hu
  obtain ⟨i, hi⟩ := hi
  have hv : ∀ a : Fin 3, (i a).val = (![t.val / 48, t.val % 48, 0] : Fin 3 → Nat) a * (![1, 256, 2560] : Fin 3 → Nat) a + 1 * (u a).val := by
    subst hu hi
    intro a
    exact congrArg (fun x : Fin 3 → Nat => x a * (![1, 256, 2560] : Fin 3 → Nat) a + 1 * (y a).val) (idx13 m hO t)
  have h0 := hv 0
  have h1 := hv 1
  have h2 := hv 2
  clear hv
  idx_vars u
  replace h0 : (i 0).val = (t.val / 48) * 1 + 1 * u0.val := h0
  replace h1 : (i 1).val = (t.val % 48) * 256 + 1 * u1.val := h1
  replace h2 : (i 2).val = (0) * 2560 + 1 * u2.val := h2
  refine ⟨i, u0, u1, u2, hi, hu, ?_, ?_, ?_⟩
  · omega
  · omega
  · exact Fin.ext (by omega)

theorem cut13 (t : Fin grid0.N) (d0 : ((cfgM m hO).win 0).block.Idx → Elt Ideal ((cfgM m hO).win 0).elt) (d1 : ((cfgM m hO).win 1).block.Idx → Elt Ideal ((cfgM m hO).win 1).elt) :
    ((cfgM m hO).win 13).cut (grid0.coords t) (val13 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
      = (((cfgM m hO).win 13).blk t).view.read (Elt Ideal) (G13 m c) := by
  funext y
  obtain ⟨i, z, r, l, hi, hu, h0, h1, h2⟩ := geo13 m hO t y
  refine (congrArg (val13 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) hu).trans (Eq.trans ?_ (congrArg (G13 m c) hi).symm)
  unfold val13 G13
  refine (outA_13_at ..).trans ?_
  rw [tok_eq m hO c t (i 0) h0 (i 1) r h1 d0 d1, wts_eq, h2]

/-- Where window 14's block lies: the rows inside the array. -/
theorem geo14 (t : Fin grid0.N) (y : (((cfgM m hO).win 14).xblock (grid0.coords t)).Idx) :
    ∃ (i : S2x12240x640.Idx) (z : Fin 1) (r : Fin 256) (l : Fin 640), (((cfgM m hO).win 14).blk t).view.emb y = i ∧ ((cfgM m hO).win 14).xinj (grid0.coords t) y = ix3 z r l ∧ (i 0).val = t.val / 48 ∧ (i 1).val = t.val % 48 * 256 + r.val ∧ i 2 = l := by
  have hu : ∃ u : S1x256x640.Idx, ((cfgM m hO).win 14).xinj (grid0.coords t) y = u := ⟨_, rfl⟩
  have hi : ∃ i : S2x12240x640.Idx, (((cfgM m hO).win 14).blk t).view.emb y = i := ⟨_, rfl⟩
  obtain ⟨u, hu⟩ := hu
  obtain ⟨i, hi⟩ := hi
  have hv : ∀ a : Fin 3, (i a).val = (![t.val / 48, t.val % 48, 0] : Fin 3 → Nat) a * (![1, 256, 640] : Fin 3 → Nat) a + 1 * (u a).val := by
    subst hu hi
    intro a
    exact congrArg (fun x : Fin 3 → Nat => x a * (![1, 256, 640] : Fin 3 → Nat) a + 1 * (y a).val) (idx14 m hO t)
  have h0 := hv 0
  have h1 := hv 1
  have h2 := hv 2
  clear hv
  idx_vars u
  replace h0 : (i 0).val = (t.val / 48) * 1 + 1 * u0.val := h0
  replace h1 : (i 1).val = (t.val % 48) * 256 + 1 * u1.val := h1
  replace h2 : (i 2).val = (0) * 640 + 1 * u2.val := h2
  refine ⟨i, u0, u1, u2, hi, hu, ?_, ?_, ?_⟩
  · omega
  · omega
  · exact Fin.ext (by omega)

theorem cut14 (t : Fin grid0.N) (d0 : ((cfgM m hO).win 0).block.Idx → Elt Ideal ((cfgM m hO).win 0).elt) (d1 : ((cfgM m hO).win 1).block.Idx → Elt Ideal ((cfgM m hO).win 1).elt) :
    ((cfgM m hO).win 14).cut (grid0.coords t) (val14 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
      = (((cfgM m hO).win 14).blk t).view.read (Elt Ideal) (G14 m c) := by
  funext y
  obtain ⟨i, z, r, l, hi, hu, h0, h1, h2⟩ := geo14 m hO t y
  refine (congrArg (val14 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) hu).trans (Eq.trans ?_ (congrArg (G14 m c) hi).symm)
  unfold val14 G14
  refine (outA_14_at ..).trans ?_
  rw [att_eq m hO c t (i 0) h0 (i 1) r h1 d1, h2]

/-- Where window 15's block lies: the rows inside the array. -/
theorem geo15 (t : Fin grid0.N) (y : (((cfgM m hO).win 15).xblock (grid0.coords t)).Idx) :
    ∃ (i : S2x5x12240x128.Idx) (z : Fin 1) (p : Fin 5) (r : Fin 256) (l : Fin 128), (((cfgM m hO).win 15).blk t).view.emb y = i ∧ ((cfgM m hO).win 15).xinj (grid0.coords t) y = ix4 z p r l ∧ (i 0).val = t.val / 48 ∧ i 1 = p ∧ (i 2).val = t.val % 48 * 256 + r.val ∧ i 3 = l := by
  have hu : ∃ u : S1x5x256x128.Idx, ((cfgM m hO).win 15).xinj (grid0.coords t) y = u := ⟨_, rfl⟩
  have hi : ∃ i : S2x5x12240x128.Idx, (((cfgM m hO).win 15).blk t).view.emb y = i := ⟨_, rfl⟩
  obtain ⟨u, hu⟩ := hu
  obtain ⟨i, hi⟩ := hi
  have hv : ∀ a : Fin 4, (i a).val = (![t.val / 48, 0, t.val % 48, 0] : Fin 4 → Nat) a * (![1, 5, 256, 128] : Fin 4 → Nat) a + 1 * (u a).val := by
    subst hu hi
    intro a
    exact congrArg (fun x : Fin 4 → Nat => x a * (![1, 5, 256, 128] : Fin 4 → Nat) a + 1 * (y a).val) (idx15 m hO t)
  have h0 := hv 0
  have h1 := hv 1
  have h2 := hv 2
  have h3 := hv 3
  clear hv
  idx_vars u
  replace h0 : (i 0).val = (t.val / 48) * 1 + 1 * u0.val := h0
  replace h1 : (i 1).val = (0) * 5 + 1 * u1.val := h1
  replace h2 : (i 2).val = (t.val % 48) * 256 + 1 * u2.val := h2
  replace h3 : (i 3).val = (0) * 128 + 1 * u3.val := h3
  refine ⟨i, u0, u1, u2, u3, hi, hu, ?_, ?_, ?_, ?_⟩
  · omega
  · exact Fin.ext (by omega)
  · omega
  · exact Fin.ext (by omega)

theorem cut15 (t : Fin grid0.N) (d0 : ((cfgM m hO).win 0).block.Idx → Elt Ideal ((cfgM m hO).win 0).elt) (d1 : ((cfgM m hO).win 1).block.Idx → Elt Ideal ((cfgM m hO).win 1).elt) :
    ((cfgM m hO).win 15).cut (grid0.coords t) (val15 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
      = (((cfgM m hO).win 15).blk t).view.read (Elt Ideal) (G15 m c) := by
  funext y
  obtain ⟨i, z, p, r, l, hi, hu, h0, h1, h2, h3⟩ := geo15 m hO t y
  refine (congrArg (val15 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) hu).trans (Eq.trans ?_ (congrArg (G15 m c) hi).symm)
  unfold val15 G15
  obtain rfl := h1
  obtain rfl := h3
  refine (outA_15_at (g := fun k q => m ((c : Thread nD τ).loc main_arg4) (ix4 (i 0) k q 0)) (scl := fun k q => b3 m hO c t (i 0) h0 k q 0) ..).trans ?_
  exact qk_eq m hO c t (i 0) h0 (i 2) r h2 ⟨(i 1).val, lt_trans (i 1).isLt (show (5 : Nat) < 10 by decide)⟩ (i 3)

/-- Where window 16's block lies: the rows inside the array. -/
theorem geo16 (t : Fin grid0.N) (y : (((cfgM m hO).win 16).xblock (grid0.coords t)).Idx) :
    ∃ (i : S2x5x12240x128.Idx) (z : Fin 1) (p : Fin 5) (r : Fin 256) (l : Fin 128), (((cfgM m hO).win 16).blk t).view.emb y = i ∧ ((cfgM m hO).win 16).xinj (grid0.coords t) y = ix4 z p r l ∧ (i 0).val = t.val / 48 ∧ i 1 = p ∧ (i 2).val = t.val % 48 * 256 + r.val ∧ i 3 = l := by
  have hu : ∃ u : S1x5x256x128.Idx, ((cfgM m hO).win 16).xinj (grid0.coords t) y = u := ⟨_, rfl⟩
  have hi : ∃ i : S2x5x12240x128.Idx, (((cfgM m hO).win 16).blk t).view.emb y = i := ⟨_, rfl⟩
  obtain ⟨u, hu⟩ := hu
  obtain ⟨i, hi⟩ := hi
  have hv : ∀ a : Fin 4, (i a).val = (![t.val / 48, 0, t.val % 48, 0] : Fin 4 → Nat) a * (![1, 5, 256, 128] : Fin 4 → Nat) a + 1 * (u a).val := by
    subst hu hi
    intro a
    exact congrArg (fun x : Fin 4 → Nat => x a * (![1, 5, 256, 128] : Fin 4 → Nat) a + 1 * (y a).val) (idx16 m hO t)
  have h0 := hv 0
  have h1 := hv 1
  have h2 := hv 2
  have h3 := hv 3
  clear hv
  idx_vars u
  replace h0 : (i 0).val = (t.val / 48) * 1 + 1 * u0.val := h0
  replace h1 : (i 1).val = (0) * 5 + 1 * u1.val := h1
  replace h2 : (i 2).val = (t.val % 48) * 256 + 1 * u2.val := h2
  replace h3 : (i 3).val = (0) * 128 + 1 * u3.val := h3
  refine ⟨i, u0, u1, u2, u3, hi, hu, ?_, ?_, ?_, ?_⟩
  · omega
  · exact Fin.ext (by omega)
  · omega
  · exact Fin.ext (by omega)

theorem cut16 (t : Fin grid0.N) (d0 : ((cfgM m hO).win 0).block.Idx → Elt Ideal ((cfgM m hO).win 0).elt) (d1 : ((cfgM m hO).win 1).block.Idx → Elt Ideal ((cfgM m hO).win 1).elt) :
    ((cfgM m hO).win 16).cut (grid0.coords t) (val16 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
      = (((cfgM m hO).win 16).blk t).view.read (Elt Ideal) (G16 m c) := by
  funext y
  obtain ⟨i, z, p, r, l, hi, hu, h0, h1, h2, h3⟩ := geo16 m hO t y
  refine (congrArg (val16 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) hu).trans (Eq.trans ?_ (congrArg (G16 m c) hi).symm)
  unfold val16 G16
  obtain rfl := h1
  obtain rfl := h3
  refine (outA_16_at (g := fun k q => m ((c : Thread nD τ).loc main_arg4) (ix4 (i 0) k q 0)) (scl := fun k q => b3 m hO c t (i 0) h0 k q 0) ..).trans ?_
  exact qk_eq m hO c t (i 0) h0 (i 2) r h2 ⟨5 + (i 1).val, Nat.add_lt_add_left (i 1).isLt 5⟩ (i 3)

/-- Where window 17's block lies: the rows inside the array. -/
theorem geo17 (t : Fin grid0.N) (y : (((cfgM m hO).win 17).xblock (grid0.coords t)).Idx) :
    ∃ (i : S2x12240x640.Idx) (z : Fin 1) (r : Fin 256) (l : Fin 640), (((cfgM m hO).win 17).blk t).view.emb y = i ∧ ((cfgM m hO).win 17).xinj (grid0.coords t) y = ix3 z r l ∧ (i 0).val = t.val / 48 ∧ (i 1).val = t.val % 48 * 256 + r.val ∧ i 2 = l := by
  have hu : ∃ u : S1x256x640.Idx, ((cfgM m hO).win 17).xinj (grid0.coords t) y = u := ⟨_, rfl⟩
  have hi : ∃ i : S2x12240x640.Idx, (((cfgM m hO).win 17).blk t).view.emb y = i := ⟨_, rfl⟩
  obtain ⟨u, hu⟩ := hu
  obtain ⟨i, hi⟩ := hi
  have hv : ∀ a : Fin 3, (i a).val = (![t.val / 48, t.val % 48, 0] : Fin 3 → Nat) a * (![1, 256, 640] : Fin 3 → Nat) a + 1 * (u a).val := by
    subst hu hi
    intro a
    exact congrArg (fun x : Fin 3 → Nat => x a * (![1, 256, 640] : Fin 3 → Nat) a + 1 * (y a).val) (idx17 m hO t)
  have h0 := hv 0
  have h1 := hv 1
  have h2 := hv 2
  clear hv
  idx_vars u
  replace h0 : (i 0).val = (t.val / 48) * 1 + 1 * u0.val := h0
  replace h1 : (i 1).val = (t.val % 48) * 256 + 1 * u1.val := h1
  replace h2 : (i 2).val = (0) * 640 + 1 * u2.val := h2
  refine ⟨i, u0, u1, u2, hi, hu, ?_, ?_, ?_⟩
  · omega
  · omega
  · exact Fin.ext (by omega)

theorem cut17 (t : Fin grid0.N) (d0 : ((cfgM m hO).win 0).block.Idx → Elt Ideal ((cfgM m hO).win 0).elt) (d1 : ((cfgM m hO).win 1).block.Idx → Elt Ideal ((cfgM m hO).win 1).elt) :
    ((cfgM m hO).win 17).cut (grid0.coords t) (val17 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
      = (((cfgM m hO).win 17).blk t).view.read (Elt Ideal) (G17 m c) := by
  funext y
  obtain ⟨i, z, r, l, hi, hu, h0, h1, h2⟩ := geo17 m hO t y
  refine (congrArg (val17 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) hu).trans (Eq.trans ?_ (congrArg (G17 m c) hi).symm)
  unfold val17 G17
  refine (outA_17_at ..).trans ?_
  rw [att_eq m hO c t (i 0) h0 (i 1) r h1 d1, h2]

/-- Where window 18's block lies: the rows inside the array. -/
theorem geo18 (t : Fin grid0.N) (y : (((cfgM m hO).win 18).xblock (grid0.coords t)).Idx) :
    ∃ (i : S2x1x12240.Idx) (z : Fin 1) (j : Fin 1) (r : Fin 256), (((cfgM m hO).win 18).blk t).view.emb y = i ∧ ((cfgM m hO).win 18).xinj (grid0.coords t) y = ix3 z j r ∧ (i 0).val = t.val / 48 ∧ i 1 = j ∧ (i 2).val = t.val % 48 * 256 + r.val := by
  have hu : ∃ u : S1x1x256.Idx, ((cfgM m hO).win 18).xinj (grid0.coords t) y = u := ⟨_, rfl⟩
  have hi : ∃ i : S2x1x12240.Idx, (((cfgM m hO).win 18).blk t).view.emb y = i := ⟨_, rfl⟩
  obtain ⟨u, hu⟩ := hu
  obtain ⟨i, hi⟩ := hi
  have hv : ∀ a : Fin 3, (i a).val = (![t.val / 48, 0, t.val % 48] : Fin 3 → Nat) a * (![1, 1, 256] : Fin 3 → Nat) a + 1 * (u a).val := by
    subst hu hi
    intro a
    exact congrArg (fun x : Fin 3 → Nat => x a * (![1, 1, 256] : Fin 3 → Nat) a + 1 * (y a).val) (idx18 m hO t)
  have h0 := hv 0
  have h1 := hv 1
  have h2 := hv 2
  clear hv
  idx_vars u
  replace h0 : (i 0).val = (t.val / 48) * 1 + 1 * u0.val := h0
  replace h1 : (i 1).val = (0) * 1 + 1 * u1.val := h1
  replace h2 : (i 2).val = (t.val % 48) * 256 + 1 * u2.val := h2
  refine ⟨i, u0, u1, u2, hi, hu, ?_, ?_, ?_⟩
  · omega
  · exact Fin.ext (by omega)
  · omega

theorem cut18 (t : Fin grid0.N) (d0 : ((cfgM m hO).win 0).block.Idx → Elt Ideal ((cfgM m hO).win 0).elt) (d1 : ((cfgM m hO).win 1).block.Idx → Elt Ideal ((cfgM m hO).win 1).elt) :
    ((cfgM m hO).win 18).cut (grid0.coords t) (val18 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
      = (((cfgM m hO).win 18).blk t).view.read (Elt Ideal) (G18 m c) := by
  funext y
  obtain ⟨i, z, j, r, hi, hu, h0, h1, h2⟩ := geo18 m hO t y
  refine (congrArg (val18 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) hu).trans (Eq.trans ?_ (congrArg (G18 m c) hi).symm)
  unfold val18 G18
  refine (outA_18_at ..).trans ?_
  rw [att_eq m hO c t (i 0) h0 (i 2) r h2 d1]

/-- Where window 19's block lies: the rows inside the array. -/
theorem geo19 (t : Fin grid0.N) (y : (((cfgM m hO).win 19).xblock (grid0.coords t)).Idx) :
    ∃ (i : S2x12240x2560.Idx) (z : Fin 1) (r : Fin 256) (l : Fin 2560), (((cfgM m hO).win 19).blk t).view.emb y = i ∧ ((cfgM m hO).win 19).xinj (grid0.coords t) y = ix3 z r l ∧ (i 0).val = t.val / 48 ∧ (i 1).val = t.val % 48 * 256 + r.val ∧ i 2 = l := by
  have hu : ∃ u : S1x256x2560.Idx, ((cfgM m hO).win 19).xinj (grid0.coords t) y = u := ⟨_, rfl⟩
  have hi : ∃ i : S2x12240x2560.Idx, (((cfgM m hO).win 19).blk t).view.emb y = i := ⟨_, rfl⟩
  obtain ⟨u, hu⟩ := hu
  obtain ⟨i, hi⟩ := hi
  have hv : ∀ a : Fin 3, (i a).val = (![t.val / 48, t.val % 48, 0] : Fin 3 → Nat) a * (![1, 256, 2560] : Fin 3 → Nat) a + 1 * (u a).val := by
    subst hu hi
    intro a
    exact congrArg (fun x : Fin 3 → Nat => x a * (![1, 256, 2560] : Fin 3 → Nat) a + 1 * (y a).val) (idx19 m hO t)
  have h0 := hv 0
  have h1 := hv 1
  have h2 := hv 2
  clear hv
  idx_vars u
  replace h0 : (i 0).val = (t.val / 48) * 1 + 1 * u0.val := h0
  replace h1 : (i 1).val = (t.val % 48) * 256 + 1 * u1.val := h1
  replace h2 : (i 2).val = (0) * 2560 + 1 * u2.val := h2
  refine ⟨i, u0, u1, u2, hi, hu, ?_, ?_, ?_⟩
  · omega
  · omega
  · exact Fin.ext (by omega)

theorem cut19 (t : Fin grid0.N) (d0 : ((cfgM m hO).win 0).block.Idx → Elt Ideal ((cfgM m hO).win 0).elt) (d1 : ((cfgM m hO).win 1).block.Idx → Elt Ideal ((cfgM m hO).win 1).elt) :
    ((cfgM m hO).win 19).cut (grid0.coords t) (val19 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
      = (((cfgM m hO).win 19).blk t).view.read (Elt Ideal) (G19 m c) := by
  funext y
  obtain ⟨i, z, r, l, hi, hu, h0, h1, h2⟩ := geo19 m hO t y
  refine (congrArg (val19 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) hu).trans (Eq.trans ?_ (congrArg (G19 m c) hi).symm)
  unfold val19 G19
  refine (outA_19_at ..).trans ?_
  rw [tok_eq m hO c t (i 0) h0 (i 1) r h1 d0 d1, wts_eq, h2]

/-- Where window 20's block lies: the rows inside the array. -/
theorem geo20 (t : Fin grid0.N) (y : (((cfgM m hO).win 20).xblock (grid0.coords t)).Idx) :
    ∃ (i : S2x1x12240.Idx) (z : Fin 1) (j : Fin 1) (r : Fin 256), (((cfgM m hO).win 20).blk t).view.emb y = i ∧ ((cfgM m hO).win 20).xinj (grid0.coords t) y = ix3 z j r ∧ (i 0).val = t.val / 48 ∧ i 1 = j ∧ (i 2).val = t.val % 48 * 256 + r.val := by
  have hu : ∃ u : S1x1x256.Idx, ((cfgM m hO).win 20).xinj (grid0.coords t) y = u := ⟨_, rfl⟩
  have hi : ∃ i : S2x1x12240.Idx, (((cfgM m hO).win 20).blk t).view.emb y = i := ⟨_, rfl⟩
  obtain ⟨u, hu⟩ := hu
  obtain ⟨i, hi⟩ := hi
  have hv : ∀ a : Fin 3, (i a).val = (![t.val / 48, 0, t.val % 48] : Fin 3 → Nat) a * (![1, 1, 256] : Fin 3 → Nat) a + 1 * (u a).val := by
    subst hu hi
    intro a
    exact congrArg (fun x : Fin 3 → Nat => x a * (![1, 1, 256] : Fin 3 → Nat) a + 1 * (y a).val) (idx20 m hO t)
  have h0 := hv 0
  have h1 := hv 1
  have h2 := hv 2
  clear hv
  idx_vars u
  replace h0 : (i 0).val = (t.val / 48) * 1 + 1 * u0.val := h0
  replace h1 : (i 1).val = (0) * 1 + 1 * u1.val := h1
  replace h2 : (i 2).val = (t.val % 48) * 256 + 1 * u2.val := h2
  refine ⟨i, u0, u1, u2, hi, hu, ?_, ?_, ?_⟩
  · omega
  · exact Fin.ext (by omega)
  · omega

theorem cut20 (t : Fin grid0.N) (d0 : ((cfgM m hO).win 0).block.Idx → Elt Ideal ((cfgM m hO).win 0).elt) (d1 : ((cfgM m hO).win 1).block.Idx → Elt Ideal ((cfgM m hO).win 1).elt) :
    ((cfgM m hO).win 20).cut (grid0.coords t) (val20 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
      = (((cfgM m hO).win 20).blk t).view.read (Elt Ideal) (G20 m c) := by
  funext y
  obtain ⟨i, z, j, r, hi, hu, h0, h1, h2⟩ := geo20 m hO t y
  refine (congrArg (val20 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) hu).trans (Eq.trans ?_ (congrArg (G20 m c) hi).symm)
  unfold val20 G20
  refine (outA_20_at ..).trans ?_
  rw [tok_eq m hO c t (i 0) h0 (i 2) r h2 d0 d1, wts_eq]

/-- Where window 21's block lies: the rows inside the array. -/
theorem geo21 (t : Fin grid0.N) (y : (((cfgM m hO).win 21).xblock (grid0.coords t)).Idx) :
    ∃ (i : S2x1728x12240.Idx) (z : Fin 1) (j : Fin 1728) (r : Fin 256), (((cfgM m hO).win 21).blk t).view.emb y = i ∧ ((cfgM m hO).win 21).xinj (grid0.coords t) y = ix3 z j r ∧ (i 0).val = t.val / 48 ∧ i 1 = j ∧ (i 2).val = t.val % 48 * 256 + r.val := by
  have hu : ∃ u : S1x1728x256.Idx, ((cfgM m hO).win 21).xinj (grid0.coords t) y = u := ⟨_, rfl⟩
  have hi : ∃ i : S2x1728x12240.Idx, (((cfgM m hO).win 21).blk t).view.emb y = i := ⟨_, rfl⟩
  obtain ⟨u, hu⟩ := hu
  obtain ⟨i, hi⟩ := hi
  have hv : ∀ a : Fin 3, (i a).val = (![t.val / 48, 0, t.val % 48] : Fin 3 → Nat) a * (![1, 1728, 256] : Fin 3 → Nat) a + 1 * (u a).val := by
    subst hu hi
    intro a
    exact congrArg (fun x : Fin 3 → Nat => x a * (![1, 1728, 256] : Fin 3 → Nat) a + 1 * (y a).val) (idx21 m hO t)
  have h0 := hv 0
  have h1 := hv 1
  have h2 := hv 2
  clear hv
  idx_vars u
  replace h0 : (i 0).val = (t.val / 48) * 1 + 1 * u0.val := h0
  replace h1 : (i 1).val = (0) * 1728 + 1 * u1.val := h1
  replace h2 : (i 2).val = (t.val % 48) * 256 + 1 * u2.val := h2
  refine ⟨i, u0, u1, u2, hi, hu, ?_, ?_, ?_⟩
  · omega
  · exact Fin.ext (by omega)
  · omega

theorem cut21 (t : Fin grid0.N) (d0 : ((cfgM m hO).win 0).block.Idx → Elt Ideal ((cfgM m hO).win 0).elt) (d1 : ((cfgM m hO).win 1).block.Idx → Elt Ideal ((cfgM m hO).win 1).elt) :
    ((cfgM m hO).win 21).cut (grid0.coords t) (val21 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
      = (((cfgM m hO).win 21).blk t).view.read (Elt Ideal) (G21 m c) := by
  funext y
  obtain ⟨i, z, j, r, hi, hu, h0, h1, h2⟩ := geo21 m hO t y
  refine (congrArg (val21 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) hu).trans (Eq.trans ?_ (congrArg (G21 m c) hi).symm)
  unfold val21 G21
  refine (outA_21_at ..).trans ?_
  rw [tok_eq m hO c t (i 0) h0 (i 2) r h2 d0 d1, wts_eq, h1]

/-- Where window 22's block lies: the rows inside the array. -/
theorem geo22 (t : Fin grid0.N) (y : (((cfgM m hO).win 22).xblock (grid0.coords t)).Idx) :
    ∃ (i : S2x1x12240.Idx) (z : Fin 1) (j : Fin 1) (r : Fin 256), (((cfgM m hO).win 22).blk t).view.emb y = i ∧ ((cfgM m hO).win 22).xinj (grid0.coords t) y = ix3 z j r ∧ (i 0).val = t.val / 48 ∧ i 1 = j ∧ (i 2).val = t.val % 48 * 256 + r.val := by
  have hu : ∃ u : S1x1x256.Idx, ((cfgM m hO).win 22).xinj (grid0.coords t) y = u := ⟨_, rfl⟩
  have hi : ∃ i : S2x1x12240.Idx, (((cfgM m hO).win 22).blk t).view.emb y = i := ⟨_, rfl⟩
  obtain ⟨u, hu⟩ := hu
  obtain ⟨i, hi⟩ := hi
  have hv : ∀ a : Fin 3, (i a).val = (![t.val / 48, 0, t.val % 48] : Fin 3 → Nat) a * (![1, 1, 256] : Fin 3 → Nat) a + 1 * (u a).val := by
    subst hu hi
    intro a
    exact congrArg (fun x : Fin 3 → Nat => x a * (![1, 1, 256] : Fin 3 → Nat) a + 1 * (y a).val) (idx22 m hO t)
  have h0 := hv 0
  have h1 := hv 1
  have h2 := hv 2
  clear hv
  idx_vars u
  replace h0 : (i 0).val = (t.val / 48) * 1 + 1 * u0.val := h0
  replace h1 : (i 1).val = (0) * 1 + 1 * u1.val := h1
  replace h2 : (i 2).val = (t.val % 48) * 256 + 1 * u2.val := h2
  refine ⟨i, u0, u1, u2, hi, hu, ?_, ?_, ?_⟩
  · omega
  · exact Fin.ext (by omega)
  · omega

theorem cut22 (t : Fin grid0.N) (d0 : ((cfgM m hO).win 0).block.Idx → Elt Ideal ((cfgM m hO).win 0).elt) (d1 : ((cfgM m hO).win 1).block.Idx → Elt Ideal ((cfgM m hO).win 1).elt) :
    ((cfgM m hO).win 22).cut (grid0.coords t) (val22 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
      = (((cfgM m hO).win 22).blk t).view.read (Elt Ideal) (G22 m c) := by
  funext y
  obtain ⟨i, z, j, r, hi, hu, h0, h1, h2⟩ := geo22 m hO t y
  refine (congrArg (val22 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) hu).trans (Eq.trans ?_ (congrArg (G22 m c) hi).symm)
  unfold val22 G22
  refine (outA_22_at ..).trans ?_
  rw [tok_eq m hO c t (i 0) h0 (i 2) r h2 d0 d1, wts_eq]

end Cert.MlpIdeal.Vals
-- ==== Proof.MlpIdeal.Obl.lean ====
/-
  The run of the video kernel with the values of its results: at every grid point each output window holds, on the rows
  inside the array, the results' part there (Proof/MlpIdeal/Cut.lean).
-/
module

public import proofs.«01_k».proof.Proof.MlpIdeal.Frame
public import proofs.«01_k».proof.Proof.MlpIdeal.Cut
public import Idealize.ShloMosaic.Lib.Pipeline.Frame
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MlpIdeal.Vals

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The proof data of the pipeline on core `c`: the arrays as the call finds them; each input's buffer at its block (for
    the two inputs whose last block runs past the array's end, on the rows inside the array); each output's at the result. -/
def dats (hO : Ok m) (_ : Fin 1) (c : Dev nD) : Dat τ (Elt Ideal) Unit ℕ (UR sig nD τ) ℕ (cfgM m hO) c where
  A w := V m c (Pipeline.arrRef spec0 w)
  after w t := match w with
    | ⟨0, h⟩ => ((cfgM m hO).win 0).fill (grid0.coords t) (Pipeline.Dat.unnamed (cfg := (cfgM m hO)) ⟨0, h⟩ t) (iblk m hO c 0 t)
    | ⟨1, h⟩ => ((cfgM m hO).win 1).fill (grid0.coords t) (Pipeline.Dat.unnamed (cfg := (cfgM m hO)) ⟨1, h⟩ t) (iblk m hO c 1 t)
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, h⟩ => ((cfgM m hO).win 13).fill (grid0.coords t) (Pipeline.Dat.unnamed (cfg := (cfgM m hO)) ⟨13, h⟩ t) ((((cfgM m hO).win 13).blk t).view.read (Elt Ideal) (G13 m c))
    | ⟨14, h⟩ => ((cfgM m hO).win 14).fill (grid0.coords t) (Pipeline.Dat.unnamed (cfg := (cfgM m hO)) ⟨14, h⟩ t) ((((cfgM m hO).win 14).blk t).view.read (Elt Ideal) (G14 m c))
    | ⟨15, h⟩ => ((cfgM m hO).win 15).fill (grid0.coords t) (Pipeline.Dat.unnamed (cfg := (cfgM m hO)) ⟨15, h⟩ t) ((((cfgM m hO).win 15).blk t).view.read (Elt Ideal) (G15 m c))
    | ⟨16, h⟩ => ((cfgM m hO).win 16).fill (grid0.coords t) (Pipeline.Dat.unnamed (cfg := (cfgM m hO)) ⟨16, h⟩ t) ((((cfgM m hO).win 16).blk t).view.read (Elt Ideal) (G16 m c))
    | ⟨17, h⟩ => ((cfgM m hO).win 17).fill (grid0.coords t) (Pipeline.Dat.unnamed (cfg := (cfgM m hO)) ⟨17, h⟩ t) ((((cfgM m hO).win 17).blk t).view.read (Elt Ideal) (G17 m c))
    | ⟨18, h⟩ => ((cfgM m hO).win 18).fill (grid0.coords t) (Pipeline.Dat.unnamed (cfg := (cfgM m hO)) ⟨18, h⟩ t) ((((cfgM m hO).win 18).blk t).view.read (Elt Ideal) (G18 m c))
    | ⟨19, h⟩ => ((cfgM m hO).win 19).fill (grid0.coords t) (Pipeline.Dat.unnamed (cfg := (cfgM m hO)) ⟨19, h⟩ t) ((((cfgM m hO).win 19).blk t).view.read (Elt Ideal) (G19 m c))
    | ⟨20, h⟩ => ((cfgM m hO).win 20).fill (grid0.coords t) (Pipeline.Dat.unnamed (cfg := (cfgM m hO)) ⟨20, h⟩ t) ((((cfgM m hO).win 20).blk t).view.read (Elt Ideal) (G20 m c))
    | ⟨21, h⟩ => ((cfgM m hO).win 21).fill (grid0.coords t) (Pipeline.Dat.unnamed (cfg := (cfgM m hO)) ⟨21, h⟩ t) ((((cfgM m hO).win 21).blk t).view.read (Elt Ideal) (G21 m c))
    | ⟨22, h⟩ => ((cfgM m hO).win 22).fill (grid0.coords t) (Pipeline.Dat.unnamed (cfg := (cfgM m hO)) ⟨22, h⟩ t) ((((cfgM m hO).win 22).blk t).view.read (Elt Ideal) (G22 m c))
    | ⟨_ + 23, h⟩ => absurd h (Nat.not_lt.2 (Nat.le_add_left _ _))
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem cut0_0 (hO : Ok m) (c : Dev nD) (t : Fin (cfgM m hO).N) :
    ((cfgM m hO).win 0).cut (grid0.coords t) ((dats m hO 0 c).after 0 t) = iblk m hO c 0 t := Pipeline.Window.cut_fill _ _ _ _
theorem before0_0 (hO : Ok m) (c : Dev nD) (t : Fin (cfgM m hO).N) (d) :
    (dats m hO 0 c).before 0 t d = ((cfgM m hO).win 0).fill (grid0.coords t) d (iblk m hO c 0 t) := by
  unfold Dat.before; rw [if_pos (fetch0_0 _ t)]; rfl
theorem cut0_1 (hO : Ok m) (c : Dev nD) (t : Fin (cfgM m hO).N) :
    ((cfgM m hO).win 1).cut (grid0.coords t) ((dats m hO 0 c).after 1 t) = iblk m hO c 1 t := Pipeline.Window.cut_fill _ _ _ _
theorem before0_1 (hO : Ok m) (c : Dev nD) (t : Fin (cfgM m hO).N) (d) :
    (dats m hO 0 c).before 1 t d = ((cfgM m hO).win 1).fill (grid0.coords t) d (iblk m hO c 1 t) := by
  unfold Dat.before; rw [if_pos (fetch0_1 _ t)]; rfl
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem after0_6 (hO : Ok m) (c : Dev nD) (t : Fin (cfgM m hO).N) : (dats m hO 0 c).after 6 t = iblk m hO c 6 t := by dsimp only [dats]; try rfl
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem after0_7 (hO : Ok m) (c : Dev nD) (t : Fin (cfgM m hO).N) : (dats m hO 0 c).after 7 t = iblk m hO c 7 t := by dsimp only [dats]; try rfl
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem after0_8 (hO : Ok m) (c : Dev nD) (t : Fin (cfgM m hO).N) : (dats m hO 0 c).after 8 t = iblk m hO c 8 t := by dsimp only [dats]; try rfl
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem after0_9 (hO : Ok m) (c : Dev nD) (t : Fin (cfgM m hO).N) : (dats m hO 0 c).after 9 t = iblk m hO c 9 t := by dsimp only [dats]; try rfl
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem after0_10 (hO : Ok m) (c : Dev nD) (t : Fin (cfgM m hO).N) : (dats m hO 0 c).after 10 t = iblk m hO c 10 t := by dsimp only [dats]; try rfl
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem after0_11 (hO : Ok m) (c : Dev nD) (t : Fin (cfgM m hO).N) : (dats m hO 0 c).after 11 t = iblk m hO c 11 t := by dsimp only [dats]; try rfl
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem after0_12 (hO : Ok m) (c : Dev nD) (t : Fin (cfgM m hO).N) : (dats m hO 0 c).after 12 t = iblk m hO c 12 t := by dsimp only [dats]; try rfl
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d

theorem cut0_13 (hO : Ok m) (c : Dev nD) (t : Fin (cfgM m hO).N) :
    ((cfgM m hO).win 13).cut (grid0.coords t) ((dats m hO 0 c).after 13 t) = (((cfgM m hO).win 13).blk t).view.read (Elt Ideal) (G13 m c) := Pipeline.Window.cut_fill _ _ _ _
theorem cut0_14 (hO : Ok m) (c : Dev nD) (t : Fin (cfgM m hO).N) :
    ((cfgM m hO).win 14).cut (grid0.coords t) ((dats m hO 0 c).after 14 t) = (((cfgM m hO).win 14).blk t).view.read (Elt Ideal) (G14 m c) := Pipeline.Window.cut_fill _ _ _ _
theorem cut0_15 (hO : Ok m) (c : Dev nD) (t : Fin (cfgM m hO).N) :
    ((cfgM m hO).win 15).cut (grid0.coords t) ((dats m hO 0 c).after 15 t) = (((cfgM m hO).win 15).blk t).view.read (Elt Ideal) (G15 m c) := Pipeline.Window.cut_fill _ _ _ _
theorem cut0_16 (hO : Ok m) (c : Dev nD) (t : Fin (cfgM m hO).N) :
    ((cfgM m hO).win 16).cut (grid0.coords t) ((dats m hO 0 c).after 16 t) = (((cfgM m hO).win 16).blk t).view.read (Elt Ideal) (G16 m c) := Pipeline.Window.cut_fill _ _ _ _
theorem cut0_17 (hO : Ok m) (c : Dev nD) (t : Fin (cfgM m hO).N) :
    ((cfgM m hO).win 17).cut (grid0.coords t) ((dats m hO 0 c).after 17 t) = (((cfgM m hO).win 17).blk t).view.read (Elt Ideal) (G17 m c) := Pipeline.Window.cut_fill _ _ _ _
theorem cut0_18 (hO : Ok m) (c : Dev nD) (t : Fin (cfgM m hO).N) :
    ((cfgM m hO).win 18).cut (grid0.coords t) ((dats m hO 0 c).after 18 t) = (((cfgM m hO).win 18).blk t).view.read (Elt Ideal) (G18 m c) := Pipeline.Window.cut_fill _ _ _ _
theorem cut0_19 (hO : Ok m) (c : Dev nD) (t : Fin (cfgM m hO).N) :
    ((cfgM m hO).win 19).cut (grid0.coords t) ((dats m hO 0 c).after 19 t) = (((cfgM m hO).win 19).blk t).view.read (Elt Ideal) (G19 m c) := Pipeline.Window.cut_fill _ _ _ _
theorem cut0_20 (hO : Ok m) (c : Dev nD) (t : Fin (cfgM m hO).N) :
    ((cfgM m hO).win 20).cut (grid0.coords t) ((dats m hO 0 c).after 20 t) = (((cfgM m hO).win 20).blk t).view.read (Elt Ideal) (G20 m c) := Pipeline.Window.cut_fill _ _ _ _
theorem cut0_21 (hO : Ok m) (c : Dev nD) (t : Fin (cfgM m hO).N) :
    ((cfgM m hO).win 21).cut (grid0.coords t) ((dats m hO 0 c).after 21 t) = (((cfgM m hO).win 21).blk t).view.read (Elt Ideal) (G21 m c) := Pipeline.Window.cut_fill _ _ _ _
theorem cut0_22 (hO : Ok m) (c : Dev nD) (t : Fin (cfgM m hO).N) :
    ((cfgM m hO).win 22).cut (grid0.coords t) ((dats m hO 0 c).after 22 t) = (((cfgM m hO).win 22).blk t).view.read (Elt Ideal) (G22 m c) := Pipeline.Window.cut_fill _ _ _ _

set_option backward.isDefEq.respectTransparency false in
theorem holds13 (hO : Ok m) (c : Dev nD) (t : Fin (cfgM m hO).N) (d0 : ((cfgM m hO).win 0).block.Idx → Elt Ideal ((cfgM m hO).win 0).elt) (d1 : ((cfgM m hO).win 1).block.Idx → Elt Ideal ((cfgM m hO).win 1).elt) :
    (owns (c : Thread nD τ) (ms0_13 m hO t) fullShare (val13 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) : sProp 𝕄)
      ⊢ iprop(∃ d, owns (c : Thread nD τ) (ms0_13 m hO t) fullShare (((cfgM m hO).win 13).fill (grid0.coords t) d ((((cfgM m hO).win 13).blk t).view.read (Elt Ideal) (G13 m c)))) := by
  have e := cut13 m hO c t d0 d1
  generalize val13 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) = Z at e ⊢
  rw [← e]
  iintro H
  iexists Z
  rw [Pipeline.Window.fill_cut]
  iexact H

set_option backward.isDefEq.respectTransparency false in
theorem holds14 (hO : Ok m) (c : Dev nD) (t : Fin (cfgM m hO).N) (d0 : ((cfgM m hO).win 0).block.Idx → Elt Ideal ((cfgM m hO).win 0).elt) (d1 : ((cfgM m hO).win 1).block.Idx → Elt Ideal ((cfgM m hO).win 1).elt) :
    (owns (c : Thread nD τ) (ms0_14 m hO t) fullShare (val14 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) : sProp 𝕄)
      ⊢ iprop(∃ d, owns (c : Thread nD τ) (ms0_14 m hO t) fullShare (((cfgM m hO).win 14).fill (grid0.coords t) d ((((cfgM m hO).win 14).blk t).view.read (Elt Ideal) (G14 m c)))) := by
  have e := cut14 m hO c t d0 d1
  generalize val14 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) = Z at e ⊢
  rw [← e]
  iintro H
  iexists Z
  rw [Pipeline.Window.fill_cut]
  iexact H

set_option backward.isDefEq.respectTransparency false in
theorem holds15 (hO : Ok m) (c : Dev nD) (t : Fin (cfgM m hO).N) (d0 : ((cfgM m hO).win 0).block.Idx → Elt Ideal ((cfgM m hO).win 0).elt) (d1 : ((cfgM m hO).win 1).block.Idx → Elt Ideal ((cfgM m hO).win 1).elt) :
    (owns (c : Thread nD τ) (ms0_15 m hO t) fullShare (val15 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) : sProp 𝕄)
      ⊢ iprop(∃ d, owns (c : Thread nD τ) (ms0_15 m hO t) fullShare (((cfgM m hO).win 15).fill (grid0.coords t) d ((((cfgM m hO).win 15).blk t).view.read (Elt Ideal) (G15 m c)))) := by
  have e := cut15 m hO c t d0 d1
  generalize val15 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) = Z at e ⊢
  rw [← e]
  iintro H
  iexists Z
  rw [Pipeline.Window.fill_cut]
  iexact H

set_option backward.isDefEq.respectTransparency false in
theorem holds16 (hO : Ok m) (c : Dev nD) (t : Fin (cfgM m hO).N) (d0 : ((cfgM m hO).win 0).block.Idx → Elt Ideal ((cfgM m hO).win 0).elt) (d1 : ((cfgM m hO).win 1).block.Idx → Elt Ideal ((cfgM m hO).win 1).elt) :
    (owns (c : Thread nD τ) (ms0_16 m hO t) fullShare (val16 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) : sProp 𝕄)
      ⊢ iprop(∃ d, owns (c : Thread nD τ) (ms0_16 m hO t) fullShare (((cfgM m hO).win 16).fill (grid0.coords t) d ((((cfgM m hO).win 16).blk t).view.read (Elt Ideal) (G16 m c)))) := by
  have e := cut16 m hO c t d0 d1
  generalize val16 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) = Z at e ⊢
  rw [← e]
  iintro H
  iexists Z
  rw [Pipeline.Window.fill_cut]
  iexact H

set_option backward.isDefEq.respectTransparency false in
theorem holds17 (hO : Ok m) (c : Dev nD) (t : Fin (cfgM m hO).N) (d0 : ((cfgM m hO).win 0).block.Idx → Elt Ideal ((cfgM m hO).win 0).elt) (d1 : ((cfgM m hO).win 1).block.Idx → Elt Ideal ((cfgM m hO).win 1).elt) :
    (owns (c : Thread nD τ) (ms0_17 m hO t) fullShare (val17 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) : sProp 𝕄)
      ⊢ iprop(∃ d, owns (c : Thread nD τ) (ms0_17 m hO t) fullShare (((cfgM m hO).win 17).fill (grid0.coords t) d ((((cfgM m hO).win 17).blk t).view.read (Elt Ideal) (G17 m c)))) := by
  have e := cut17 m hO c t d0 d1
  generalize val17 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) = Z at e ⊢
  rw [← e]
  iintro H
  iexists Z
  rw [Pipeline.Window.fill_cut]
  iexact H

set_option backward.isDefEq.respectTransparency false in
theorem holds18 (hO : Ok m) (c : Dev nD) (t : Fin (cfgM m hO).N) (d0 : ((cfgM m hO).win 0).block.Idx → Elt Ideal ((cfgM m hO).win 0).elt) (d1 : ((cfgM m hO).win 1).block.Idx → Elt Ideal ((cfgM m hO).win 1).elt) :
    (owns (c : Thread nD τ) (ms0_18 m hO t) fullShare (val18 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) : sProp 𝕄)
      ⊢ iprop(∃ d, owns (c : Thread nD τ) (ms0_18 m hO t) fullShare (((cfgM m hO).win 18).fill (grid0.coords t) d ((((cfgM m hO).win 18).blk t).view.read (Elt Ideal) (G18 m c)))) := by
  have e := cut18 m hO c t d0 d1
  generalize val18 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) = Z at e ⊢
  rw [← e]
  iintro H
  iexists Z
  rw [Pipeline.Window.fill_cut]
  iexact H

set_option backward.isDefEq.respectTransparency false in
theorem holds19 (hO : Ok m) (c : Dev nD) (t : Fin (cfgM m hO).N) (d0 : ((cfgM m hO).win 0).block.Idx → Elt Ideal ((cfgM m hO).win 0).elt) (d1 : ((cfgM m hO).win 1).block.Idx → Elt Ideal ((cfgM m hO).win 1).elt) :
    (owns (c : Thread nD τ) (ms0_19 m hO t) fullShare (val19 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) : sProp 𝕄)
      ⊢ iprop(∃ d, owns (c : Thread nD τ) (ms0_19 m hO t) fullShare (((cfgM m hO).win 19).fill (grid0.coords t) d ((((cfgM m hO).win 19).blk t).view.read (Elt Ideal) (G19 m c)))) := by
  have e := cut19 m hO c t d0 d1
  generalize val19 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) = Z at e ⊢
  rw [← e]
  iintro H
  iexists Z
  rw [Pipeline.Window.fill_cut]
  iexact H

set_option backward.isDefEq.respectTransparency false in
theorem holds20 (hO : Ok m) (c : Dev nD) (t : Fin (cfgM m hO).N) (d0 : ((cfgM m hO).win 0).block.Idx → Elt Ideal ((cfgM m hO).win 0).elt) (d1 : ((cfgM m hO).win 1).block.Idx → Elt Ideal ((cfgM m hO).win 1).elt) :
    (owns (c : Thread nD τ) (ms0_20 m hO t) fullShare (val20 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) : sProp 𝕄)
      ⊢ iprop(∃ d, owns (c : Thread nD τ) (ms0_20 m hO t) fullShare (((cfgM m hO).win 20).fill (grid0.coords t) d ((((cfgM m hO).win 20).blk t).view.read (Elt Ideal) (G20 m c)))) := by
  have e := cut20 m hO c t d0 d1
  generalize val20 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) = Z at e ⊢
  rw [← e]
  iintro H
  iexists Z
  rw [Pipeline.Window.fill_cut]
  iexact H

set_option backward.isDefEq.respectTransparency false in
theorem holds21 (hO : Ok m) (c : Dev nD) (t : Fin (cfgM m hO).N) (d0 : ((cfgM m hO).win 0).block.Idx → Elt Ideal ((cfgM m hO).win 0).elt) (d1 : ((cfgM m hO).win 1).block.Idx → Elt Ideal ((cfgM m hO).win 1).elt) :
    (owns (c : Thread nD τ) (ms0_21 m hO t) fullShare (val21 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) : sProp 𝕄)
      ⊢ iprop(∃ d, owns (c : Thread nD τ) (ms0_21 m hO t) fullShare (((cfgM m hO).win 21).fill (grid0.coords t) d ((((cfgM m hO).win 21).blk t).view.read (Elt Ideal) (G21 m c)))) := by
  have e := cut21 m hO c t d0 d1
  generalize val21 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) = Z at e ⊢
  rw [← e]
  iintro H
  iexists Z
  rw [Pipeline.Window.fill_cut]
  iexact H

set_option backward.isDefEq.respectTransparency false in
theorem holds22 (hO : Ok m) (c : Dev nD) (t : Fin (cfgM m hO).N) (d0 : ((cfgM m hO).win 0).block.Idx → Elt Ideal ((cfgM m hO).win 0).elt) (d1 : ((cfgM m hO).win 1).block.Idx → Elt Ideal ((cfgM m hO).win 1).elt) :
    (owns (c : Thread nD τ) (ms0_22 m hO t) fullShare (val22 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t)) : sProp 𝕄)
      ⊢ iprop(∃ d, owns (c : Thread nD τ) (ms0_22 m hO t) fullShare (((cfgM m hO).win 22).fill (grid0.coords t) d ((((cfgM m hO).win 22).blk t).view.read (Elt Ideal) (G22 m c)))) := by
  have e := cut22 m hO c t d0 d1
  generalize val22 m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) = Z at e ⊢
  rw [← e]
  iintro H
  iexists Z
  rw [Pipeline.Window.fill_cut]
  iexact H

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d)))

def bodyPost (hO : Ok m) (c : Dev nD) (t : Fin (cfgM m hO).N) (X0 : (((cfgM m hO).win 0).xblock ((cfgM m hO).grid.coords t)).Idx → Elt Ideal ((cfgM m hO).win 0).elt) (X1 : (((cfgM m hO).win 1).xblock ((cfgM m hO).grid.coords t)).Idx → Elt Ideal ((cfgM m hO).win 1).elt) (X13 : (((cfgM m hO).win 13).xblock ((cfgM m hO).grid.coords t)).Idx → Elt Ideal ((cfgM m hO).win 13).elt) (X14 : (((cfgM m hO).win 14).xblock ((cfgM m hO).grid.coords t)).Idx → Elt Ideal ((cfgM m hO).win 14).elt) (X15 : (((cfgM m hO).win 15).xblock ((cfgM m hO).grid.coords t)).Idx → Elt Ideal ((cfgM m hO).win 15).elt) (X16 : (((cfgM m hO).win 16).xblock ((cfgM m hO).grid.coords t)).Idx → Elt Ideal ((cfgM m hO).win 16).elt) (X17 : (((cfgM m hO).win 17).xblock ((cfgM m hO).grid.coords t)).Idx → Elt Ideal ((cfgM m hO).win 17).elt) (X18 : (((cfgM m hO).win 18).xblock ((cfgM m hO).grid.coords t)).Idx → Elt Ideal ((cfgM m hO).win 18).elt) (X19 : (((cfgM m hO).win 19).xblock ((cfgM m hO).grid.coords t)).Idx → Elt Ideal ((cfgM m hO).win 19).elt) (X20 : (((cfgM m hO).win 20).xblock ((cfgM m hO).grid.coords t)).Idx → Elt Ideal ((cfgM m hO).win 20).elt) (X21 : (((cfgM m hO).win 21).xblock ((cfgM m hO).grid.coords t)).Idx → Elt Ideal ((cfgM m hO).win 21).elt) (X22 : (((cfgM m hO).win 22).xblock ((cfgM m hO).grid.coords t)).Idx → Elt Ideal ((cfgM m hO).win 22).elt) : sProp 𝕄 :=
  iprop((dats m hO 0 c).Φ t.succ ∗ (dats m hO 0 c).owesAt () t.succ
    ∗ (∃ d, owns (c : Thread nD τ) (ms0_0 m hO t) fullShare (((cfgM m hO).win 0).fill (grid0.coords t) d X0))
    ∗ (∃ d, owns (c : Thread nD τ) (ms0_1 m hO t) fullShare (((cfgM m hO).win 1).fill (grid0.coords t) d X1))
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ (∃ d, owns (c : Thread nD τ) (ms0_13 m hO t) fullShare (((cfgM m hO).win 13).fill (grid0.coords t) d X13))
    ∗ (∃ d, owns (c : Thread nD τ) (ms0_14 m hO t) fullShare (((cfgM m hO).win 14).fill (grid0.coords t) d X14))
    ∗ (∃ d, owns (c : Thread nD τ) (ms0_15 m hO t) fullShare (((cfgM m hO).win 15).fill (grid0.coords t) d X15))
    ∗ (∃ d, owns (c : Thread nD τ) (ms0_16 m hO t) fullShare (((cfgM m hO).win 16).fill (grid0.coords t) d X16))
    ∗ (∃ d, owns (c : Thread nD τ) (ms0_17 m hO t) fullShare (((cfgM m hO).win 17).fill (grid0.coords t) d X17))
    ∗ (∃ d, owns (c : Thread nD τ) (ms0_18 m hO t) fullShare (((cfgM m hO).win 18).fill (grid0.coords t) d X18))
    ∗ (∃ d, owns (c : Thread nD τ) (ms0_19 m hO t) fullShare (((cfgM m hO).win 19).fill (grid0.coords t) d X19))
    ∗ (∃ d, owns (c : Thread nD τ) (ms0_20 m hO t) fullShare (((cfgM m hO).win 20).fill (grid0.coords t) d X20))
    ∗ (∃ d, owns (c : Thread nD τ) (ms0_21 m hO t) fullShare (((cfgM m hO).win 21).fill (grid0.coords t) d X21))
    ∗ (∃ d, owns (c : Thread nD τ) (ms0_22 m hO t) fullShare (((cfgM m hO).win 22).fill (grid0.coords t) d X22)))

set_option maxHeartbeats 2000000 in
theorem sound_body (hO : Ok m) (c : Dev nD) (t : Fin (cfgM m hO).N) :
    bodyPre m hO c t ⊢ wp frame (wpE (defs₀ (F := Ideal)) Variants.none c none) Set.univ (bodyAt0 (adm m hO) t) (fun _ => bodyPost m hO c t (iblk m hO c 0 t) (iblk m hO c 1 t) ((((cfgM m hO).win 13).blk t).view.read (Elt Ideal) (G13 m c)) ((((cfgM m hO).win 14).blk t).view.read (Elt Ideal) (G14 m c)) ((((cfgM m hO).win 15).blk t).view.read (Elt Ideal) (G15 m c)) ((((cfgM m hO).win 16).blk t).view.read (Elt Ideal) (G16 m c)) ((((cfgM m hO).win 17).blk t).view.read (Elt Ideal) (G17 m c)) ((((cfgM m hO).win 18).blk t).view.read (Elt Ideal) (G18 m c)) ((((cfgM m hO).win 19).blk t).view.read (Elt Ideal) (G19 m c)) ((((cfgM m hO).win 20).blk t).view.read (Elt Ideal) (G20 m c)) ((((cfgM m hO).win 21).blk t).view.read (Elt Ideal) (G21 m c)) ((((cfgM m hO).win 22).blk t).view.read (Elt Ideal) (G22 m c))) := by
  unfold bodyPre bodyPost
  simp only [before0_0, before0_1, before0_2, before0_3, before0_4, before0_5, before0_6, before0_7, before0_8, before0_9, before0_10, before0_11, before0_12]
  rw [show (dats m hO 0 c).Φ t.succ = (dats m hO 0 c).Φ t.castSucc from rfl,
    show (dats m hO 0 c).owesAt () t.succ = (dats m hO 0 c).owesAt () t.castSucc from rfl,
    after0_2, after0_3, after0_4, after0_5, after0_6, after0_7, after0_8, after0_9, after0_10, after0_11, after0_12]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (body_values m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HT0]; · iexact HT0
  iintro ⟨H0, H1, H2, H3, H4, H5, H6, H7, H8, H9, H10, H11, H12, H13, H14, H15, H16, H17, H18, H19, H20, H21, H22, HT0⟩
  isplitl [HΦ HT0]
  · isplitl [HΦ]
    · iexact HΦ
    iexact HT0
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (holds13 m hO c t d0 d1); iexact H13
  isplitl [H14]; · iapply (holds14 m hO c t d0 d1); iexact H14
  isplitl [H15]; · iapply (holds15 m hO c t d0 d1); iexact H15
  isplitl [H16]; · iapply (holds16 m hO c t d0 d1); iexact H16
  isplitl [H17]; · iapply (holds17 m hO c t d0 d1); iexact H17
  isplitl [H18]; · iapply (holds18 m hO c t d0 d1); iexact H18
  isplitl [H19]; · iapply (holds19 m hO c t d0 d1); iexact H19
  isplitl [H20]; · iapply (holds20 m hO c t d0 d1); iexact H20
  isplitl [H21]; · iapply (holds21 m hO c t d0 d1); iexact H21
  iapply (holds22 m hO c t d0 d1); iexact H22

end Cert.MlpIdeal.Vals

end
-- ==== Proof.MlpIdeal.Loop.lean ====
/-
  The video kernel's run, from what its body leaves at each grid point (Proof/MlpIdeal/Obl.lean).
-/
module

public import proofs.«01_k».proof.Proof.MlpIdeal.Obl
public import Idealize.ShloMosaic.Lib.Pipeline.Frame
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MlpIdeal.Vals

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

set_option maxHeartbeats 8000000 in
theorem body_obligation (hO : Ok m) (c : Dev nD) : BodyObligationLoose (dats m hO 0 c) (defs₀ (F := Ideal)) Variants.none () Set.univ := fun t => by
  rw [bigSep_W0, bigSep_W0, defs₀_row m hO]
  have h := sound_body m hO c t
  rw [← cut0_0 m hO c t, ← cut0_1 m hO c t, ← cut0_13 m hO c t, ← cut0_14 m hO c t, ← cut0_15 m hO c t, ← cut0_16 m hO c t, ← cut0_17 m hO c t, ← cut0_18 m hO c t, ← cut0_19 m hO c t, ← cut0_20 m hO c t, ← cut0_21 m hO c t, ← cut0_22 m hO c t] at h
  exact triple_restated h rfl .rfl fun _ => .rfl

set_option maxHeartbeats 4000000 in
set_option backward.isDefEq.respectTransparency.types false in
theorem run_main_quiescent (hO : Ok m) : θ_run defs (onTc (τ := τ) (main (F := Ideal))) (s₀ m ρ) (fun r => Pipeline.FramePost (Pipeline.pin pcfgs fun _ => adm m hO) (dats m hO) (0 : Fin 1) (V m) r ∧ r.2.sem = fun _ => 0) :=
  Pipeline.θ_run_frameP (Q' := _) pcfgs (fun _ => adm m hO) (dats m hO) (0 : Fin 1) launch0 defs₀ Variants.none m ρ main
    (hbody := fun c => body_obligation m hO c) (hshare := fun c => (dats m hO 0 c).share_full fun _ => rfl)
    (howed := fun _ _ => rfl) (V := V m) (hmain := hmain m Variants.none) (hA := A_eq m hO) (hpf := V_pre m) (hΦ := fun _ _ => rfl)

end Cert.MlpIdeal.Vals

end
-- ==== Proof.MlpIdeal.Final.lean ====
/-
  The video kernel's ten results at the end of its run: the blocks cover each result's array.
-/
module

public import proofs.«01_k».proof.Proof.MlpIdeal.Obl
public import Idealize.ShloMosaic.Lib.Pipeline.Frame
public import Idealize.ShloMosaic.Lib.Pipeline.Covers
public import Idealize.ShloMosaic.Lib.Pipeline.ValueKit
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MlpIdeal.Vals

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Every block index is met by a grid point. -/
theorem surj_tok (β : (a : Fin 3) → Fin ((![2, 48, 1] : Fin 3 → Nat) a)) : ∃ t : Fin grid0.N, ∀ a : Fin 3, (![t.val / 48, t.val % 48, 0] : Fin 3 → Nat) a = (β a).val := by
  have h0 : (β 0).val < 2 := (β 0).isLt
  have h1 : (β 1).val < 48 := (β 1).isLt
  have h2 : (β 2).val < 1 := (β 2).isLt
  refine ⟨⟨(β 0).val * 48 + (β 1).val, show (β 0).val * 48 + (β 1).val < 96 by omega⟩, fun a => ?_⟩
  match a with
  | ⟨0, _⟩ => exact (show ((β 0).val * 48 + (β 1).val) / 48 = (β 0).val by omega)
  | ⟨1, _⟩ => exact (show ((β 0).val * 48 + (β 1).val) % 48 = (β 1).val by omega)
  | ⟨2, _⟩ => exact (show 0 = (β 2).val by omega)

/-- Every block index is met by a grid point. -/
theorem surj_row (β : (a : Fin 3) → Fin ((![2, 1, 48] : Fin 3 → Nat) a)) : ∃ t : Fin grid0.N, ∀ a : Fin 3, (![t.val / 48, 0, t.val % 48] : Fin 3 → Nat) a = (β a).val := by
  have h0 : (β 0).val < 2 := (β 0).isLt
  have h1 : (β 1).val < 1 := (β 1).isLt
  have h2 : (β 2).val < 48 := (β 2).isLt
  refine ⟨⟨(β 0).val * 48 + (β 2).val, show (β 0).val * 48 + (β 2).val < 96 by omega⟩, fun a => ?_⟩
  match a with
  | ⟨0, _⟩ => exact (show ((β 0).val * 48 + (β 2).val) / 48 = (β 0).val by omega)
  | ⟨1, _⟩ => exact (show 0 = (β 1).val by omega)
  | ⟨2, _⟩ => exact (show ((β 0).val * 48 + (β 2).val) % 48 = (β 2).val by omega)

/-- Every block index is met by a grid point. -/
theorem surj_head (β : (a : Fin 4) → Fin ((![2, 1, 48, 1] : Fin 4 → Nat) a)) : ∃ t : Fin grid0.N, ∀ a : Fin 4, (![t.val / 48, 0, t.val % 48, 0] : Fin 4 → Nat) a = (β a).val := by
  have h0 : (β 0).val < 2 := (β 0).isLt
  have h1 : (β 1).val < 1 := (β 1).isLt
  have h2 : (β 2).val < 48 := (β 2).isLt
  have h3 : (β 3).val < 1 := (β 3).isLt
  refine ⟨⟨(β 0).val * 48 + (β 2).val, show (β 0).val * 48 + (β 2).val < 96 by omega⟩, fun a => ?_⟩
  match a with
  | ⟨0, _⟩ => exact (show ((β 0).val * 48 + (β 2).val) / 48 = (β 0).val by omega)
  | ⟨1, _⟩ => exact (show 0 = (β 1).val by omega)
  | ⟨2, _⟩ => exact (show ((β 0).val * 48 + (β 2).val) % 48 = (β 2).val by omega)
  | ⟨3, _⟩ => exact (show 0 = (β 3).val by omega)

theorem nblk13 (hO : Ok m) : ∀ a : Fin 3, ((cfgM m hO).win 13).nblk a = (![2, 48, 1] : Fin 3 → Nat) a :=
  (by decide +kernel : ∀ a : Fin 3, ((![2, 12240, 2560] : Fin 3 → Nat) a + (![1, 256, 2560] : Fin 3 → Nat) a - 1) / (![1, 256, 2560] : Fin 3 → Nat) a = (![2, 48, 1] : Fin 3 → Nat) a)

theorem size13 (hO : Ok m) : ∀ a : Fin 3, 0 < ((cfgM m hO).win 13).size a :=
  (by decide : ∀ a : Fin 3, 0 < (![1, 256, 2560] : Fin 3 → Nat) a)

theorem covers13 (hO : Ok m) : ((cfgM m hO).win 13).Covers :=
  Pipeline.Window.covers_of_index_surj _ rfl (size13 m hO) fun β =>
    (surj_tok fun a : Fin 3 => ⟨(β a).val, lt_of_lt_of_eq (β a).isLt (nblk13 m hO a)⟩).imp fun t h => fun a : Fin 3 => (congrFun (idx13 m hO t) a).trans (h a)

set_option backward.isDefEq.respectTransparency false in
theorem final13 (hO : Ok m) (c : Dev nD) : (dats m hO 0 c).arrAt 13 (cfgM m hO).N = G13 m c :=
  (dats m hO 0 c).arrAt_eq_of_covers 13 (G13 m c) (covers13 m hO) fun t _ y => congrFun (cut0_13 m hO c t) y

theorem nblk14 (hO : Ok m) : ∀ a : Fin 3, ((cfgM m hO).win 14).nblk a = (![2, 48, 1] : Fin 3 → Nat) a :=
  (by decide +kernel : ∀ a : Fin 3, ((![2, 12240, 640] : Fin 3 → Nat) a + (![1, 256, 640] : Fin 3 → Nat) a - 1) / (![1, 256, 640] : Fin 3 → Nat) a = (![2, 48, 1] : Fin 3 → Nat) a)

theorem size14 (hO : Ok m) : ∀ a : Fin 3, 0 < ((cfgM m hO).win 14).size a :=
  (by decide : ∀ a : Fin 3, 0 < (![1, 256, 640] : Fin 3 → Nat) a)

theorem covers14 (hO : Ok m) : ((cfgM m hO).win 14).Covers :=
  Pipeline.Window.covers_of_index_surj _ rfl (size14 m hO) fun β =>
    (surj_tok fun a : Fin 3 => ⟨(β a).val, lt_of_lt_of_eq (β a).isLt (nblk14 m hO a)⟩).imp fun t h => fun a : Fin 3 => (congrFun (idx14 m hO t) a).trans (h a)

set_option backward.isDefEq.respectTransparency false in
theorem final14 (hO : Ok m) (c : Dev nD) : (dats m hO 0 c).arrAt 14 (cfgM m hO).N = G14 m c :=
  (dats m hO 0 c).arrAt_eq_of_covers 14 (G14 m c) (covers14 m hO) fun t _ y => congrFun (cut0_14 m hO c t) y

theorem nblk15 (hO : Ok m) : ∀ a : Fin 4, ((cfgM m hO).win 15).nblk a = (![2, 1, 48, 1] : Fin 4 → Nat) a :=
  (by decide +kernel : ∀ a : Fin 4, ((![2, 5, 12240, 128] : Fin 4 → Nat) a + (![1, 5, 256, 128] : Fin 4 → Nat) a - 1) / (![1, 5, 256, 128] : Fin 4 → Nat) a = (![2, 1, 48, 1] : Fin 4 → Nat) a)

theorem size15 (hO : Ok m) : ∀ a : Fin 4, 0 < ((cfgM m hO).win 15).size a :=
  (by decide : ∀ a : Fin 4, 0 < (![1, 5, 256, 128] : Fin 4 → Nat) a)

theorem covers15 (hO : Ok m) : ((cfgM m hO).win 15).Covers :=
  Pipeline.Window.covers_of_index_surj _ rfl (size15 m hO) fun β =>
    (surj_head fun a : Fin 4 => ⟨(β a).val, lt_of_lt_of_eq (β a).isLt (nblk15 m hO a)⟩).imp fun t h => fun a : Fin 4 => (congrFun (idx15 m hO t) a).trans (h a)

set_option backward.isDefEq.respectTransparency false in
theorem final15 (hO : Ok m) (c : Dev nD) : (dats m hO 0 c).arrAt 15 (cfgM m hO).N = G15 m c :=
  (dats m hO 0 c).arrAt_eq_of_covers 15 (G15 m c) (covers15 m hO) fun t _ y => congrFun (cut0_15 m hO c t) y

theorem nblk16 (hO : Ok m) : ∀ a : Fin 4, ((cfgM m hO).win 16).nblk a = (![2, 1, 48, 1] : Fin 4 → Nat) a :=
  (by decide +kernel : ∀ a : Fin 4, ((![2, 5, 12240, 128] : Fin 4 → Nat) a + (![1, 5, 256, 128] : Fin 4 → Nat) a - 1) / (![1, 5, 256, 128] : Fin 4 → Nat) a = (![2, 1, 48, 1] : Fin 4 → Nat) a)

theorem size16 (hO : Ok m) : ∀ a : Fin 4, 0 < ((cfgM m hO).win 16).size a :=
  (by decide : ∀ a : Fin 4, 0 < (![1, 5, 256, 128] : Fin 4 → Nat) a)

theorem covers16 (hO : Ok m) : ((cfgM m hO).win 16).Covers :=
  Pipeline.Window.covers_of_index_surj _ rfl (size16 m hO) fun β =>
    (surj_head fun a : Fin 4 => ⟨(β a).val, lt_of_lt_of_eq (β a).isLt (nblk16 m hO a)⟩).imp fun t h => fun a : Fin 4 => (congrFun (idx16 m hO t) a).trans (h a)

set_option backward.isDefEq.respectTransparency false in
theorem final16 (hO : Ok m) (c : Dev nD) : (dats m hO 0 c).arrAt 16 (cfgM m hO).N = G16 m c :=
  (dats m hO 0 c).arrAt_eq_of_covers 16 (G16 m c) (covers16 m hO) fun t _ y => congrFun (cut0_16 m hO c t) y

theorem nblk17 (hO : Ok m) : ∀ a : Fin 3, ((cfgM m hO).win 17).nblk a = (![2, 48, 1] : Fin 3 → Nat) a :=
  (by decide +kernel : ∀ a : Fin 3, ((![2, 12240, 640] : Fin 3 → Nat) a + (![1, 256, 640] : Fin 3 → Nat) a - 1) / (![1, 256, 640] : Fin 3 → Nat) a = (![2, 48, 1] : Fin 3 → Nat) a)

theorem size17 (hO : Ok m) : ∀ a : Fin 3, 0 < ((cfgM m hO).win 17).size a :=
  (by decide : ∀ a : Fin 3, 0 < (![1, 256, 640] : Fin 3 → Nat) a)

theorem covers17 (hO : Ok m) : ((cfgM m hO).win 17).Covers :=
  Pipeline.Window.covers_of_index_surj _ rfl (size17 m hO) fun β =>
    (surj_tok fun a : Fin 3 => ⟨(β a).val, lt_of_lt_of_eq (β a).isLt (nblk17 m hO a)⟩).imp fun t h => fun a : Fin 3 => (congrFun (idx17 m hO t) a).trans (h a)

set_option backward.isDefEq.respectTransparency false in
theorem final17 (hO : Ok m) (c : Dev nD) : (dats m hO 0 c).arrAt 17 (cfgM m hO).N = G17 m c :=
  (dats m hO 0 c).arrAt_eq_of_covers 17 (G17 m c) (covers17 m hO) fun t _ y => congrFun (cut0_17 m hO c t) y

theorem nblk18 (hO : Ok m) : ∀ a : Fin 3, ((cfgM m hO).win 18).nblk a = (![2, 1, 48] : Fin 3 → Nat) a :=
  (by decide +kernel : ∀ a : Fin 3, ((![2, 1, 12240] : Fin 3 → Nat) a + (![1, 1, 256] : Fin 3 → Nat) a - 1) / (![1, 1, 256] : Fin 3 → Nat) a = (![2, 1, 48] : Fin 3 → Nat) a)

theorem size18 (hO : Ok m) : ∀ a : Fin 3, 0 < ((cfgM m hO).win 18).size a :=
  (by decide : ∀ a : Fin 3, 0 < (![1, 1, 256] : Fin 3 → Nat) a)

theorem covers18 (hO : Ok m) : ((cfgM m hO).win 18).Covers :=
  Pipeline.Window.covers_of_index_surj _ rfl (size18 m hO) fun β =>
    (surj_row fun a : Fin 3 => ⟨(β a).val, lt_of_lt_of_eq (β a).isLt (nblk18 m hO a)⟩).imp fun t h => fun a : Fin 3 => (congrFun (idx18 m hO t) a).trans (h a)

set_option backward.isDefEq.respectTransparency false in
theorem final18 (hO : Ok m) (c : Dev nD) : (dats m hO 0 c).arrAt 18 (cfgM m hO).N = G18 m c :=
  (dats m hO 0 c).arrAt_eq_of_covers 18 (G18 m c) (covers18 m hO) fun t _ y => congrFun (cut0_18 m hO c t) y

theorem nblk19 (hO : Ok m) : ∀ a : Fin 3, ((cfgM m hO).win 19).nblk a = (![2, 48, 1] : Fin 3 → Nat) a :=
  (by decide +kernel : ∀ a : Fin 3, ((![2, 12240, 2560] : Fin 3 → Nat) a + (![1, 256, 2560] : Fin 3 → Nat) a - 1) / (![1, 256, 2560] : Fin 3 → Nat) a = (![2, 48, 1] : Fin 3 → Nat) a)

theorem size19 (hO : Ok m) : ∀ a : Fin 3, 0 < ((cfgM m hO).win 19).size a :=
  (by decide : ∀ a : Fin 3, 0 < (![1, 256, 2560] : Fin 3 → Nat) a)

theorem covers19 (hO : Ok m) : ((cfgM m hO).win 19).Covers :=
  Pipeline.Window.covers_of_index_surj _ rfl (size19 m hO) fun β =>
    (surj_tok fun a : Fin 3 => ⟨(β a).val, lt_of_lt_of_eq (β a).isLt (nblk19 m hO a)⟩).imp fun t h => fun a : Fin 3 => (congrFun (idx19 m hO t) a).trans (h a)

set_option backward.isDefEq.respectTransparency false in
theorem final19 (hO : Ok m) (c : Dev nD) : (dats m hO 0 c).arrAt 19 (cfgM m hO).N = G19 m c :=
  (dats m hO 0 c).arrAt_eq_of_covers 19 (G19 m c) (covers19 m hO) fun t _ y => congrFun (cut0_19 m hO c t) y

theorem nblk20 (hO : Ok m) : ∀ a : Fin 3, ((cfgM m hO).win 20).nblk a = (![2, 1, 48] : Fin 3 → Nat) a :=
  (by decide +kernel : ∀ a : Fin 3, ((![2, 1, 12240] : Fin 3 → Nat) a + (![1, 1, 256] : Fin 3 → Nat) a - 1) / (![1, 1, 256] : Fin 3 → Nat) a = (![2, 1, 48] : Fin 3 → Nat) a)

theorem size20 (hO : Ok m) : ∀ a : Fin 3, 0 < ((cfgM m hO).win 20).size a :=
  (by decide : ∀ a : Fin 3, 0 < (![1, 1, 256] : Fin 3 → Nat) a)

theorem covers20 (hO : Ok m) : ((cfgM m hO).win 20).Covers :=
  Pipeline.Window.covers_of_index_surj _ rfl (size20 m hO) fun β =>
    (surj_row fun a : Fin 3 => ⟨(β a).val, lt_of_lt_of_eq (β a).isLt (nblk20 m hO a)⟩).imp fun t h => fun a : Fin 3 => (congrFun (idx20 m hO t) a).trans (h a)

set_option backward.isDefEq.respectTransparency false in
theorem final20 (hO : Ok m) (c : Dev nD) : (dats m hO 0 c).arrAt 20 (cfgM m hO).N = G20 m c :=
  (dats m hO 0 c).arrAt_eq_of_covers 20 (G20 m c) (covers20 m hO) fun t _ y => congrFun (cut0_20 m hO c t) y

theorem nblk21 (hO : Ok m) : ∀ a : Fin 3, ((cfgM m hO).win 21).nblk a = (![2, 1, 48] : Fin 3 → Nat) a :=
  (by decide +kernel : ∀ a : Fin 3, ((![2, 1728, 12240] : Fin 3 → Nat) a + (![1, 1728, 256] : Fin 3 → Nat) a - 1) / (![1, 1728, 256] : Fin 3 → Nat) a = (![2, 1, 48] : Fin 3 → Nat) a)

theorem size21 (hO : Ok m) : ∀ a : Fin 3, 0 < ((cfgM m hO).win 21).size a :=
  (by decide : ∀ a : Fin 3, 0 < (![1, 1728, 256] : Fin 3 → Nat) a)

theorem covers21 (hO : Ok m) : ((cfgM m hO).win 21).Covers :=
  Pipeline.Window.covers_of_index_surj _ rfl (size21 m hO) fun β =>
    (surj_row fun a : Fin 3 => ⟨(β a).val, lt_of_lt_of_eq (β a).isLt (nblk21 m hO a)⟩).imp fun t h => fun a : Fin 3 => (congrFun (idx21 m hO t) a).trans (h a)

set_option backward.isDefEq.respectTransparency false in
theorem final21 (hO : Ok m) (c : Dev nD) : (dats m hO 0 c).arrAt 21 (cfgM m hO).N = G21 m c :=
  (dats m hO 0 c).arrAt_eq_of_covers 21 (G21 m c) (covers21 m hO) fun t _ y => congrFun (cut0_21 m hO c t) y

theorem nblk22 (hO : Ok m) : ∀ a : Fin 3, ((cfgM m hO).win 22).nblk a = (![2, 1, 48] : Fin 3 → Nat) a :=
  (by decide +kernel : ∀ a : Fin 3, ((![2, 1, 12240] : Fin 3 → Nat) a + (![1, 1, 256] : Fin 3 → Nat) a - 1) / (![1, 1, 256] : Fin 3 → Nat) a = (![2, 1, 48] : Fin 3 → Nat) a)

theorem size22 (hO : Ok m) : ∀ a : Fin 3, 0 < ((cfgM m hO).win 22).size a :=
  (by decide : ∀ a : Fin 3, 0 < (![1, 1, 256] : Fin 3 → Nat) a)

theorem covers22 (hO : Ok m) : ((cfgM m hO).win 22).Covers :=
  Pipeline.Window.covers_of_index_surj _ rfl (size22 m hO) fun β =>
    (surj_row fun a : Fin 3 => ⟨(β a).val, lt_of_lt_of_eq (β a).isLt (nblk22 m hO a)⟩).imp fun t h => fun a : Fin 3 => (congrFun (idx22 m hO t) a).trans (h a)

set_option backward.isDefEq.respectTransparency false in
theorem final22 (hO : Ok m) (c : Dev nD) : (dats m hO 0 c).arrAt 22 (cfgM m hO).N = G22 m c :=
  (dats m hO 0 c).arrAt_eq_of_covers 22 (G22 m c) (covers22 m hO) fun t _ y => congrFun (cut0_22 m hO c t) y

end Cert.MlpIdeal.Vals

end
-- ==== Proof.MlpIdeal.Run.lean ====
/-
  The video kernel's run, with its values: the ten results and the arguments.
-/
module

public import proofs.«01_k».proof.Proof.MlpIdeal.Loop
public import proofs.«01_k».proof.Proof.MlpIdeal.Final
public import Idealize.ShloMosaic.Lib.Pipeline.Frame
public import Idealize.ShloMosaic.Lib.Pipeline.Covers
public import Idealize.ShloMosaic.Lib.Pipeline.ValueKit
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.MlpIdeal.Vals
open Cert.MlpIdeal Cert.MlpIdeal.Gen Cert.Spec

variable (m : (ℓ : Loc nD τ sig) → Buf (Elt Ideal) ℓ)

set_option backward.isDefEq.respectTransparency.types false in
set_option maxHeartbeats 2000000 in
/-- Every run ends with the ten results at the specification's rows and the arguments unchanged. -/
theorem values (ρ : Dev nD → PrngReg) : θ_run defs (onTc (τ := τ) (main (F := Ideal))) ⟨m, fun _ => 0, ρ⟩ (fun r => ∀ c : Dev nD,
      r.2.mem ((c.tc : Thread nD τ).loc main_v13_0) = (fun i => zrow (tok m c (i 0) (i 1)) (wts m c) (i 2))
      ∧ r.2.mem ((c.tc : Thread nD τ).loc main_v13_1) = (fun i => cat (att m c (i 0) (i 1)) (i 2))
      ∧ r.2.mem ((c.tc : Thread nD τ).loc main_v13_2) = (fun i => qk m c (i 0) ⟨(i 1).val, lt_trans (i 1).isLt (show (5 : Nat) < 10 by decide)⟩ (i 2) (i 3))
      ∧ r.2.mem ((c.tc : Thread nD τ).loc main_v13_3) = (fun i => qk m c (i 0) ⟨5 + (i 1).val, Nat.add_lt_add_left (i 1).isLt 5⟩ (i 2) (i 3))
      ∧ r.2.mem ((c.tc : Thread nD τ).loc main_v13_4) = (fun i => qcode (cat (att m c (i 0) (i 1))) (i 2))
      ∧ r.2.mem ((c.tc : Thread nD τ).loc main_v13_5) = (fun i => qscale (cat (att m c (i 0) (i 2))))
      ∧ r.2.mem ((c.tc : Thread nD τ).loc main_v13_6) = (fun i => qcode (vrow (tok m c (i 0) (i 1)) (wts m c)) (i 2))
      ∧ r.2.mem ((c.tc : Thread nD τ).loc main_v13_7) = (fun i => qscale (vrow (tok m c (i 0) (i 2)) (wts m c)))
      ∧ r.2.mem ((c.tc : Thread nD τ).loc main_v13_8) = (fun i => qcode (hrow (tok m c (i 0) (i 2)) (wts m c)) (i 1))
      ∧ r.2.mem ((c.tc : Thread nD τ).loc main_v13_9) = (fun i => qscale (hrow (tok m c (i 0) (i 2)) (wts m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h.1 c).1 13).trans (final13 m trivial c),
      ((h.1 c).1 14).trans (final14 m trivial c),
      ((h.1 c).1 15).trans (final15 m trivial c),
      ((h.1 c).1 16).trans (final16 m trivial c),
      ((h.1 c).1 17).trans (final17 m trivial c),
      ((h.1 c).1 18).trans (final18 m trivial c),
      ((h.1 c).1 19).trans (final19 m trivial c),
      ((h.1 c).1 20).trans (final20 m trivial c),
      ((h.1 c).1 21).trans (final21 m trivial c),
      ((h.1 c).1 22).trans (final22 m trivial c),
      ((h.1 c).2 main_arg0 (by decide : main_arg0 ∈ Pipeline.restRefs sig spec0)).trans (V_arg m c main_arg0 (by decide)),
      ((h.1 c).1 0).trans (((dats m trivial 0 c).arrAt_in 0 rfl _).trans ((A_eq m trivial c 0).trans (V_arg m c main_arg1 (by decide)))),
      ((h.1 c).1 1).trans (((dats m trivial 0 c).arrAt_in 1 rfl _).trans ((A_eq m trivial c 1).trans (V_arg m c main_arg2 (by decide)))),
      ((h.1 c).1 2).trans (((dats m trivial 0 c).arrAt_in 2 rfl _).trans ((A_eq m trivial c 2).trans (V_arg m c main_arg3 (by decide)))),
      ((h.1 c).2 main_arg4 (by decide : main_arg4 ∈ Pipeline.restRefs sig spec0)).trans (V_arg m c main_arg4 (by decide)),
      ((h.1 c).1 4).trans (((dats m trivial 0 c).arrAt_in 4 rfl _).trans ((A_eq m trivial c 4).trans (V_arg m c main_arg5 (by decide)))),
      ((h.1 c).1 5).trans (((dats m trivial 0 c).arrAt_in 5 rfl _).trans ((A_eq m trivial c 5).trans (V_arg m c main_arg6 (by decide)))),
      ((h.1 c).2 main_arg7 (by decide : main_arg7 ∈ Pipeline.restRefs sig spec0)).trans (V_arg m c main_arg7 (by decide)),
      ((h.1 c).2 main_arg8 (by decide : main_arg8 ∈ Pipeline.restRefs sig spec0)).trans (V_arg m c main_arg8 (by decide)),
      ((h.1 c).2 main_arg9 (by decide : main_arg9 ∈ Pipeline.restRefs sig spec0)).trans (V_arg m c main_arg9 (by decide)),
      ((h.1 c).2 main_arg10 (by decide : main_arg10 ∈ Pipeline.restRefs sig spec0)).trans (V_arg m c main_arg10 (by decide)),
      ((h.1 c).2 main_arg11 (by decide : main_arg11 ∈ Pipeline.restRefs sig spec0)).trans (V_arg m c main_arg11 (by decide)),
      ((h.1 c).1 11).trans (((dats m trivial 0 c).arrAt_in 11 rfl _).trans ((A_eq m trivial c 11).trans (V_arg m c main_arg12 (by decide)))),
      ((h.1 c).2 main_arg13 (by decide : main_arg13 ∈ Pipeline.restRefs sig spec0)).trans (V_arg m c main_arg13 (by decide))⟩) (run_main_quiescent m ρ trivial)

end Cert.MlpIdeal.Vals

end
-- ==== Proof.MRefIdeal.Pay.lean ====
/-
  The video reference's payloads at an index: each is a function of one token's row (Proof/Spec.lean, Proof/VidSpec.lean)
  of what it reads.
-/
module

public import proofs.«01_k».proof.Proof.Gen.MRefIdeal.Skeleton
public import proofs.«01_k».proof.Proof.VidSpec
public import Idealize.ShloMosaic.Lib.Pointwise

@[expose] public section

set_option maxRecDepth 16384
set_option backward.isDefEq.respectTransparency false

noncomputable section

open Idealize.ShloMosaic Idealize.ShloMosaic.TcCoe Idealize.SL.Sem

namespace Cert.MRefIdeal.Vals
open Cert.MRefIdeal Cert.MRefIdeal.Gen Cert.Spec

/-- A select by a comparison of words. -/
theorem sel_sle (x y a : BitVec 32) :
    Scalar.select (IntOp.cmpi .sle x y) a 0#32 = if x.toInt ≤ y.toInt then a else 0#32 := by
  rw [WordCmp.cmpi_sle_eq]
  by_cases h : x.toInt ≤ y.toInt <;> simp [h, Scalar.select]

theorem sel_eq (x y : BitVec 32) (a b : EReal) :
    Scalar.select (IntOp.cmpi .eq x y) a b = if x = y then a else b := by
  rw [WordCmp.cmpi_eq_eq]
  by_cases h : x = y <;> simp [h, Scalar.select]

/-- The window codes of a head. -/
theorem pay4_at (v2 : Vec Ideal S18x1 .i32) (v13 : Vec Ideal S2x18x10x1 .f32) (v28 : Vec Ideal S2x10x12240x128 .f32)
    (b : Fin 2) (h : Fin 10) (n : Fin 12240) (l : Fin 128) :
    k0_pay4 (F := Ideal) v2 v13 v28 (ix4 b h n l)
      = code (scaleOf (pick (fun k => (v2 (ix2 k 0)).toInt ≤ (BitVec.ofNat 32 n.val).toInt) fun k => v13 (ix4 b k h 0))) (v28 (ix4 b h n l)) := by
  pointwise [k0_pay4]
  refine congrArg (fun s : EReal => min (Ideal.ofBits FTy.f32 1138753536#32) (max (Ideal.ofBits FTy.f32 3286237184#32) (Ideal.div (v28 (ix4 b h n l)) s))) ?_
  rw [← pick_scaleOf, ← sum_last _ _ (fun w => sel_sle (v2 (ix2 w 0)) (BitVec.ofNat 32 n.val) _) _]
  exact Finset.sum_congr rfl fun w _ => (sel_eq _ _ _ _).trans rfl

theorem pay5_at (v2 : Vec Ideal S18x1 .i32) (v13 : Vec Ideal S2x18x10x1 .f32) (v28 : Vec Ideal S2x10x12240x128 .f32)
    (b : Fin 2) (h : Fin 5) (n : Fin 12240) (l : Fin 128) :
    k0_pay5 (F := Ideal) v2 v13 v28 (ix4 b h n l) = k0_pay4 (F := Ideal) v2 v13 v28 (ix4 b ⟨h.val, by omega⟩ n l) := by
  unfold k0_pay5
  generalize k0_pay4 (F := Ideal) v2 v13 v28 = v
  as_aux_lemma =>
    pointwise

theorem pay6_at (v : FVec Ideal S2x10x12240x128 .fp8e4m3) (b : Fin 2) (h : Fin 5) (n : Fin 12240) (l : Fin 128) :
    k0_pay6 (F := Ideal) v (ix4 b h n l) = v (ix4 b ⟨5 + h.val, by omega⟩ n l) := by
  pointwise [k0_pay6]

/-- The five heads, laid side by side. -/
theorem pay7_at (v40 v42 v44 v46 v48 : Vec Ideal S2x1x12240x128 .f32) (b : Fin 2) (n : Fin 12240) (k : Fin 640) :
    k0_pay7 (F := Ideal) v40 v42 v44 v46 v48 (ix3 b n k)
      = cat (fun p j => ![v40 (ix4 b 0 n j), v42 (ix4 b 0 n j), v44 (ix4 b 0 n j), v46 (ix4 b 0 n j), v48 (ix4 b 0 n j)] p) k := by
  rw [cat_ladder]
  pointwise [k0_pay7]

theorem pay8_at (v40 v42 v44 v46 v48 : Vec Ideal S2x1x12240x128 .f32) (b : Fin 2) (n : Fin 12240) (k : Fin 640) :
    k0_pay8 (F := Ideal) v40 v42 v44 v46 v48 (ix3 b n k) = k0_pay7 (F := Ideal) v40 v42 v44 v46 v48 (ix3 b n k) := by
  unfold k0_pay8
  generalize k0_pay7 (F := Ideal) v40 v42 v44 v46 v48 = v
  as_aux_lemma =>
    pointwise

/-- The attention row's scale. -/
theorem pay9_at (v40 v42 v44 v46 v48 : Vec Ideal S2x1x12240x128 .f32) (b : Fin 2) (n : Fin 12240) (a : Fin 1) :
    k0_pay9 (F := Ideal) v40 v42 v44 v46 v48 (ix3 b n a) = qscale fun k : Fin 640 => k0_pay7 (F := Ideal) v40 v42 v44 v46 v48 (ix3 b n k) := by
  refine Eq.trans ?_ (qscale_eq _)
  unfold k0_pay9
  rw [max_r3_a2]
  generalize k0_pay7 (F := Ideal) v40 v42 v44 v46 v48 = v
  as_aux_lemma =>
    pointwise

theorem pay10_at (v40 v42 v44 v46 v48 : Vec Ideal S2x1x12240x128 .f32) (b : Fin 2) (n : Fin 12240) (k : Fin 640) :
    k0_pay10 (F := Ideal) v40 v42 v44 v46 v48 (ix3 b n k) = k0_pay9 (F := Ideal) v40 v42 v44 v46 v48 (ix3 b n 0) := by
  unfold k0_pay10
  generalize k0_pay9 (F := Ideal) v40 v42 v44 v46 v48 = v
  as_aux_lemma =>
    pointwise

theorem pay11_at (v s : FVec Ideal S2x12240x640 .f32) (b : Fin 2) (n : Fin 12240) (k : Fin 640) :
    k0_pay11 (F := Ideal) v s (ix3 b n k) = code (s (ix3 b n k)) (v (ix3 b n k)) := by
  pointwise [k0_pay11, code]

theorem pay12_at (v : FVec Ideal S2x12240x1 .f32) (b : Fin 2) (a : Fin 1) (n : Fin 12240) :
    k0_pay12 (F := Ideal) v (ix3 b a n) = v (ix3 b n 0) := by
  pointwise [k0_pay12]

theorem pay13_at (v : Vec Ideal S2x12240x2560 .bf16) (b : Fin 2) (n : Fin 12240) (l : Fin 2560) :
    k0_pay13 (F := Ideal) v (ix3 b n l) = v (ix3 b n l) := by
  pointwise [k0_pay13]

theorem pay14_at (v : Vec Ideal S1x2560 .f32) (j : Fin 2560) : k0_pay14 (F := Ideal) v (ix2 0 j) = v (ix2 0 j) := by
  pointwise [k0_pay14]

theorem pay15_at (v : Vec Ideal S1x1728 .f32) (j : Fin 1728) : k0_pay15 (F := Ideal) v (ix2 0 j) = v (ix2 0 j) := by
  pointwise [k0_pay15]

theorem pay16_at (v : Vec Ideal S1x1728 .f32) (j : Fin 1728) : k0_pay16 (F := Ideal) v (ix2 0 j) = v (ix2 0 j) := by
  pointwise [k0_pay16]

theorem pay17_at (v : Vec Ideal S1x2560 .f32) (j : Fin 2560) : k0_pay17 (F := Ideal) v (ix2 0 j) = v (ix2 0 j) := by
  pointwise [k0_pay17]

theorem pay18_at (v : Vec Ideal S2x6x2560 .f32) (b : Fin 2) (j : Fin 2560) : k0_pay18 (F := Ideal) v (ix3 b 0 j) = v (ix3 b 2 j) := by
  pointwise [k0_pay18]

theorem pay19_at (v : Vec Ideal S640x2560 .fp8e4m3) (b : Fin 2) (k : Fin 640) (j : Fin 2560) :
    k0_pay19 (F := Ideal) v (ix3 b k j) = v (ix2 k j) := by
  pointwise [k0_pay19]

/-- The residual row after the projection. -/
theorem pay20_at (v61 : FVec Ideal S2x12240x1 .f32) (v68 : FVec Ideal S2x12240x640 .fp8e4m3) (v73 : FVec Ideal S2x12240x2560 .f32)
    (v77 : FVec Ideal S1x2560 .f32) (v87 : FVec Ideal S2x1x2560 .f32) (v90 : FVec Ideal S2x640x2560 .fp8e4m3) (b : Fin 2) (n : Fin 12240) (l : Fin 2560) :
    k0_pay20 (F := Ideal) v61 v68 v73 v77 v87 v90 (ix3 b n l)
      = resid (fun j : Fin 2560 => v73 (ix3 b n j)) (fun j => v87 (ix3 b 0 j)) (fun k : Fin 640 => v68 (ix3 b n k)) (v61 (ix3 b n 0))
          (fun k j => v90 (ix3 b k j)) (fun j => v77 (ix2 0 j)) l := by
  pointwise [k0_pay20, resid, lin]

/-- The modulated norm. -/
theorem pay21_at (v61 : FVec Ideal S2x12240x1 .f32) (v68 : FVec Ideal S2x12240x640 .fp8e4m3) (v73 : FVec Ideal S2x12240x2560 .f32) (v74 : Vec Ideal S2x6x2560 .f32)
    (v77 : FVec Ideal S1x2560 .f32) (v87 : FVec Ideal S2x1x2560 .f32) (v90 : FVec Ideal S2x640x2560 .fp8e4m3) (b : Fin 2) (n : Fin 12240) (l : Fin 2560) :
    k0_pay21 (F := Ideal) v61 v68 v73 v74 v77 v87 v90 (ix3 b n l)
      = modnorm (fun j => k0_pay20 (F := Ideal) v61 v68 v73 v77 v87 v90 (ix3 b n j)) (fun j => v74 (ix3 b 3 j)) (fun j => v74 (ix3 b 4 j)) l := by
  unfold k0_pay21
  generalize k0_pay20 (F := Ideal) v61 v68 v73 v77 v87 v90 = v
  as_aux_lemma =>
    pointwise [modnorm, rms]

/-- A row's scale. -/
theorem pay22_at (v61 : FVec Ideal S2x12240x1 .f32) (v68 : FVec Ideal S2x12240x640 .fp8e4m3) (v73 : FVec Ideal S2x12240x2560 .f32) (v74 : Vec Ideal S2x6x2560 .f32)
    (v77 : FVec Ideal S1x2560 .f32) (v87 : FVec Ideal S2x1x2560 .f32) (v90 : FVec Ideal S2x640x2560 .fp8e4m3) (b : Fin 2) (n : Fin 12240) (a : Fin 1) :
    k0_pay22 (F := Ideal) v61 v68 v73 v74 v77 v87 v90 (ix3 b n a)
      = qscale (fun j : Fin 2560 => k0_pay21 (F := Ideal) v61 v68 v73 v74 v77 v87 v90 (ix3 b n j)) := by
  refine Eq.trans ?_ (qscale_eq _)
  unfold k0_pay22
  rw [max_r3_a2]
  generalize k0_pay21 (F := Ideal) v61 v68 v73 v74 v77 v87 v90 = v
  as_aux_lemma =>
    pointwise

/-- A row's codes. -/
theorem pay23_at (v61 : FVec Ideal S2x12240x1 .f32) (v68 : FVec Ideal S2x12240x640 .fp8e4m3) (v73 : FVec Ideal S2x12240x2560 .f32) (v74 : Vec Ideal S2x6x2560 .f32)
    (v77 : FVec Ideal S1x2560 .f32) (v87 : FVec Ideal S2x1x2560 .f32) (v90 : FVec Ideal S2x640x2560 .fp8e4m3) (b : Fin 2) (n : Fin 12240) (l : Fin 2560) :
    k0_pay23 (F := Ideal) v61 v68 v73 v74 v77 v87 v90 (ix3 b n l)
      = qcode (fun j : Fin 2560 => k0_pay21 (F := Ideal) v61 v68 v73 v74 v77 v87 v90 (ix3 b n j)) l := by
  refine Eq.trans ?_ (qcode_eq _ _)
  have h := pay22_at v61 v68 v73 v74 v77 v87 v90 b n 0
  unfold k0_pay23
  generalize k0_pay22 (F := Ideal) v61 v68 v73 v74 v77 v87 v90 = s at *
  generalize k0_pay21 (F := Ideal) v61 v68 v73 v74 v77 v87 v90 = v at *
  as_aux_lemma =>
    pointwise
    rw [h]

/-- The gate's sums and the scale that multiplies them. -/
theorem pay24_at (v61 : FVec Ideal S2x12240x1 .f32) (v68 : FVec Ideal S2x12240x640 .fp8e4m3) (v73 : FVec Ideal S2x12240x2560 .f32) (v74 : Vec Ideal S2x6x2560 .f32)
    (v77 : FVec Ideal S1x2560 .f32) (v87 : FVec Ideal S2x1x2560 .f32) (v90 : FVec Ideal S2x640x2560 .fp8e4m3) (v78 : Vec Ideal S2560x1728 .fp8e4m3) (b : Fin 2) (n : Fin 12240) (l : Fin 1728) :
    k0_pay24 (F := Ideal) v61 v68 v73 v74 v77 v78 v87 v90 (ix3 b n l)
      = ∑ x : Fin 2560, k0_pay23 (F := Ideal) v61 v68 v73 v74 v77 v87 v90 (ix3 b n x) * v78 (ix2 x l) := by
  unfold k0_pay24
  generalize k0_pay23 (F := Ideal) v61 v68 v73 v74 v77 v87 v90 = v
  as_aux_lemma =>
    pointwise

theorem pay25_at (v61 : FVec Ideal S2x12240x1 .f32) (v68 : FVec Ideal S2x12240x640 .fp8e4m3) (v73 : FVec Ideal S2x12240x2560 .f32) (v74 : Vec Ideal S2x6x2560 .f32)
    (v77 : FVec Ideal S1x2560 .f32) (v87 : FVec Ideal S2x1x2560 .f32) (v90 : FVec Ideal S2x640x2560 .fp8e4m3) (b : Fin 2) (n : Fin 12240) (l : Fin 1728) :
    k0_pay25 (F := Ideal) v61 v68 v73 v74 v77 v87 v90 (ix3 b n l) = k0_pay22 (F := Ideal) v61 v68 v73 v74 v77 v87 v90 (ix3 b n 0) := by
  unfold k0_pay25
  generalize k0_pay22 (F := Ideal) v61 v68 v73 v74 v77 v87 v90 = v
  as_aux_lemma =>
    pointwise

/-- The hidden row, where `w` are the gate's weights. -/
theorem pay26_at (v80 : FVec Ideal S1x1728 .f32) (v81 : Vec Ideal S2560x1728 .fp8e4m3) (v83 : FVec Ideal S1x1728 .f32)
    (v126 : FVec Ideal S2x12240x1 .f32) (v133 : FVec Ideal S2x12240x2560 .fp8e4m3) (v137 v138 : FVec Ideal S2x12240x1728 .f32) (w : Vec Ideal S2560x1728 .fp8e4m3)
    (b : Fin 2) (n : Fin 12240) (l : Fin 1728) (h137 : v137 (ix3 b n l) = ∑ x : Fin 2560, v133 (ix3 b n x) * w (ix2 x l))
    (h138 : v138 (ix3 b n l) = v126 (ix3 b n 0)) :
    k0_pay26 (F := Ideal) v80 v81 v83 v126 v133 v137 v138 (ix3 b n l)
      = hid (fun k : Fin 2560 => v133 (ix3 b n k)) (v126 (ix3 b n 0)) (fun k j => w (ix2 k j)) (fun j : Fin 1728 => v80 (ix2 0 j))
          (fun k j => v81 (ix2 k j)) (fun j => v83 (ix2 0 j)) l := by
  unfold hid
  pointwise [k0_pay26, gate, lin]
  rw [h137, h138]

/-- The hidden row's scale. -/
theorem pay27_at (v80 : FVec Ideal S1x1728 .f32) (v81 : Vec Ideal S2560x1728 .fp8e4m3) (v83 : FVec Ideal S1x1728 .f32)
    (v126 : FVec Ideal S2x12240x1 .f32) (v133 : FVec Ideal S2x12240x2560 .fp8e4m3) (v137 v138 : FVec Ideal S2x12240x1728 .f32) (b : Fin 2) (n : Fin 12240) (a : Fin 1) :
    k0_pay27 (F := Ideal) v80 v81 v83 v126 v133 v137 v138 (ix3 b n a)
      = qscale (fun j : Fin 1728 => k0_pay26 (F := Ideal) v80 v81 v83 v126 v133 v137 v138 (ix3 b n j)) := by
  refine Eq.trans ?_ (qscale_eq _)
  unfold k0_pay27
  rw [max_r3_a2]
  generalize k0_pay26 (F := Ideal) v80 v81 v83 v126 v133 v137 v138 = v
  as_aux_lemma =>
    pointwise

/-- The hidden row's codes. -/
theorem pay28_at (v80 : FVec Ideal S1x1728 .f32) (v81 : Vec Ideal S2560x1728 .fp8e4m3) (v83 : FVec Ideal S1x1728 .f32)
    (v126 : FVec Ideal S2x12240x1 .f32) (v133 : FVec Ideal S2x12240x2560 .fp8e4m3) (v137 v138 : FVec Ideal S2x12240x1728 .f32) (b : Fin 2) (n : Fin 12240) (l : Fin 1728) :
    k0_pay28 (F := Ideal) v80 v81 v83 v126 v133 v137 v138 (ix3 b n l)
      = qcode (fun j : Fin 1728 => k0_pay26 (F := Ideal) v80 v81 v83 v126 v133 v137 v138 (ix3 b n j)) l := by
  refine Eq.trans ?_ (qcode_eq _ _)
  have h := pay27_at v80 v81 v83 v126 v133 v137 v138 b n 0
  unfold k0_pay28
  generalize k0_pay27 (F := Ideal) v80 v81 v83 v126 v133 v137 v138 = s at *
  generalize k0_pay26 (F := Ideal) v80 v81 v83 v126 v133 v137 v138 = v at *
  as_aux_lemma =>
    pointwise
    rw [h]

/-- The row after the feed-forward layer. -/
theorem pay29_at (v74 : Vec Ideal S2x6x2560 .f32) (v80 : FVec Ideal S1x1728 .f32) (v81 : Vec Ideal S2560x1728 .fp8e4m3) (v83 : FVec Ideal S1x1728 .f32) (v84 : Vec Ideal S1728x2560 .fp8e4m3) (v86 : FVec Ideal S1x2560 .f32)
    (v99 : FVec Ideal S2x12240x2560 .f32) (v126 : FVec Ideal S2x12240x1 .f32) (v133 : FVec Ideal S2x12240x2560 .fp8e4m3) (v137 v138 : FVec Ideal S2x12240x1728 .f32)
    (b : Fin 2) (n : Fin 12240) (l : Fin 2560) :
    k0_pay29 (F := Ideal) v74 v80 v81 v83 v84 v86 v99 v126 v133 v137 v138 (ix3 b n l)
      = resid (fun j => v99 (ix3 b n j)) (fun j => v74 (ix3 b 5 j)) (fun k : Fin 1728 => k0_pay28 (F := Ideal) v80 v81 v83 v126 v133 v137 v138 (ix3 b n k))
          (k0_pay27 (F := Ideal) v80 v81 v83 v126 v133 v137 v138 (ix3 b n 0)) (fun k j => v84 (ix2 k j)) (fun j => v86 (ix2 0 j)) l := by
  unfold k0_pay29
  generalize k0_pay27 (F := Ideal) v80 v81 v83 v126 v133 v137 v138 = s
  generalize k0_pay28 (F := Ideal) v80 v81 v83 v126 v133 v137 v138 = v
  as_aux_lemma =>
    pointwise [resid, lin]

/-- The stored scales and hidden codes are the values above, moved. -/
theorem pay1_at (v : FVec Ideal S2x12240x1 .f32) (b : Fin 2) (a : Fin 1) (n : Fin 12240) :
    k0_pay1 (F := Ideal) v (ix3 b a n) = v (ix3 b n 0) := by
  pointwise [k0_pay1]

theorem pay2_at (v : FVec Ideal S2x12240x1728 .fp8e4m3) (b : Fin 2) (j : Fin 1728) (n : Fin 12240) :
    k0_pay2 (F := Ideal) v (ix3 b j n) = v (ix3 b n j) := by
  pointwise [k0_pay2]

theorem pay3_at (v : FVec Ideal S2x12240x1 .f32) (b : Fin 2) (a : Fin 1) (n : Fin 12240) :
    k0_pay3 (F := Ideal) v (ix3 b a n) = v (ix3 b n 0) := by
  pointwise [k0_pay3]

end Cert.MRefIdeal.Vals
-- ==== Proof.MRefIdeal.Out.lean ====
/-
  What the video reference's outputs hold after its body, at an index, in terms of its operands: one token's row
  (Proof/Spec.lean, Proof/VidSpec.lean) of the operands.
-/
module

public import proofs.«01_k».proof.Proof.Gen.MRefIdeal.Frame
public import proofs.«01_k».proof.Proof.MRefIdeal.Pay
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.MRefIdeal.Vals
open Cert.MRefIdeal Cert.MRefIdeal.Gen Cert.Spec

variable (x0 : Vec Ideal S19x1 .i32) (x1 : Vec Ideal S2x12240x2560 .bf16) (x2 : Vec Ideal S2x5x12240x128 .f32)
  (x3 : Vec Ideal S2x10x12288x128 .f32) (x4 : Vec Ideal S2x18x16x128 .f32) (x5 : Vec Ideal S2x6x2560 .f32)
  (x6 : Vec Ideal S640x2560 .fp8e4m3) (x7 : Vec Ideal S1x2560 .f32) (x8 : Vec Ideal S2560x1728 .fp8e4m3)
  (x9 : Vec Ideal S1x1728 .f32) (x10 : Vec Ideal S2560x1728 .fp8e4m3) (x11 : Vec Ideal S1x1728 .f32)
  (x12 : Vec Ideal S1728x2560 .fp8e4m3) (x13 : Vec Ideal S1x2560 .f32)

/-- A token's heads. -/
def attR (b : Fin 2) (n : Fin 12240) : Fin 5 → Fin 128 → EReal := fun p j => x2 (ix4 b p n j)

/-- A token of the operands. -/
def tokR (b : Fin 2) (n : Fin 12240) : Tok := vtok (fun j => x1 (ix3 b n j)) (attR x2 b n) (fun i j => x5 (ix3 b i j))

/-- The weights of the operands. -/
def wtsR : Wts :=
  ⟨fun k j => x6 (ix2 k j), fun j => x7 (ix2 0 j), fun k j => x8 (ix2 k j), fun j => x9 (ix2 0 j),
   fun k j => x10 (ix2 k j), fun j => x11 (ix2 0 j), fun k j => x12 (ix2 k j), fun j => x13 (ix2 0 j)⟩

/-- Whole operands, loaded. -/
theorem l1 (x : Vec Ideal S2x12240x2560 .bf16) : View.ld x r0_11 = x := View.ld_unit_lit _ _ (by decide)
theorem l5 (x : Vec Ideal S2x6x2560 .f32) : View.ld x r0_12 = x := View.ld_unit_lit _ _ (by decide)
theorem l6 (x : Vec Ideal S640x2560 .fp8e4m3) : View.ld x r0_13 = x := View.ld_unit_lit _ _ (by decide)
theorem l7 (x : Vec Ideal S1x2560 .f32) : View.ld x r0_14 = x := View.ld_unit_lit _ _ (by decide)
theorem l8 (x : Vec Ideal S2560x1728 .fp8e4m3) : View.ld x r0_15 = x := View.ld_unit_lit _ _ (by decide)
theorem l9 (x : Vec Ideal S1x1728 .f32) : View.ld x r0_16 = x := View.ld_unit_lit _ _ (by decide)
theorem l12 (x : Vec Ideal S1728x2560 .fp8e4m3) : View.ld x r0_17 = x := View.ld_unit_lit _ _ (by decide)

/-- The attention row. -/
theorem a_at (b : Fin 2) (n : Fin 12240) (k : Fin 640) : k0_pay30 x0 x1 x2 x3 x4 x5 x6 x7 x8 x9 x10 x11 x12 x13 (ix3 b n k) = cat (attR x2 b n) k := by
  unfold k0_pay30
  rw [pay7_at]
  refine congrArg (fun f => cat f k) ?_
  funext p j
  fin_cases p <;> pointwise [attR]

theorem a_row (b : Fin 2) (n : Fin 12240) : (fun k : Fin 640 => k0_pay30 x0 x1 x2 x3 x4 x5 x6 x7 x8 x9 x10 x11 x12 x13 (ix3 b n k)) = cat (attR x2 b n) :=
  funext fun k => a_at x0 x1 x2 x3 x4 x5 x6 x7 x8 x9 x10 x11 x12 x13 b n k

/-- Its scale and codes. -/
theorem as_at (b : Fin 2) (n : Fin 12240) (a : Fin 1) : k0_pay31 x0 x1 x2 x3 x4 x5 x6 x7 x8 x9 x10 x11 x12 x13 (ix3 b n a) = qscale (cat (attR x2 b n)) := by
  have h := a_row x0 x1 x2 x3 x4 x5 x6 x7 x8 x9 x10 x11 x12 x13 b n
  unfold k0_pay30 at h
  unfold k0_pay31
  rw [pay9_at, h]

theorem ac_at (b : Fin 2) (n : Fin 12240) (k : Fin 640) : k0_pay33 x0 x1 x2 x3 x4 x5 x6 x7 x8 x9 x10 x11 x12 x13 (ix3 b n k) = qcode (cat (attR x2 b n)) k := by
  have h : k0_pay32 x0 x1 x2 x3 x4 x5 x6 x7 x8 x9 x10 x11 x12 x13 (ix3 b n k) = qscale (cat (attR x2 b n)) := by
    have h := a_row x0 x1 x2 x3 x4 x5 x6 x7 x8 x9 x10 x11 x12 x13 b n
    unfold k0_pay30 at h
    unfold k0_pay32
    rw [pay10_at, pay9_at, h]
  unfold k0_pay33
  rw [pay11_at, a_at, h]
  rfl

/-- The residual row after the projection. -/
theorem y_at (b : Fin 2) (n : Fin 12240) (l : Fin 2560) :
    k0_pay20 (k0_pay31 x0 x1 x2 x3 x4 x5 x6 x7 x8 x9 x10 x11 x12 x13) (k0_pay33 x0 x1 x2 x3 x4 x5 x6 x7 x8 x9 x10 x11 x12 x13) (k0_pay34 x0 x1 x2 x3 x4 x5 x6 x7 x8 x9 x10 x11 x12 x13) (k0_pay35 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13) (ix3 b n l) = yrow (tokR x1 x2 x5 b n) (wtsR x6 x7 x8 x9 x10 x11 x12 x13) l := by
  have hc : (fun k : Fin 640 => k0_pay33 x0 x1 x2 x3 x4 x5 x6 x7 x8 x9 x10 x11 x12 x13 (ix3 b n k)) = qcode (cat (attR x2 b n)) := funext fun k => ac_at x0 x1 x2 x3 x4 x5 x6 x7 x8 x9 x10 x11 x12 x13 b n k
  have h1 : (fun j : Fin 2560 => k0_pay34 x0 x1 x2 x3 x4 x5 x6 x7 x8 x9 x10 x11 x12 x13 (ix3 b n j)) = fun j => x1 (ix3 b n j) := by
    funext j
    unfold k0_pay34
    rw [l1, pay13_at]
  have h7 : (fun j : Fin 2560 => k0_pay35 x0 x1 x2 x3 x4 x5 x6 x7 x8 x9 x10 x11 x12 x13 (ix2 0 j)) = fun j => x7 (ix2 0 j) := by
    funext j
    unfold k0_pay35
    rw [l7, pay14_at]
  have h5 : (fun j : Fin 2560 => k0_pay38 x0 x1 x2 x3 x4 x5 x6 x7 x8 x9 x10 x11 x12 x13 (ix3 b 0 j)) = fun j => x5 (ix3 b 2 j) := by
    funext j
    unfold k0_pay38
    rw [l5, pay18_at]
  have h6 : (fun (k : Fin 640) (j : Fin 2560) => k0_pay39 x0 x1 x2 x3 x4 x5 x6 x7 x8 x9 x10 x11 x12 x13 (ix3 b k j)) = fun k j => x6 (ix2 k j) := by
    funext k j
    unfold k0_pay39
    rw [l6, pay19_at]
  rw [pay20_at, hc, h1, h7, h5, h6, as_at]
  rfl

theorem y_row (b : Fin 2) (n : Fin 12240) :
    (fun l : Fin 2560 => k0_pay20 (k0_pay31 x0 x1 x2 x3 x4 x5 x6 x7 x8 x9 x10 x11 x12 x13) (k0_pay33 x0 x1 x2 x3 x4 x5 x6 x7 x8 x9 x10 x11 x12 x13) (k0_pay34 x0 x1 x2 x3 x4 x5 x6 x7 x8 x9 x10 x11 x12 x13) (k0_pay35 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13) (ix3 b n l)) = yrow (tokR x1 x2 x5 b n) (wtsR x6 x7 x8 x9 x10 x11 x12 x13) := funext fun l => y_at x0 x1 x2 x3 x4 x5 x6 x7 x8 x9 x10 x11 x12 x13 b n l

/-- The modulated norm's row. -/
theorem v_row (b : Fin 2) (n : Fin 12240) :
    (fun l : Fin 2560 => k0_pay21 (k0_pay31 x0 x1 x2 x3 x4 x5 x6 x7 x8 x9 x10 x11 x12 x13) (k0_pay33 x0 x1 x2 x3 x4 x5 x6 x7 x8 x9 x10 x11 x12 x13) (k0_pay34 x0 x1 x2 x3 x4 x5 x6 x7 x8 x9 x10 x11 x12 x13) x5 (k0_pay35 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13) (ix3 b n l)) = vrow (tokR x1 x2 x5 b n) (wtsR x6 x7 x8 x9 x10 x11 x12 x13) := by
  funext l
  rw [pay21_at, y_row]
  rfl

/-- Its scale and codes. -/
theorem vscale_at (b : Fin 2) (n : Fin 12240) (a : Fin 1) : k0_pay40 x0 x1 x2 x3 x4 x5 x6 x7 x8 x9 x10 x11 x12 x13 (ix3 b n a) = qscale (vrow (tokR x1 x2 x5 b n) (wtsR x6 x7 x8 x9 x10 x11 x12 x13)) := by
  unfold k0_pay40
  rw [l5, pay22_at, v_row]

theorem vcode_at (b : Fin 2) (n : Fin 12240) (l : Fin 2560) : k0_pay41 x0 x1 x2 x3 x4 x5 x6 x7 x8 x9 x10 x11 x12 x13 (ix3 b n l) = qcode (vrow (tokR x1 x2 x5 b n) (wtsR x6 x7 x8 x9 x10 x11 x12 x13)) l := by
  unfold k0_pay41
  rw [l5, pay23_at, v_row]

/-- The hidden row. -/
theorem h_row (b : Fin 2) (n : Fin 12240) :
    (fun j : Fin 1728 => k0_pay26 (k0_pay36 x0 x1 x2 x3 x4 x5 x6 x7 x8 x9 x10 x11 x12 x13) x10 (k0_pay37 x0 x1 x2 x3 x4 x5 x6 x7 x8 x9 x10 x11 x12 x13) (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (ix3 b n j)) = hrow (tokR x1 x2 x5 b n) (wtsR x6 x7 x8 x9 x10 x11 x12 x13) := by
  funext j
  have e : ∀ l : Fin 1728, k0_pay42 x0 x1 x2 x3 x4 x5 x6 x7 x8 x9 x10 x11 x12 x13 (ix3 b n l) = ∑ x : Fin 2560, k0_pay41 x0 x1 x2 x3 x4 x5 x6 x7 x8 x9 x10 x11 x12 x13 (ix3 b n x) * x8 (ix2 x l) := by
    intro l
    unfold k0_pay42 k0_pay41
    rw [l5, l8, pay24_at]
  have e' : ∀ l : Fin 1728, k0_pay43 x0 x1 x2 x3 x4 x5 x6 x7 x8 x9 x10 x11 x12 x13 (ix3 b n l) = k0_pay40 x0 x1 x2 x3 x4 x5 x6 x7 x8 x9 x10 x11 x12 x13 (ix3 b n 0) := by
    intro l
    unfold k0_pay43 k0_pay40
    rw [l5, pay25_at]
  have hc : (fun k : Fin 2560 => k0_pay41 x0 x1 x2 x3 x4 x5 x6 x7 x8 x9 x10 x11 x12 x13 (ix3 b n k)) = qcode (vrow (tokR x1 x2 x5 b n) (wtsR x6 x7 x8 x9 x10 x11 x12 x13)) := funext fun k => vcode_at x0 x1 x2 x3 x4 x5 x6 x7 x8 x9 x10 x11 x12 x13 b n k
  have h9 : (fun j : Fin 1728 => k0_pay36 x0 x1 x2 x3 x4 x5 x6 x7 x8 x9 x10 x11 x12 x13 (ix2 0 j)) = fun j => x9 (ix2 0 j) := by
    funext j
    unfold k0_pay36
    rw [l9, pay15_at]
  have h11 : (fun j : Fin 1728 => k0_pay37 x0 x1 x2 x3 x4 x5 x6 x7 x8 x9 x10 x11 x12 x13 (ix2 0 j)) = fun j => x11 (ix2 0 j) := by
    funext j
    unfold k0_pay37
    rw [l9, pay16_at]
  rw [pay26_at _ _ _ _ _ _ _ x8 b n j (e j) (e' j), hc, h9, h11, vscale_at]
  rfl

/-- The stored query codes. -/
theorem out16_at (b : Fin 2) (h : Fin 5) (n : Fin 12240) (l : Fin 128) :
    out0_16 x0 x1 x2 x3 x4 x5 x6 x7 x8 x9 x10 x11 x12 x13 (ix4 b h n l)
      = wcode (fun k => x0 (ix2 ⟨k.val, by omega⟩ 0)) (fun k => x4 (ix4 b k ⟨h.val, by omega⟩ 0)) n.val (x3 (ix4 b ⟨h.val, by omega⟩ ⟨n.val, by omega⟩ l)) := by
  frame_out
  rw [pay5_at, pay4_at]
  pointwise [wcode]

/-- The stored key codes. -/
theorem out17_at (b : Fin 2) (h : Fin 5) (n : Fin 12240) (l : Fin 128) :
    out0_17 x0 x1 x2 x3 x4 x5 x6 x7 x8 x9 x10 x11 x12 x13 (ix4 b h n l)
      = wcode (fun k => x0 (ix2 ⟨k.val, by omega⟩ 0)) (fun k => x4 (ix4 b k ⟨5 + h.val, by omega⟩ 0)) n.val (x3 (ix4 b ⟨5 + h.val, by omega⟩ ⟨n.val, by omega⟩ l)) := by
  frame_out
  rw [pay6_at, pay4_at]
  pointwise [wcode]

/-- The stored attention rows, codes and scales. -/
theorem out15_at (b : Fin 2) (n : Fin 12240) (k : Fin 640) : out0_15 x0 x1 x2 x3 x4 x5 x6 x7 x8 x9 x10 x11 x12 x13 (ix3 b n k) = cat (attR x2 b n) k := by
  frame_out
  rw [pay8_at]
  have h := a_at x0 x1 x2 x3 x4 x5 x6 x7 x8 x9 x10 x11 x12 x13 b n k
  unfold k0_pay30 at h
  exact h

theorem out18_at (b : Fin 2) (n : Fin 12240) (k : Fin 640) : out0_18 x0 x1 x2 x3 x4 x5 x6 x7 x8 x9 x10 x11 x12 x13 (ix3 b n k) = qcode (cat (attR x2 b n)) k := by
  frame_out
  exact ac_at x0 x1 x2 x3 x4 x5 x6 x7 x8 x9 x10 x11 x12 x13 b n k

theorem out19_at (b : Fin 2) (a : Fin 1) (n : Fin 12240) : out0_19 x0 x1 x2 x3 x4 x5 x6 x7 x8 x9 x10 x11 x12 x13 (ix3 b a n) = qscale (cat (attR x2 b n)) := by
  frame_out
  rw [pay12_at]
  exact as_at x0 x1 x2 x3 x4 x5 x6 x7 x8 x9 x10 x11 x12 x13 b n 0

/-- The stored x2 codes and scales. -/
theorem out20_at (b : Fin 2) (n : Fin 12240) (l : Fin 2560) : out0_20 x0 x1 x2 x3 x4 x5 x6 x7 x8 x9 x10 x11 x12 x13 (ix3 b n l) = qcode (vrow (tokR x1 x2 x5 b n) (wtsR x6 x7 x8 x9 x10 x11 x12 x13)) l := by
  frame_out
  exact vcode_at x0 x1 x2 x3 x4 x5 x6 x7 x8 x9 x10 x11 x12 x13 b n l

theorem out21_at (b : Fin 2) (a : Fin 1) (n : Fin 12240) : out0_21 x0 x1 x2 x3 x4 x5 x6 x7 x8 x9 x10 x11 x12 x13 (ix3 b a n) = qscale (vrow (tokR x1 x2 x5 b n) (wtsR x6 x7 x8 x9 x10 x11 x12 x13)) := by
  frame_out
  rw [pay1_at]
  exact vscale_at x0 x1 x2 x3 x4 x5 x6 x7 x8 x9 x10 x11 x12 x13 b n 0

/-- The stored hidden codes and scales. -/
theorem out22_at (b : Fin 2) (j : Fin 1728) (n : Fin 12240) : out0_22 x0 x1 x2 x3 x4 x5 x6 x7 x8 x9 x10 x11 x12 x13 (ix3 b j n) = qcode (hrow (tokR x1 x2 x5 b n) (wtsR x6 x7 x8 x9 x10 x11 x12 x13)) j := by
  frame_out
  rw [pay2_at]
  rw [pay28_at, h_row]

theorem out23_at (b : Fin 2) (a : Fin 1) (n : Fin 12240) : out0_23 x0 x1 x2 x3 x4 x5 x6 x7 x8 x9 x10 x11 x12 x13 (ix3 b a n) = qscale (hrow (tokR x1 x2 x5 b n) (wtsR x6 x7 x8 x9 x10 x11 x12 x13)) := by
  frame_out
  rw [pay3_at]
  rw [pay27_at, h_row]

/-- The row after the feed-forward layer. -/
theorem out14_at (b : Fin 2) (n : Fin 12240) (l : Fin 2560) : out0_14 x0 x1 x2 x3 x4 x5 x6 x7 x8 x9 x10 x11 x12 x13 (ix3 b n l) = zrow (tokR x1 x2 x5 b n) (wtsR x6 x7 x8 x9 x10 x11 x12 x13) l := by
  frame_out
  have hc : (fun k : Fin 1728 => k0_pay28 (k0_pay36 x0 x1 x2 x3 x4 x5 x6 x7 x8 x9 x10 x11 x12 x13) x10 (k0_pay37 x0 x1 x2 x3 x4 x5 x6 x7 x8 x9 x10 x11 x12 x13) (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (ix3 b n k)) = qcode (hrow (tokR x1 x2 x5 b n) (wtsR x6 x7 x8 x9 x10 x11 x12 x13)) := by
    funext k
    rw [pay28_at, h_row]
  have hs : k0_pay27 (k0_pay36 x0 x1 x2 x3 x4 x5 x6 x7 x8 x9 x10 x11 x12 x13) x10 (k0_pay37 x0 x1 x2 x3 x4 x5 x6 x7 x8 x9 x10 x11 x12 x13) (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (ix3 b n 0) = qscale (hrow (tokR x1 x2 x5 b n) (wtsR x6 x7 x8 x9 x10 x11 x12 x13)) := by
    rw [pay27_at, h_row]
  have e13 : (fun j : Fin 2560 => k0_pay17 x13 (ix2 0 j)) = fun j => x13 (ix2 0 j) := funext fun j => pay17_at x13 j
  rw [pay29_at, hc, hs, y_row, e13]
  rfl

end Cert.MRefIdeal.Vals
-- ==== Proof.MRefIdeal.Final.lean ====
/-
  The video reference's ten outputs at the end of its run, as functions of the arguments: every token's row
  (Proof/Spec.lean, Proof/VidSpec.lean).
-/
module

public import proofs.«01_k».proof.Proof.Gen.MRefIdeal.Frame
public import proofs.«01_k».proof.Proof.MRefIdeal.Out
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.MRefIdeal.Vals
open Cert.MRefIdeal Cert.MRefIdeal.Gen Cert.Spec

variable (m : (ℓ : Loc nD τ sig) → Buf (Elt Ideal) ℓ) (c : Dev nD)

/-- A token's heads. -/
def att (b : Fin 2) (n : Fin 12240) : Fin 5 → Fin 128 → EReal := fun p j => m ((c : Thread nD τ).loc main_arg2) (ix4 b p n j)

/-- A token of the arguments: batch `b`, position `n`. -/
def tok (b : Fin 2) (n : Fin 12240) : Tok :=
  vtok (fun j => m ((c : Thread nD τ).loc main_arg1) (ix3 b n j)) (att m c b n) (fun i j => m ((c : Thread nD τ).loc main_arg5) (ix3 b i j))

/-- The weights and their scales. -/
def wts : Wts :=
  ⟨fun k j => m ((c : Thread nD τ).loc main_arg6) (ix2 k j), fun j => m ((c : Thread nD τ).loc main_arg7) (ix1 j),
   fun k j => m ((c : Thread nD τ).loc main_arg8) (ix2 k j), fun j => m ((c : Thread nD τ).loc main_arg9) (ix1 j),
   fun k j => m ((c : Thread nD τ).loc main_arg10) (ix2 k j), fun j => m ((c : Thread nD τ).loc main_arg11) (ix1 j),
   fun k j => m ((c : Thread nD τ).loc main_arg12) (ix2 k j), fun j => m ((c : Thread nD τ).loc main_arg13) (ix1 j)⟩

/-- A query's (heads 0 to 4) or key's (heads 5 to 9) code. -/
def qk (b : Fin 2) (h : Fin 10) (n : Fin 12240) (l : Fin 128) : EReal :=
  wcode (fun k => m ((c : Thread nD τ).loc main_arg0) (ix1 ⟨k.val, by omega⟩)) (fun k => m ((c : Thread nD τ).loc main_arg4) (ix4 b k ⟨h.val, by omega⟩ 0)) n.val
    (m ((c : Thread nD τ).loc main_arg3) (ix4 b h ⟨n.val, by omega⟩ l))

/-- The one point's blocks are whole. -/
theorem idx : ∀ t : Fin cfg0.N, win0_0.index t = ![0, 0] ∧ win0_1.index t = ![0, 0, 0] ∧ win0_2.index t = ![0, 0, 0, 0] ∧ win0_3.index t = ![0, 0, 0, 0] ∧ win0_4.index t = ![0, 0, 0, 0] ∧ win0_5.index t = ![0, 0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0, 0] ∧ win0_15.index t = ![0, 0, 0] ∧ win0_16.index t = ![0, 0, 0, 0] ∧ win0_17.index t = ![0, 0, 0, 0] ∧ win0_18.index t = ![0, 0, 0] ∧ win0_19.index t = ![0, 0, 0] ∧ win0_20.index t = ![0, 0, 0] ∧ win0_21.index t = ![0, 0, 0] ∧ win0_22.index t = ![0, 0, 0] ∧ win0_23.index t = ![0, 0, 0] :=
  (by decide +kernel : ∀ t : Fin grid0.N, _)

theorem att_eq (t : Fin cfg0.N) (b : Fin 2) (n : Fin 12240) : attR (iblk m c 2 t) b n = att m c b n := by
  unfold attR att
  funext p j
  blk_point [iblk, V, idx t]

/-- A token of the operands is the argument's. -/
theorem tok_eq (t : Fin cfg0.N) (b : Fin 2) (n : Fin 12240) :
    tokR (iblk m c 1 t) (iblk m c 2 t) (iblk m c 5 t) b n = tok m c b n := by
  have h1 : (fun j : Fin 2560 => iblk m c 1 t (ix3 b n j)) = fun j => m ((c : Thread nD τ).loc main_arg1) (ix3 b n j) := by
    funext j
    blk_point [iblk, V, idx t]
  have h5 : (fun (i : Fin 6) (j : Fin 2560) => iblk m c 5 t (ix3 b i j)) = fun i j => m ((c : Thread nD τ).loc main_arg5) (ix3 b i j) := by
    funext i j
    blk_point [iblk, V, idx t]
  unfold tokR tok
  rw [h1, h5, att_eq]

/-- The weight operands are the arguments'. -/
theorem wts_eq (t : Fin cfg0.N) : wtsR (iblk m c 6 t) (iblk m c 7 t) (iblk m c 8 t) (iblk m c 9 t) (iblk m c 10 t) (iblk m c 11 t) (iblk m c 12 t) (iblk m c 13 t) = wts m c := by
  have h6 : (fun (k : Fin 640) (j : Fin 2560) => iblk m c 6 t (ix2 k j)) = fun k j => m ((c : Thread nD τ).loc main_arg6) (ix2 k j) := by
    funext k j
    blk_point [iblk, V, idx t]
  have h8 : (fun (k : Fin 2560) (j : Fin 1728) => iblk m c 8 t (ix2 k j)) = fun k j => m ((c : Thread nD τ).loc main_arg8) (ix2 k j) := by
    funext k j
    blk_point [iblk, V, idx t]
  have h10 : (fun (k : Fin 2560) (j : Fin 1728) => iblk m c 10 t (ix2 k j)) = fun k j => m ((c : Thread nD τ).loc main_arg10) (ix2 k j) := by
    funext k j
    blk_point [iblk, V, idx t]
  have h12 : (fun (k : Fin 1728) (j : Fin 2560) => iblk m c 12 t (ix2 k j)) = fun k j => m ((c : Thread nD τ).loc main_arg12) (ix2 k j) := by
    funext k j
    blk_point [iblk, V, idx t]
  have h7 : (fun j : Fin 2560 => iblk m c 7 t (ix2 (0 : Fin 1) j)) = fun j => m ((c : Thread nD τ).loc main_arg7) (ix1 j) := by
    funext j
    blk_point [iblk, V, idx t]
  have h9 : (fun j : Fin 1728 => iblk m c 9 t (ix2 (0 : Fin 1) j)) = fun j => m ((c : Thread nD τ).loc main_arg9) (ix1 j) := by
    funext j
    blk_point [iblk, V, idx t]
  have h11 : (fun j : Fin 1728 => iblk m c 11 t (ix2 (0 : Fin 1) j)) = fun j => m ((c : Thread nD τ).loc main_arg11) (ix1 j) := by
    funext j
    blk_point [iblk, V, idx t]
  have h13 : (fun j : Fin 2560 => iblk m c 13 t (ix2 (0 : Fin 1) j)) = fun j => m ((c : Thread nD τ).loc main_arg13) (ix1 j) := by
    funext j
    blk_point [iblk, V, idx t]
  exact (Wts.mk.injEq ..).mpr ⟨h6, h7, h8, h9, h10, h11, h12, h13⟩

/-- The windows' first tokens. -/
theorem cu_eq (t : Fin cfg0.N) : (fun k : Fin 18 => iblk m c 0 t (ix2 (⟨k.val, by omega⟩ : Fin 19) (0 : Fin 1)))
    = fun k => m ((c : Thread nD τ).loc main_arg0) (ix1 ⟨k.val, by omega⟩) := by
  funext k
  blk_point [iblk, V, idx t]

/-- The windows' largest magnitudes, and the queries and keys. -/
theorem wmax_eq (t : Fin cfg0.N) (b : Fin 2) (h : Fin 16) :
    (fun k : Fin 18 => iblk m c 4 t (ix4 b k h (0 : Fin 128))) = fun k => m ((c : Thread nD τ).loc main_arg4) (ix4 b k h 0) := by
  funext k
  blk_point [iblk, V, idx t]

theorem qk_eq (t : Fin cfg0.N) (b : Fin 2) (h : Fin 10) (n : Fin 12288) (l : Fin 128) :
    iblk m c 3 t (ix4 b h n l) = m ((c : Thread nD τ).loc main_arg3) (ix4 b h n l) := by
  blk_point [iblk, V, idx t]

/-- At the end of the run: the row after the feed-forward layer. -/
theorem final14 : (dats m 0 c).arrAt 14 cfg0.N = fun i => zrow (tok m c (i 0) (i 1)) (wts m c) (i 2) := by
  refine (dats m 0 c).arrAt_eq_of_after_last 14 t0_0 (by decide +kernel) _ fun j => ?_
  blk_simp
  rw [after0_14]
  idx_vars j
  rw [out14_at, tok_eq, wts_eq]

/-- At the end of the run: the attention row. -/
theorem final15 : (dats m 0 c).arrAt 15 cfg0.N = fun i => cat (att m c (i 0) (i 1)) (i 2) := by
  refine (dats m 0 c).arrAt_eq_of_after_last 15 t0_0 (by decide +kernel) _ fun j => ?_
  blk_simp
  rw [after0_15]
  idx_vars j
  rw [out15_at, att_eq]

/-- At the end of the run: the query codes. -/
theorem final16 : (dats m 0 c).arrAt 16 cfg0.N = fun i => qk m c (i 0) ⟨(i 1).val, lt_trans (i 1).isLt (show (5 : Nat) < 10 by decide)⟩ (i 2) (i 3) := by
  refine (dats m 0 c).arrAt_eq_of_after_last 16 t0_0 (by decide +kernel) _ fun j => ?_
  blk_simp
  rw [after0_16]
  idx_vars j
  rw [out16_at, cu_eq, wmax_eq, qk_eq]
  rfl

/-- At the end of the run: the key codes. -/
theorem final17 : (dats m 0 c).arrAt 17 cfg0.N = fun i => qk m c (i 0) ⟨5 + (i 1).val, Nat.add_lt_add_left (i 1).isLt 5⟩ (i 2) (i 3) := by
  refine (dats m 0 c).arrAt_eq_of_after_last 17 t0_0 (by decide +kernel) _ fun j => ?_
  blk_simp
  rw [after0_17]
  idx_vars j
  rw [out17_at, cu_eq, wmax_eq, qk_eq]
  rfl

/-- At the end of the run: the attention codes. -/
theorem final18 : (dats m 0 c).arrAt 18 cfg0.N = fun i => qcode (cat (att m c (i 0) (i 1))) (i 2) := by
  refine (dats m 0 c).arrAt_eq_of_after_last 18 t0_0 (by decide +kernel) _ fun j => ?_
  blk_simp
  rw [after0_18]
  idx_vars j
  rw [out18_at, att_eq]

/-- At the end of the run: the attention scales. -/
theorem final19 : (dats m 0 c).arrAt 19 cfg0.N = fun i => qscale (cat (att m c (i 0) (i 2))) := by
  refine (dats m 0 c).arrAt_eq_of_after_last 19 t0_0 (by decide +kernel) _ fun j => ?_
  blk_simp
  rw [after0_19]
  idx_vars j
  rw [out19_at, att_eq]

/-- At the end of the run: the x2 codes. -/
theorem final20 : (dats m 0 c).arrAt 20 cfg0.N = fun i => qcode (vrow (tok m c (i 0) (i 1)) (wts m c)) (i 2) := by
  refine (dats m 0 c).arrAt_eq_of_after_last 20 t0_0 (by decide +kernel) _ fun j => ?_
  blk_simp
  rw [after0_20]
  idx_vars j
  rw [out20_at, tok_eq, wts_eq]

/-- At the end of the run: the x2 scales. -/
theorem final21 : (dats m 0 c).arrAt 21 cfg0.N = fun i => qscale (vrow (tok m c (i 0) (i 2)) (wts m c)) := by
  refine (dats m 0 c).arrAt_eq_of_after_last 21 t0_0 (by decide +kernel) _ fun j => ?_
  blk_simp
  rw [after0_21]
  idx_vars j
  rw [out21_at, tok_eq, wts_eq]

/-- At the end of the run: the hidden codes, stored with the tokens last. -/
theorem final22 : (dats m 0 c).arrAt 22 cfg0.N = fun i => qcode (hrow (tok m c (i 0) (i 2)) (wts m c)) (i 1) := by
  refine (dats m 0 c).arrAt_eq_of_after_last 22 t0_0 (by decide +kernel) _ fun j => ?_
  blk_simp
  rw [after0_22]
  idx_vars j
  rw [out22_at, tok_eq, wts_eq]

/-- At the end of the run: the hidden scales. -/
theorem final23 : (dats m 0 c).arrAt 23 cfg0.N = fun i => qscale (hrow (tok m c (i 0) (i 2)) (wts m c)) := by
  refine (dats m 0 c).arrAt_eq_of_after_last 23 t0_0 (by decide +kernel) _ fun j => ?_
  blk_simp
  rw [after0_23]
  idx_vars j
  rw [out23_at, tok_eq, wts_eq]

end Cert.MRefIdeal.Vals
-- ==== Proof.MRefIdeal.Run.lean ====
/-
  The video reference's run: its ten results and its arguments at the end.
-/
module

public import proofs.«01_k».proof.Proof.Gen.MRefIdeal.Frame
public import proofs.«01_k».proof.Proof.MRefIdeal.Final
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.MRefIdeal.Vals
open Cert.MRefIdeal Cert.MRefIdeal.Gen Cert.Spec

variable (m : (ℓ : Loc nD τ sig) → Buf (Elt Ideal) ℓ)

set_option backward.isDefEq.respectTransparency.types false in
set_option maxHeartbeats 2000000 in
/-- Every run ends with the ten results at the specification's rows and the arguments unchanged. -/
theorem values (ρ : Dev nD → PrngReg) : θ_run defs (onTc (τ := τ) (main (F := Ideal))) ⟨m, fun _ => 0, ρ⟩ (fun r => ∀ c : Dev nD,
      r.2.mem ((c.tc : Thread nD τ).loc main_v5_0) = (fun i => zrow (tok m c (i 0) (i 1)) (wts m c) (i 2))
      ∧ r.2.mem ((c.tc : Thread nD τ).loc main_v5_1) = (fun i => cat (att m c (i 0) (i 1)) (i 2))
      ∧ r.2.mem ((c.tc : Thread nD τ).loc main_v5_2) = (fun i => qk m c (i 0) ⟨(i 1).val, lt_trans (i 1).isLt (show (5 : Nat) < 10 by decide)⟩ (i 2) (i 3))
      ∧ r.2.mem ((c.tc : Thread nD τ).loc main_v5_3) = (fun i => qk m c (i 0) ⟨5 + (i 1).val, Nat.add_lt_add_left (i 1).isLt 5⟩ (i 2) (i 3))
      ∧ r.2.mem ((c.tc : Thread nD τ).loc main_v5_4) = (fun i => qcode (cat (att m c (i 0) (i 1))) (i 2))
      ∧ r.2.mem ((c.tc : Thread nD τ).loc main_v5_5) = (fun i => qscale (cat (att m c (i 0) (i 2))))
      ∧ r.2.mem ((c.tc : Thread nD τ).loc main_v5_6) = (fun i => qcode (vrow (tok m c (i 0) (i 1)) (wts m c)) (i 2))
      ∧ r.2.mem ((c.tc : Thread nD τ).loc main_v5_7) = (fun i => qscale (vrow (tok m c (i 0) (i 2)) (wts m c)))
      ∧ r.2.mem ((c.tc : Thread nD τ).loc main_v5_8) = (fun i => qcode (hrow (tok m c (i 0) (i 2)) (wts m c)) (i 1))
      ∧ r.2.mem ((c.tc : Thread nD τ).loc main_v5_9) = (fun i => qscale (hrow (tok m c (i 0) (i 2)) (wts m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 14).trans (final14 m c),
      ((h c).1 15).trans (final15 m c),
      ((h c).1 16).trans (final16 m c),
      ((h c).1 17).trans (final17 m c),
      ((h c).1 18).trans (final18 m c),
      ((h c).1 19).trans (final19 m c),
      ((h c).1 20).trans (final20 m c),
      ((h c).1 21).trans (final21 m c),
      ((h c).1 22).trans (final22 m c),
      ((h c).1 23).trans (final23 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c),
      ((h c).1 10).trans (((dats m 0 c).arrAt_in 10 rfl _).trans ((A_eq m c 10).trans (V_main_arg10 m c))),
      ((h c).2 main_arg11 (Pipeline.mem_restRefs_of main_arg11 (by decide) (by decide))).trans (V_main_arg11 m c),
      ((h c).1 12).trans (((dats m 0 c).arrAt_in 12 rfl _).trans ((A_eq m c 12).trans (V_main_arg12 m c))),
      ((h c).2 main_arg13 (Pipeline.mem_restRefs_of main_arg13 (by decide) (by decide))).trans (V_main_arg13 m c)⟩) (run_main m ρ)

end Cert.MRefIdeal.Vals
-- ==== Proof.VidAlgebra.lean ====
/-
  The video kernel and its reference leave the same ten results.
-/
module

public import proofs.«01_k».proof.Defs
public import proofs.«01_k».proof.Proof.Gen.MlpIdeal
public import proofs.«01_k».proof.Proof.Gen.MRefIdeal
public import proofs.«01_k».proof.Proof.MlpIdeal.Run
public import proofs.«01_k».proof.Proof.MRefIdeal.Run
public import Idealize.ShloMosaic.Lib.Claim
public import Idealize.ShloMosaic.Lib.Pointwise
public import Idealize.ShloMosaic.Lib.Pipeline.ValueKit

@[expose] public section

set_option maxRecDepth 16384
set_option backward.isDefEq.respectTransparency false

noncomputable section

open Idealize.ShloMosaic Idealize.ShloMosaic.TcCoe Idealize.SL.Sem
open Idealize.ShloMosaic.Pipeline (Dat)

namespace Cert.VidAlgebra

open Cert.Spec

set_option maxHeartbeats 4000000 in
/-- Over the reals the kernel and its reference, run on the same arguments, leave the same ten results. -/
theorem algebraic : Cert.algebraic_MlpIdeal_MRefIdeal := by
  intro m g m' g' _ hagree
  have hatt : ∀ c, Cert.MRefIdeal.Vals.att m' c = Cert.MlpIdeal.Vals.att m c := by
    intro c
    obtain ⟨-, -, a2, -⟩ := hagree c
    funext b n
    unfold Cert.MRefIdeal.Vals.att
    rw [a2]
    rfl
  have htok : ∀ c, Cert.MRefIdeal.Vals.tok m' c = Cert.MlpIdeal.Vals.tok m c := by
    intro c
    obtain ⟨-, a1, -, -, -, a5, -⟩ := hagree c
    funext b n
    unfold Cert.MRefIdeal.Vals.tok
    rw [hatt, a1, a5]
    rfl
  have hwts : ∀ c, Cert.MRefIdeal.Vals.wts m' c = Cert.MlpIdeal.Vals.wts m c := by
    intro c
    obtain ⟨-, -, -, -, -, -, a6, a7, a8, a9, a10, a11, a12, a13⟩ := hagree c
    unfold Cert.MRefIdeal.Vals.wts
    rw [a6, a7, a8, a9, a10, a11, a12, a13]
    rfl
  have hqk : ∀ c, Cert.MRefIdeal.Vals.qk m' c = Cert.MlpIdeal.Vals.qk m c := by
    intro c
    obtain ⟨a0, -, -, a3, a4, -⟩ := hagree c
    funext b h n l
    unfold Cert.MRefIdeal.Vals.qk
    rw [a0, a3, a4]
    rfl
  have hr := Cert.MRefIdeal.Vals.values m' g'
  simp only [hatt, htok, hwts, hqk] at hr
  exact ⟨_, _, _, _, _, _, _, _, _, _, Cert.MlpIdeal.Vals.values m g, hr⟩

end Cert.VidAlgebra
-- ==== Proof.Mlp.Runs.lean ====
module

public import proofs.«01_k».proof.Proof.Gen.Mlp.Launch
public import proofs.«01_k».proof.Proof.Gen.Mlp.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

/-! The video MLP call: what the launch finds, the windows' blocks, and the frame read off a run. -/

set_option maxRecDepth 16384

noncomputable section

namespace Cert.Mlp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 2 (fun _ => rfl) (by decide)) (P := 1) (by decide) t).mpr (Nat.mod_one _) : ∀ t : Fin grid0.N, Pipeline.Window.fetchOf grid0 false cc0_transform_1 t = true)
abbrev bodyAt0 (a : (pcfg0 (F := F)).Adm) (t : Fin (cfg0 a).N) : Prog (TpuEff nD τ sig (Elt F) Λ₀ .tc) PUnit :=
  cc0_vid_mlp (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (spec0_20.stage ((cfg0 a).slots t 20)) (hstage0_20 (((cfg0 a).slots t 20).cast nbuf0_20)) (spec0_21.stage ((cfg0 a).slots t 21)) (hstage0_21 (((cfg0 a).slots t 21).cast nbuf0_21)) (spec0_22.stage ((cfg0 a).slots t 22)) (hstage0_22 (((cfg0 a).slots t 22).cast nbuf0_22))

/-- The three stretches of host operations before the kernel call: the scales of the value codes are computed from the
    given maxima (a comparison, a quotient, and a selection), then the weights and their scales are laid out. -/
abbrev hostOps : List (List (HloOp τ sig (Elt F))) := [hostOps0, hostOps0_1, hostOps0_2]

/-- Core `c`'s buffers when the kernel call is entered. -/
abbrev V (c : Dev nD) (b : Ref sig .tc) : Buf (Elt F) ((c : Thread nD τ).loc b) := StableHlo.after hostOps.flatten (fun b => m (c, b)) b

theorem hostOps_fresh : (hostOps : List (List (HloOp τ sig (Elt F)))).Forall fun ops => ops.Forall fun op => op.fresh = ∅ := by
  simp only [List.Forall]; repeat' constructor

set_option maxHeartbeats 800000 in
/-- `@main` up to the kernel call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostOps ⟨hostOps0_sub, hostOps0_1_sub, hostOps0_2_sub⟩ hostOps_fresh main_chain

/-- What the host operations write. -/
abbrev hostWrites : List (Ref sig .tc) :=
  [main_cst, main_v0, main_v1, main_cst_0, main_v2, main_v3, main_cst_1, main_call0_v0, main_call0_v1, main_v4,
    main_v5, main_v6, main_v7, main_v8, main_v9, main_v10, main_v11, main_v12]

/-- A buffer no host operation writes is found as launched. -/
theorem V_arg (c : Dev nD) (b : Ref sig .tc) (h : ∀ x ∈ hostWrites, b ≠ x) : V m c b = m ((c : Thread nD τ).loc b) :=
  StableHlo.after_of_forall_not_mem (b := Proc.devRef .tc b) _ _ (List.forall_iff_forall_mem.mp (by
    simp only [hostOps, hostOps0, hostOps0_1, hostOps0_2, List.flatten_cons, List.flatten_nil, List.append_nil, List.cons_append,
      List.nil_append, List.Forall]
    repeat' apply And.intro
    all_goals
      intro hm
      have e := Finset.mem_singleton.mp hm
      exact StableHlo.devRef_ne_of_ne (h _ (by simp)) e))

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S19 .i32 := Memref.whole main_arg0
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1380000 in
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (by decide : main_arg0 ∈ Pipeline.restRefs sig spec0)).trans (V_arg m c main_arg0 (by decide)),
      (Pipeline.RDat.FramePost.arr_in h c 0 rfl).trans ((hA c 0).trans (V_arg m c main_arg1 (by decide))),
      (Pipeline.RDat.FramePost.arr_in h c 1 rfl).trans ((hA c 1).trans (V_arg m c main_arg2 (by decide))),
      (Pipeline.RDat.FramePost.arr_in h c 2 rfl).trans ((hA c 2).trans (V_arg m c main_arg3 (by decide))),
      ((h c).2 main_arg4 (by decide : main_arg4 ∈ Pipeline.restRefs sig spec0)).trans (V_arg m c main_arg4 (by decide)),
      (Pipeline.RDat.FramePost.arr_in h c 4 rfl).trans ((hA c 4).trans (V_arg m c main_arg5 (by decide))),
      (Pipeline.RDat.FramePost.arr_in h c 5 rfl).trans ((hA c 5).trans (V_arg m c main_arg6 (by decide))),
      ((h c).2 main_arg7 (by decide : main_arg7 ∈ Pipeline.restRefs sig spec0)).trans (V_arg m c main_arg7 (by decide)),
      ((h c).2 main_arg8 (by decide : main_arg8 ∈ Pipeline.restRefs sig spec0)).trans (V_arg m c main_arg8 (by decide)),
      ((h c).2 main_arg9 (by decide : main_arg9 ∈ Pipeline.restRefs sig spec0)).trans (V_arg m c main_arg9 (by decide)),
      ((h c).2 main_arg10 (by decide : main_arg10 ∈ Pipeline.restRefs sig spec0)).trans (V_arg m c main_arg10 (by decide)),
      ((h c).2 main_arg11 (by decide : main_arg11 ∈ Pipeline.restRefs sig spec0)).trans (V_arg m c main_arg11 (by decide)),
      (Pipeline.RDat.FramePost.arr_in h c 11 rfl).trans ((hA c 11).trans (V_arg m c main_arg12 (by decide))),
      ((h c).2 main_arg13 (by decide : main_arg13 ∈ Pipeline.restRefs sig spec0)).trans (V_arg m c main_arg13 (by decide))⟩) h

abbrev ms0_0 (hO : Ok m) (t : Fin (cfgM m hO).N) : Memref sig .tc .vmem S1x256x2560 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x5x256x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x10x256x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x18x16x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x6x2560 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S640x2560 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2560 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1728x2560 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1728x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1728x2560 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1728x128 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1728x2560 .fp8e4m3 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x2560 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x256x2560 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x256x640 .bf16 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x5x256x128 .fp8e4m3 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x5x256x128 .fp8e4m3 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x256x640 .fp8e4m3 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x1x256 .f32 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S1x256x2560 .fp8e4m3 := spec0_19.stage ((cfgM m hO).slots t 19)
abbrev hs0_19 (hO : Ok m) (t : Fin (cfgM m hO).N) : (ms0_19 m hO t).IsWhole := hstage0_19 (((cfgM m hO).slots t 19).cast nbuf0_19)
abbrev ms0_20 (hO : Ok m) (t : Fin (cfgM m hO).N) : Memref sig .tc .vmem S1x1x256 .f32 := spec0_20.stage ((cfgM m hO).slots t 20)
abbrev hs0_20 (hO : Ok m) (t : Fin (cfgM m hO).N) : (ms0_20 m hO t).IsWhole := hstage0_20 (((cfgM m hO).slots t 20).cast nbuf0_20)
abbrev ms0_21 (hO : Ok m) (t : Fin (cfgM m hO).N) : Memref sig .tc .vmem S1x1728x256 .fp8e4m3 := spec0_21.stage ((cfgM m hO).slots t 21)
abbrev hs0_21 (hO : Ok m) (t : Fin (cfgM m hO).N) : (ms0_21 m hO t).IsWhole := hstage0_21 (((cfgM m hO).slots t 21).cast nbuf0_21)
abbrev ms0_22 (hO : Ok m) (t : Fin (cfgM m hO).N) : Memref sig .tc .vmem S1x1x256 .f32 := spec0_22.stage ((cfgM m hO).slots t 22)
abbrev hs0_22 (hO : Ok m) (t : Fin (cfgM m hO).N) : (ms0_22 m hO t).IsWhole := hstage0_22 (((cfgM m hO).slots t 22).cast nbuf0_22)

end Cert.Mlp.Gen

end
-- ==== Proof.Mlp.RunA.lean ====
module

public import proofs.«01_k».proof.Proof.Mlp.Runs
public import Idealize.ShloMosaic.Lib.Pipeline.FrameBody
public import Idealize.ShloMosaic.Lib.Ring
public import Idealize.ShloMosaic.Lib.Tactic
public import Idealize.ShloMosaic.Lib.WordCmp

@[expose] public section

/-! One grid point of the video MLP call, run on whole memrefs holding any contents. -/

set_option maxRecDepth 16384

noncomputable section

namespace Cert.Mlp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem kernelRun0_A (c : Dev nD) (i : grid0.Coords) (arg3 : Memref sig .tc .vmem S1x256x2560 .bf16) (harg3 : arg3.IsWhole) (arg4 : Memref sig .tc .vmem S1x5x256x128 .f32) (harg4 : arg4.IsWhole) (arg5 : Memref sig .tc .vmem S1x10x256x128 .f32) (harg5 : arg5.IsWhole) (arg6 : Memref sig .tc .vmem S1x18x16x128 .f32) (harg6 : arg6.IsWhole) (arg7 : Memref sig .tc .vmem S1x6x2560 .f32) (harg7 : arg7.IsWhole) (arg8 : Memref sig .tc .vmem S640x2560 .fp8e4m3) (harg8 : arg8.IsWhole) (arg9 : Memref sig .tc .vmem S1x2560 .f32) (harg9 : arg9.IsWhole) (arg10 : Memref sig .tc .vmem S1728x2560 .fp8e4m3) (harg10 : arg10.IsWhole) (arg11 : Memref sig .tc .vmem S1728x128 .f32) (harg11 : arg11.IsWhole) (arg12 : Memref sig .tc .vmem S1728x2560 .fp8e4m3) (harg12 : arg12.IsWhole) (arg13 : Memref sig .tc .vmem S1728x128 .f32) (harg13 : arg13.IsWhole) (arg14 : Memref sig .tc .vmem S1728x2560 .fp8e4m3) (harg14 : arg14.IsWhole) (arg15 : Memref sig .tc .vmem S1x2560 .f32) (harg15 : arg15.IsWhole) (arg16 : Memref sig .tc .vmem S1x256x2560 .bf16) (harg16 : arg16.IsWhole) (arg17 : Memref sig .tc .vmem S1x256x640 .bf16) (harg17 : arg17.IsWhole) (arg18 : Memref sig .tc .vmem S1x5x256x128 .fp8e4m3) (harg18 : arg18.IsWhole) (arg19 : Memref sig .tc .vmem S1x5x256x128 .fp8e4m3) (harg19 : arg19.IsWhole) (arg20 : Memref sig .tc .vmem S1x256x640 .fp8e4m3) (harg20 : arg20.IsWhole) (arg21 : Memref sig .tc .vmem S1x1x256 .f32) (harg21 : arg21.IsWhole) (arg22 : Memref sig .tc .vmem S1x256x2560 .fp8e4m3) (harg22 : arg22.IsWhole) (arg23 : Memref sig .tc .vmem S1x1x256 .f32) (harg23 : arg23.IsWhole) (arg24 : Memref sig .tc .vmem S1x1728x256 .fp8e4m3) (harg24 : arg24.IsWhole) (arg25 : Memref sig .tc .vmem S1x1x256 .f32) (harg25 : arg25.IsWhole)
    (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ tbPt0 c tbM0_0 xt0) -∗ K ⟨⟩))
          ⊢ wp frame (wpE (defs₀ (F := F)) Variants.none c none) E (cc0_vid_mlp i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    simp only [cc0_vid_mlp_eq_skeleton]; unfold cc0_vid_mlp_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexact HT0

end Cert.Mlp.Gen

end
-- ==== Proof.Mlp.Frame.lean ====
module

public import proofs.«01_k».proof.Proof.Mlp.RunA
public import Idealize.ShloMosaic.Lib.Pipeline.Frame
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

/-! The frame of the video MLP call. Windows 0, 1 and 13 to 22 have a last block that runs past the array's end: their
    obligations are stated on the rows inside the array. -/

set_option maxRecDepth 16384

noncomputable section

namespace Cert.Mlp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- One grid point, from any contents of the inputs' buffers: the inputs keep them, nothing is said of the outputs. -/
theorem body_any (hO : Ok m) (c : Dev nD) (t : Fin (cfgM m hO).N) (x0 : Vec F S1x256x2560 .bf16) (x1 : Vec F S1x5x256x128 .f32) (x2 : Vec F S1x10x256x128 .f32) (x3 : Vec F S1x18x16x128 .f32) (x4 : Vec F S1x6x2560 .f32) (x5 : Vec F S640x2560 .fp8e4m3) (x6 : Vec F S1x2560 .f32) (x7 : Vec F S1728x2560 .fp8e4m3) (x8 : Vec F S1728x128 .f32) (x9 : Vec F S1728x2560 .fp8e4m3) (x10 : Vec F S1728x128 .f32) (x11 : Vec F S1728x2560 .fp8e4m3) (x12 : Vec F S1x2560 .f32) (K : PUnit → sProp 𝕄) :
    iprop(owns (c : Thread nD τ) (ms0_0 m hO t) fullShare x0 ∗ owns (c : Thread nD τ) (ms0_1 m hO t) fullShare x1 ∗ owns (c : Thread nD τ) (ms0_2 m hO t) fullShare x2 ∗ owns (c : Thread nD τ) (ms0_3 m hO t) fullShare x3 ∗ owns (c : Thread nD τ) (ms0_4 m hO t) fullShare x4 ∗ owns (c : Thread nD τ) (ms0_5 m hO t) fullShare x5 ∗ owns (c : Thread nD τ) (ms0_6 m hO t) fullShare x6 ∗ owns (c : Thread nD τ) (ms0_7 m hO t) fullShare x7 ∗ owns (c : Thread nD τ) (ms0_8 m hO t) fullShare x8 ∗ owns (c : Thread nD τ) (ms0_9 m hO t) fullShare x9 ∗ owns (c : Thread nD τ) (ms0_10 m hO t) fullShare x10 ∗ owns (c : Thread nD τ) (ms0_11 m hO t) fullShare x11 ∗ owns (c : Thread nD τ) (ms0_12 m hO t) fullShare x12 ∗ (∃ d, owns (c : Thread nD τ) (ms0_13 m hO t) fullShare d) ∗ (∃ d, owns (c : Thread nD τ) (ms0_14 m hO t) fullShare d) ∗ (∃ d, owns (c : Thread nD τ) (ms0_15 m hO t) fullShare d) ∗ (∃ d, owns (c : Thread nD τ) (ms0_16 m hO t) fullShare d) ∗ (∃ d, owns (c : Thread nD τ) (ms0_17 m hO t) fullShare d) ∗ (∃ d, owns (c : Thread nD τ) (ms0_18 m hO t) fullShare d) ∗ (∃ d, owns (c : Thread nD τ) (ms0_19 m hO t) fullShare d) ∗ (∃ d, owns (c : Thread nD τ) (ms0_20 m hO t) fullShare d) ∗ (∃ d, owns (c : Thread nD τ) (ms0_21 m hO t) fullShare d) ∗ (∃ d, owns (c : Thread nD τ) (ms0_22 m hO t) fullShare d) ∗ tbPt0 c tbM0_0 (tbl m 0)
        ∗ (iprop(owns (c : Thread nD τ) (ms0_0 m hO t) fullShare x0 ∗ owns (c : Thread nD τ) (ms0_1 m hO t) fullShare x1 ∗ owns (c : Thread nD τ) (ms0_2 m hO t) fullShare x2 ∗ owns (c : Thread nD τ) (ms0_3 m hO t) fullShare x3 ∗ owns (c : Thread nD τ) (ms0_4 m hO t) fullShare x4 ∗ owns (c : Thread nD τ) (ms0_5 m hO t) fullShare x5 ∗ owns (c : Thread nD τ) (ms0_6 m hO t) fullShare x6 ∗ owns (c : Thread nD τ) (ms0_7 m hO t) fullShare x7 ∗ owns (c : Thread nD τ) (ms0_8 m hO t) fullShare x8 ∗ owns (c : Thread nD τ) (ms0_9 m hO t) fullShare x9 ∗ owns (c : Thread nD τ) (ms0_10 m hO t) fullShare x10 ∗ owns (c : Thread nD τ) (ms0_11 m hO t) fullShare x11 ∗ owns (c : Thread nD τ) (ms0_12 m hO t) fullShare x12 ∗ (∃ d, owns (c : Thread nD τ) (ms0_13 m hO t) fullShare d) ∗ (∃ d, owns (c : Thread nD τ) (ms0_14 m hO t) fullShare d) ∗ (∃ d, owns (c : Thread nD τ) (ms0_15 m hO t) fullShare d) ∗ (∃ d, owns (c : Thread nD τ) (ms0_16 m hO t) fullShare d) ∗ (∃ d, owns (c : Thread nD τ) (ms0_17 m hO t) fullShare d) ∗ (∃ d, owns (c : Thread nD τ) (ms0_18 m hO t) fullShare d) ∗ (∃ d, owns (c : Thread nD τ) (ms0_19 m hO t) fullShare d) ∗ (∃ d, owns (c : Thread nD τ) (ms0_20 m hO t) fullShare d) ∗ (∃ d, owns (c : Thread nD τ) (ms0_21 m hO t) fullShare d) ∗ (∃ d, owns (c : Thread nD τ) (ms0_22 m hO t) fullShare d) ∗ tbPt0 c tbM0_0 (tbl m 0)) -∗ K ⟨⟩))
      ⊢ wp frame (wpE (defs₀ (F := F)) Variants.none c none) Set.univ (bodyAt0 (adm m hO) t) K := by
  unfold bodyAt0
  iintro ⟨H0, H1, H2, H3, H4, H5, H6, H7, H8, H9, H10, H11, H12, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, HT0, Hk⟩
  iapply ((kernelRun0_A c (grid0.coords t) _ _ _ _ _ _ _ _ _ _ _ _ _ _ _ _ _ _ _ _ _ _ _ _ _ _ _ _ _ _ _ _ _ _ _ _ _ _ _ _ _ _ _ _ _ _ x0 x1 x2 x3 x4 x5 x6 x7 x8 x9 x10 x11 x12 (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HT0]; · iexact HT0
  iexact Hk

/-- The output windows, of which this frame says nothing. -/
def forgets0 : Fin 23 → Bool := fun w => decide (13 ≤ w.val)

/-- The proof data of the pipeline on core `c`: the arrays as the call finds them; each input's buffer at its block (for
    the two inputs whose last block runs past the array's end, on the rows inside the array); the outputs at anything. -/
def dats (hO : Ok m) (_ : Fin 1) (c : Dev nD) : Dat τ (Elt F) Unit ℕ (UR sig nD τ) ℕ (cfgM m hO) c where
  A w := V m c (Pipeline.arrRef spec0 w)
  after w t := match w with
    | ⟨0, h⟩ => ((cfgM m hO).win 0).fill (grid0.coords t) (Pipeline.Dat.unnamed (cfg := (cfgM m hO)) ⟨0, h⟩ t) (iblk m hO c 0 t)
    | ⟨1, h⟩ => ((cfgM m hO).win 1).fill (grid0.coords t) (Pipeline.Dat.unnamed (cfg := (cfgM m hO)) ⟨1, h⟩ t) (iblk m hO c 1 t)
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, h⟩ => Pipeline.Dat.unnamed (cfg := (cfgM m hO)) ⟨13, h⟩ t
    | ⟨14, h⟩ => Pipeline.Dat.unnamed (cfg := (cfgM m hO)) ⟨14, h⟩ t
    | ⟨15, h⟩ => Pipeline.Dat.unnamed (cfg := (cfgM m hO)) ⟨15, h⟩ t
    | ⟨16, h⟩ => Pipeline.Dat.unnamed (cfg := (cfgM m hO)) ⟨16, h⟩ t
    | ⟨17, h⟩ => Pipeline.Dat.unnamed (cfg := (cfgM m hO)) ⟨17, h⟩ t
    | ⟨18, h⟩ => Pipeline.Dat.unnamed (cfg := (cfgM m hO)) ⟨18, h⟩ t
    | ⟨19, h⟩ => Pipeline.Dat.unnamed (cfg := (cfgM m hO)) ⟨19, h⟩ t
    | ⟨20, h⟩ => Pipeline.Dat.unnamed (cfg := (cfgM m hO)) ⟨20, h⟩ t
    | ⟨21, h⟩ => Pipeline.Dat.unnamed (cfg := (cfgM m hO)) ⟨21, h⟩ t
    | ⟨22, h⟩ => Pipeline.Dat.unnamed (cfg := (cfgM m hO)) ⟨22, h⟩ t
    | ⟨_ + 23, h⟩ => absurd h (Nat.not_lt.2 (Nat.le_add_left _ _))
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem cut0_0 (hO : Ok m) (c : Dev nD) (t : Fin (cfgM m hO).N) :
    ((cfgM m hO).win 0).cut (grid0.coords t) ((dats m hO 0 c).after 0 t) = iblk m hO c 0 t := Pipeline.Window.cut_fill _ _ _ _
theorem before0_0 (hO : Ok m) (c : Dev nD) (t : Fin (cfgM m hO).N) (d) :
    (dats m hO 0 c).before 0 t d = ((cfgM m hO).win 0).fill (grid0.coords t) d (iblk m hO c 0 t) := by
  unfold Dat.before; rw [if_pos (fetch0_0 _ t)]; rfl
theorem cut0_1 (hO : Ok m) (c : Dev nD) (t : Fin (cfgM m hO).N) :
    ((cfgM m hO).win 1).cut (grid0.coords t) ((dats m hO 0 c).after 1 t) = iblk m hO c 1 t := Pipeline.Window.cut_fill _ _ _ _
theorem before0_1 (hO : Ok m) (c : Dev nD) (t : Fin (cfgM m hO).N) (d) :
    (dats m hO 0 c).before 1 t d = ((cfgM m hO).win 1).fill (grid0.coords t) d (iblk m hO c 1 t) := by
  unfold Dat.before; rw [if_pos (fetch0_1 _ t)]; rfl
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem after0_6 (hO : Ok m) (c : Dev nD) (t : Fin (cfgM m hO).N) : (dats m hO 0 c).after 6 t = iblk m hO c 6 t := by dsimp only [dats]; try rfl
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem after0_7 (hO : Ok m) (c : Dev nD) (t : Fin (cfgM m hO).N) : (dats m hO 0 c).after 7 t = iblk m hO c 7 t := by dsimp only [dats]; try rfl
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem after0_8 (hO : Ok m) (c : Dev nD) (t : Fin (cfgM m hO).N) : (dats m hO 0 c).after 8 t = iblk m hO c 8 t := by dsimp only [dats]; try rfl
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem after0_9 (hO : Ok m) (c : Dev nD) (t : Fin (cfgM m hO).N) : (dats m hO 0 c).after 9 t = iblk m hO c 9 t := by dsimp only [dats]; try rfl
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem after0_10 (hO : Ok m) (c : Dev nD) (t : Fin (cfgM m hO).N) : (dats m hO 0 c).after 10 t = iblk m hO c 10 t := by dsimp only [dats]; try rfl
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem after0_11 (hO : Ok m) (c : Dev nD) (t : Fin (cfgM m hO).N) : (dats m hO 0 c).after 11 t = iblk m hO c 11 t := by dsimp only [dats]; try rfl
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem after0_12 (hO : Ok m) (c : Dev nD) (t : Fin (cfgM m hO).N) : (dats m hO 0 c).after 12 t = iblk m hO c 12 t := by dsimp only [dats]; try rfl
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d)
    ∗ (∃ d, owns (c : Thread nD τ) (ms0_18 m hO t) fullShare d)
    ∗ (∃ d, owns (c : Thread nD τ) (ms0_19 m hO t) fullShare d)
    ∗ (∃ d, owns (c : Thread nD τ) (ms0_20 m hO t) fullShare d)
    ∗ (∃ d, owns (c : Thread nD τ) (ms0_21 m hO t) fullShare d)
    ∗ (∃ d, owns (c : Thread nD τ) (ms0_22 m hO t) fullShare d))

def bodyPost (hO : Ok m) (c : Dev nD) (t : Fin (cfgM m hO).N) (X0 : (((cfgM m hO).win 0).xblock ((cfgM m hO).grid.coords t)).Idx → Elt F ((cfgM m hO).win 0).elt) (X1 : (((cfgM m hO).win 1).xblock ((cfgM m hO).grid.coords t)).Idx → Elt F ((cfgM m hO).win 1).elt) : sProp 𝕄 :=
  iprop((dats m hO 0 c).Φ t.succ ∗ (dats m hO 0 c).owesAt () t.succ
    ∗ (∃ d, owns (c : Thread nD τ) (ms0_0 m hO t) fullShare (((cfgM m hO).win 0).fill (grid0.coords t) d X0))
    ∗ (∃ d, owns (c : Thread nD τ) (ms0_1 m hO t) fullShare (((cfgM m hO).win 1).fill (grid0.coords t) d X1))
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d)
    ∗ (∃ d, owns (c : Thread nD τ) (ms0_18 m hO t) fullShare d)
    ∗ (∃ d, owns (c : Thread nD τ) (ms0_19 m hO t) fullShare d)
    ∗ (∃ d, owns (c : Thread nD τ) (ms0_20 m hO t) fullShare d)
    ∗ (∃ d, owns (c : Thread nD τ) (ms0_21 m hO t) fullShare d)
    ∗ (∃ d, owns (c : Thread nD τ) (ms0_22 m hO t) fullShare d))

set_option maxHeartbeats 2000000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t (iblk m hO c 0 t) (iblk m hO c 1 t)) := by
  unfold bodyPre bodyPost
  simp only [before0_0, before0_1, before0_2, before0_3, before0_4, before0_5, before0_6, before0_7, before0_8, before0_9, before0_10, before0_11, before0_12]
  rw [show (dats m hO 0 c).Φ t.succ = (dats m hO 0 c).Φ t.castSucc from rfl,
    show (dats m hO 0 c).owesAt () t.succ = (dats m hO 0 c).owesAt () t.castSucc from rfl,
    after0_2, after0_3, after0_4, after0_5, after0_6, after0_7, after0_8, after0_9, after0_10, after0_11, after0_12]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17, H18, H19, H20, H21, H22⟩
  iapply (body_any m hO c t (((cfgM m hO).win 0).fill (grid0.coords t) d0 (iblk m hO c 0 t)) (((cfgM m hO).win 1).fill (grid0.coords t) d1 (iblk m hO c 1 t)) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HT0]; · iexact HT0
  iintro ⟨H0, H1, H2, H3, H4, H5, H6, H7, H8, H9, H10, H11, H12, H13, H14, H15, H16, H17, H18, H19, H20, H21, H22, HT0⟩
  isplitl [HΦ HT0]
  · isplitl [HΦ]
    · iexact HΦ
    iexact HT0
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligationLoose (dats (F := F) m hO 0 c) (defs₀ (F := F)) Variants.none () Set.univ forgets0 := fun t => by
  rw [bigSep_W0, bigSep_W0, defs₀_row m hO]
  have h := sound_body m hO c t
  rw [← cut0_0 m hO c t, ← cut0_1 m hO c t] at h
  exact triple_restated h rfl .rfl fun _ => .rfl

set_option backward.isDefEq.respectTransparency.types false in
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => body_obligation m hO c) (hshare := fun c => (dats m hO 0 c).share_full fun _ => rfl)
    (howed := fun _ _ => rfl) (V := V m) (hmain := hmain m Variants.none) (hA := A_eq m hO) (hpf := V_pre m) (hΦ := fun _ _ => rfl)

theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ hO (fun c => (dats m hO 0 c).toRForget forgets0) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ hO) ((θ_run defs _ _).mono (fun _ h => h.2) (run_main_quiescent m ρ hO))

end Cert.Mlp.Gen

end
-- ==== Proof.lean ====
module

public import proofs.«01_k».proof.Defs
public import proofs.«01_k».proof.Proof.Gen.TMlp
public import proofs.«01_k».proof.Proof.Gen.TMlp.Skeleton
public import proofs.«01_k».proof.Proof.Gen.TMlp.Launch
public import proofs.«01_k».proof.Proof.Gen.TMlp.Points
public import proofs.«01_k».proof.Proof.Gen.TMlp.Frame
public import proofs.«01_k».proof.Proof.Gen.TMlpIdeal
public import proofs.«01_k».proof.Proof.Gen.TMlpIdeal.Skeleton
public import proofs.«01_k».proof.Proof.Gen.TMlpIdeal.Launch
public import proofs.«01_k».proof.Proof.Gen.TMlpIdeal.Points
public import proofs.«01_k».proof.Proof.Gen.TMlpIdeal.Frame
public import proofs.«01_k».proof.Proof.Gen.TRefIdeal
public import proofs.«01_k».proof.Proof.Gen.TRefIdeal.Skeleton
public import proofs.«01_k».proof.Proof.Gen.TRefIdeal.Launch
public import proofs.«01_k».proof.Proof.Gen.TRefIdeal.Points
public import proofs.«01_k».proof.Proof.Gen.TRefIdeal.Frame
public import proofs.«01_k».proof.Proof.Gen.Mlp
public import proofs.«01_k».proof.Proof.Gen.Mlp.Skeleton
public import proofs.«01_k».proof.Proof.Gen.Mlp.Launch
public import proofs.«01_k».proof.Proof.Gen.Mlp.Flash
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Flash
public import proofs.«01_k».proof.Proof.Gen.MRefIdeal
public import proofs.«01_k».proof.Proof.Gen.MRefIdeal.Skeleton
public import proofs.«01_k».proof.Proof.Gen.MRefIdeal.Launch
public import proofs.«01_k».proof.Proof.Gen.MRefIdeal.Points
public import proofs.«01_k».proof.Proof.Gen.MRefIdeal.Frame
public import proofs.«01_k».proof.Proof.TextAlgebra
public import proofs.«01_k».proof.Proof.VidAlgebra
public import proofs.«01_k».proof.Proof.Mlp.Frame
public import proofs.«01_k».proof.Proof.MlpIdeal.Frame
public import Idealize.ShloMosaic.Adequacy
public import Idealize.ShloMosaic.Init

@[expose] public section

noncomputable section

namespace Cert.Proof

open Idealize.ShloMosaic Idealize.SL.Sem Cert.TMlp

theorem claim : Cert.Claim := ⟨Cert.TMlp.Gen.facts, Cert.TMlpIdeal.Gen.facts, Cert.TRefIdeal.Gen.facts, Cert.Mlp.Gen.facts, Cert.MlpIdeal.Gen.facts, Cert.MRefIdeal.Gen.facts,
  fun m ρ _ => Cert.TMlp.Gen.frame m ρ,
  fun m ρ _ => Cert.TMlpIdeal.Gen.frame m ρ,
  fun m ρ _ => Cert.TRefIdeal.Gen.frame m ρ,
  fun m ρ _ => Cert.Mlp.Gen.frame m ρ trivial,
  fun m ρ _ => Cert.MlpIdeal.Gen.frame m ρ trivial,
  fun m ρ _ => Cert.MRefIdeal.Gen.frame m ρ,
  trivial,
  Cert.TextAlgebra.algebraic,
  trivial,
  Cert.VidAlgebra.algebraic⟩

end Cert.Proof

end
